-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17_0) = v0 c
          ∧ r.2.mem ((c.tc : Thread Cert.ReferenceIdeal.nD Cert.ReferenceIdeal.τ).loc Cert.ReferenceIdeal.main_v17_1) = v1 c
          ∧ r.2.mem ((c.tc : Thread Cert.ReferenceIdeal.nD Cert.ReferenceIdeal.τ).loc Cert.ReferenceIdeal.main_v17_2) = v2 c
          ∧ r.2.mem ((c.tc : Thread Cert.ReferenceIdeal.nD Cert.ReferenceIdeal.τ).loc Cert.ReferenceIdeal.main_v17_3) = v3 c
          ∧ r.2.mem ((c.tc : Thread Cert.ReferenceIdeal.nD Cert.ReferenceIdeal.τ).loc Cert.ReferenceIdeal.main_v17_4) = v4 c
          ∧ r.2.mem ((c.tc : Thread Cert.ReferenceIdeal.nD Cert.ReferenceIdeal.τ).loc Cert.ReferenceIdeal.main_v17_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x8192 : Shape := ⟨3, ![1, 2048, 8192]⟩
abbrev S1x2048 : Shape := ⟨2, ![1, 2048]⟩
abbrev S1x2048x1024 : Shape := ⟨3, ![1, 2048, 1024]⟩
abbrev S8192 : Shape := ⟨1, ![8192]⟩
abbrev S2048x8192 : Shape := ⟨2, ![2048, 8192]⟩
abbrev S2048x1024 : Shape := ⟨2, ![2048, 1024]⟩
abbrev S16x128 : Shape := ⟨2, ![16, 128]⟩
abbrev S1x8192 : Shape := ⟨2, ![1, 8192]⟩
abbrev S128x8192 : Shape := ⟨2, ![128, 8192]⟩
abbrev S128x1024 : Shape := ⟨2, ![128, 1024]⟩
abbrev S32x8192 : Shape := ⟨2, ![32, 8192]⟩
abbrev S128x128 : Shape := ⟨2, ![128, 128]⟩
abbrev S8x8192 : Shape := ⟨2, ![8, 8192]⟩
abbrev S1x128 : Shape := ⟨2, ![1, 128]⟩
abbrev S8x128 : Shape := ⟨2, ![8, 128]⟩
abbrev S32x128 : Shape := ⟨2, ![32, 128]⟩
abbrev S32 : Shape := ⟨1, ![32]⟩
abbrev S32x1 : Shape := ⟨2, ![32, 1]⟩
abbrev S8x128x1 : Shape := ⟨3, ![8, 128, 1]⟩

abbrev nBuf : Space → Nat
  | .hbm => 22
  | .vmem => 27
  | .smem => 0
  | _ => 0

abbrev bufTy : (tb : Table) → Fin (tcTables nBuf tb) → BufTy
  | .hbm, ⟨0, _⟩ => ⟨S1x2048x8192, .fp8e5m2⟩
  | .hbm, ⟨1, _⟩ => ⟨S1x2048, .f32⟩
  | .hbm, ⟨2, _⟩ => ⟨S1x2048x8192, .bf16⟩
  | .hbm, ⟨3, _⟩ => ⟨S1x2048x1024, .i8⟩
  | .hbm, ⟨4, _⟩ => ⟨S1x2048x8192, .bf16⟩
  | .hbm, ⟨5, _⟩ => ⟨S1x2048, .f32⟩
  | .hbm, ⟨6, _⟩ => ⟨S1x2048, .f32⟩
  | .hbm, ⟨7, _⟩ => ⟨S8192, .f32⟩
  | .hbm, ⟨8, _⟩ => ⟨S2048x8192, .fp8e5m2⟩
  | .hbm, ⟨9, _⟩ => ⟨S2048x8192, .bf16⟩
  | .hbm, ⟨10, _⟩ => ⟨S2048x1024, .i8⟩
  | .hbm, ⟨11, _⟩ => ⟨S2048x8192, .bf16⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S1x8192, .f32⟩
  | .hbm, ⟨16, _⟩ => ⟨S2048x8192, .bf16⟩
  | .hbm, ⟨17, _⟩ => ⟨S2048x8192, .fp8e5m2⟩
  | .hbm, ⟨18, _⟩ => ⟨S16x128, .f32⟩
  | .hbm, ⟨19, _⟩ => ⟨S1x8192, .f32⟩
  | .hbm, ⟨20, _⟩ => ⟨S1x8192, .f32⟩
  | .hbm, ⟨21, _⟩ => ⟨S1x8192, .f32⟩
  | .local _ .vmem, ⟨0, _⟩ => ⟨S128x8192, .fp8e5m2⟩
  | .local _ .vmem, ⟨1, _⟩ => ⟨S128x8192, .fp8e5m2⟩
  | .local _ .vmem, ⟨2, _⟩ => ⟨S128x8192, .bf16⟩
  | .local _ .vmem, ⟨3, _⟩ => ⟨S128x8192, .bf16⟩
  | .local _ .vmem, ⟨4, _⟩ => ⟨S128x1024, .i8⟩
  | .local _ .vmem, ⟨5, _⟩ => ⟨S128x1024, .i8⟩
  | .local _ .vmem, ⟨6, _⟩ => ⟨S128x8192, .bf16⟩
  | .local _ .vmem, ⟨7, _⟩ => ⟨S128x8192, .bf16⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S1x8192, .f32⟩
  | .local _ .vmem, ⟨12, _⟩ => ⟨S128x8192, .bf16⟩
  | .local _ .vmem, ⟨13, _⟩ => ⟨S128x8192, .bf16⟩
  | .local _ .vmem, ⟨14, _⟩ => ⟨S128x8192, .fp8e5m2⟩
  | .local _ .vmem, ⟨15, _⟩ => ⟨S128x8192, .fp8e5m2⟩
  | .local _ .vmem, ⟨16, _⟩ => ⟨S16x128, .f32⟩
  | .local _ .vmem, ⟨17, _⟩ => ⟨S1x8192, .f32⟩
  | .local _ .vmem, ⟨18, _⟩ => ⟨S1x8192, .f32⟩
  | .local _ .vmem, ⟨19, _⟩ => ⟨S1x8192, .f32⟩
  | .local _ .vmem, ⟨20, _⟩ => ⟨S32x8192, .f32⟩
  | .local _ .vmem, ⟨21, _⟩ => ⟨S32x8192, .f32⟩
  | .local _ .vmem, ⟨22, _⟩ => ⟨S32x8192, .f32⟩
  | .local _ .vmem, ⟨23, _⟩ => ⟨S128x128, .f32⟩
  | .local _ .vmem, ⟨24, _⟩ => ⟨S8x8192, .f32⟩
  | .local _ .vmem, ⟨25, _⟩ => ⟨S8x8192, .f32⟩
  | .local _ .vmem, ⟨26, _⟩ => ⟨S8x8192, .f32⟩
  | _, _ => ⟨S1x2048x8192, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v3 : Index := Scalar.indexCast arg0
  let c0 : Index := 0#32
  ![v3.toNat, 0]
@[reducible] def k0_t1_loop : Scf.Loop 32 :=
  let c0_i32_3 : BitVec 32 := 0#32
  let c64_i32 : BitVec 32 := 64#32
  let v31 : BitVec 32 := Scalar.addi c0_i32_3 c64_i32
  let c1_i32_4 : BitVec 32 := 1#32
  ⟨c0_i32_3, v31, c1_i32_4⟩
def k0_mult1 (k0_t1 : Fin k0_t1_loop.trips) : BitVec 32 :=
  let c0_i32_3 : BitVec 32 := 0#32
  let c1_i32_4 : BitVec 32 := 1#32
  let arg22 : BitVec 32 := Scf.iv c0_i32_3 c1_i32_4 k0_t1
  let c128_i32 : BitVec 32 := 128#32
  let v227 : BitVec 32 := Scalar.muli arg22 c128_i32
  v227
def k0_off2 (k0_t1 : Fin k0_t1_loop.trips) : Fin 2 → Nat :=
  let c0_130 : Index := 0#32
  let c0_i32_3 : BitVec 32 := 0#32
  let c1_i32_4 : BitVec 32 := 1#32
  let arg22 : BitVec 32 := Scf.iv c0_i32_3 c1_i32_4 k0_t1
  let c128_i32 : BitVec 32 := 128#32
  let v227 : BitVec 32 := Scalar.muli arg22 c128_i32
  let v228 : BitVec 32 := v227
  let v229 : Index := Scalar.indexCast v228
  ![0, v229.toNat]
def k0_off3 (k0_t1 : Fin k0_t1_loop.trips) : Fin 2 → Nat :=
  let c0_132 : Index := 0#32
  let c0_i32_3 : BitVec 32 := 0#32
  let c1_i32_4 : BitVec 32 := 1#32
  let arg22 : BitVec 32 := Scf.iv c0_i32_3 c1_i32_4 k0_t1
  let c128_i32 : BitVec 32 := 128#32
  let v227 : BitVec 32 := Scalar.muli arg22 c128_i32
  let v228 : BitVec 32 := v227
  let v240 : Index := Scalar.indexCast v228
  ![0, v240.toNat]
def k0_off4 (k0_t1 : Fin k0_t1_loop.trips) : Fin 2 → Nat :=
  let c0_133 : Index := 0#32
  let c0_i32_3 : BitVec 32 := 0#32
  let c1_i32_4 : BitVec 32 := 1#32
  let arg22 : BitVec 32 := Scf.iv c0_i32_3 c1_i32_4 k0_t1
  let c128_i32 : BitVec 32 := 128#32
  let v227 : BitVec 32 := Scalar.muli arg22 c128_i32
  let v228 : BitVec 32 := v227
  let v250 : Index := Scalar.indexCast v228
  ![0, v250.toNat]
def k0_off5 (k0_t1 : Fin k0_t1_loop.trips) : Fin 2 → Nat :=
  let c0_137 : Index := 0#32
  let c0_i32_3 : BitVec 32 := 0#32
  let c1_i32_4 : BitVec 32 := 1#32
  let arg22 : BitVec 32 := Scf.iv c0_i32_3 c1_i32_4 k0_t1
  let c128_i32 : BitVec 32 := 128#32
  let v227 : BitVec 32 := Scalar.muli arg22 c128_i32
  let v228 : BitVec 32 := v227
  let v278 : Index := Scalar.indexCast v228
  ![0, v278.toNat]
@[reducible] def k0_t2_loop : Scf.Loop 32 :=
  let c0_i32_11 : BitVec 32 := 0#32
  let c64_i32_12 : BitVec 32 := 64#32
  let v46 : BitVec 32 := Scalar.addi c0_i32_11 c64_i32_12
  let c1_i32_13 : BitVec 32 := 1#32
  ⟨c0_i32_11, v46, c1_i32_13⟩
def k0_mult2 (k0_t2 : Fin k0_t2_loop.trips) : BitVec 32 :=
  let c0_i32_11 : BitVec 32 := 0#32
  let c1_i32_13 : BitVec 32 := 1#32
  let arg22 : BitVec 32 := Scf.iv c0_i32_11 c1_i32_13 k0_t2
  let c128_i32 : BitVec 32 := 128#32
  let v227 : BitVec 32 := Scalar.muli arg22 c128_i32
  v227
def k0_off6 (k0_t2 : Fin k0_t2_loop.trips) : Fin 2 → Nat :=
  let c0_130 : Index := 0#32
  let c0_i32_11 : BitVec 32 := 0#32
  let c1_i32_13 : BitVec 32 := 1#32
  let arg22 : BitVec 32 := Scf.iv c0_i32_11 c1_i32_13 k0_t2
  let c128_i32 : BitVec 32 := 128#32
  let v227 : BitVec 32 := Scalar.muli arg22 c128_i32
  let v228 : BitVec 32 := v227
  let v229 : Index := Scalar.indexCast v228
  ![0, v229.toNat]
def k0_off7 (k0_t2 : Fin k0_t2_loop.trips) : Fin 2 → Nat :=
  let c0_131 : Index := 0#32
  let c0_i32_11 : BitVec 32 := 0#32
  let c1_i32_13 : BitVec 32 := 1#32
  let arg22 : BitVec 32 := Scf.iv c0_i32_11 c1_i32_13 k0_t2
  let c128_i32 : BitVec 32 := 128#32
  let v227 : BitVec 32 := Scalar.muli arg22 c128_i32
  let v228 : BitVec 32 := v227
  let v232 : Index := Scalar.indexCast v228
  ![0, v232.toNat]
def k0_off8 (k0_t2 : Fin k0_t2_loop.trips) : Fin 2 → Nat :=
  let c0_133 : Index := 0#32
  let c0_i32_11 : BitVec 32 := 0#32
  let c1_i32_13 : BitVec 32 := 1#32
  let arg22 : BitVec 32 := Scf.iv c0_i32_11 c1_i32_13 k0_t2
  let c128_i32 : BitVec 32 := 128#32
  let v227 : BitVec 32 := Scalar.muli arg22 c128_i32
  let v228 : BitVec 32 := v227
  let v242 : Index := Scalar.indexCast v228
  ![0, v242.toNat]
def k0_mult3 (k0_t2 : Fin k0_t2_loop.trips) : BitVec 32 :=
  let c0_i32_11 : BitVec 32 := 0#32
  let c1_i32_13 : BitVec 32 := 1#32
  let arg22 : BitVec 32 := Scf.iv c0_i32_11 c1_i32_13 k0_t2
  let c0_i32_135 : BitVec 32 := 0#32
  let v251 : BitVec 1 := Scalar.cmpi .sgt arg22 c0_i32_135
  let v252 : BitVec 32 := Scalar.extui v251
  let c0_i32_136 : BitVec 32 := 0#32
  let v253 : BitVec 1 := Scalar.cmpi .slt arg22 c0_i32_136
  let v254 : BitVec 32 := Scalar.extui v253
  let v255 : BitVec 32 := Scalar.subi v252 v254
  let c8_i32 : BitVec 32 := 8#32
  let c0_i32_137 : BitVec 32 := 0#32
  let v256 : BitVec 1 := Scalar.cmpi .sgt c8_i32 c0_i32_137
  let v257 : BitVec 32 := Scalar.extui v256
  let c0_i32_138 : BitVec 32 := 0#32
  let v258 : BitVec 1 := Scalar.cmpi .slt c8_i32 c0_i32_138
  let v259 : BitVec 32 := Scalar.extui v258
  let v260 : BitVec 32 := Scalar.subi v257 v259
  let v261 : BitVec 1 := Scalar.cmpi .ne v255 v260
  let v262 : BitVec 32 := Scalar.remsi arg22 c8_i32
  let c0_i32_139 : BitVec 32 := 0#32
  let v263 : BitVec 1 := Scalar.cmpi .ne v262 c0_i32_139
  let v264 : BitVec 1 := Scalar.andi v261 v263
  let v250 : BitVec 32 := Scalar.divsi arg22 c8_i32
  let c1_i32_140 : BitVec 32 := 1#32
  let v265 : BitVec 32 := Scalar.subi v250 c1_i32_140
  let v266 : BitVec 32 := Scalar.select v264 v265 v250
  let c128_i32_141 : BitVec 32 := 128#32
  let v267 : BitVec 32 := Scalar.muli v266 c128_i32_141
  v267
def k0_off9 (k0_t2 : Fin k0_t2_loop.trips) : Fin 2 → Nat :=
  let c0_142 : Index := 0#32
  let c0_i32_11 : BitVec 32 := 0#32
  let c1_i32_13 : BitVec 32 := 1#32
  let arg22 : BitVec 32 := Scf.iv c0_i32_11 c1_i32_13 k0_t2
  let c0_i32_135 : BitVec 32 := 0#32
  let v251 : BitVec 1 := Scalar.cmpi .sgt arg22 c0_i32_135
  let v252 : BitVec 32 := Scalar.extui v251
  let c0_i32_136 : BitVec 32 := 0#32
  let v253 : BitVec 1 := Scalar.cmpi .slt arg22 c0_i32_136
  let v254 : BitVec 32 := Scalar.extui v253
  let v255 : BitVec 32 := Scalar.subi v252 v254
  let c8_i32 : BitVec 32 := 8#32
  let c0_i32_137 : BitVec 32 := 0#32
  let v256 : BitVec 1 := Scalar.cmpi .sgt c8_i32 c0_i32_137
  let v257 : BitVec 32 := Scalar.extui v256
  let c0_i32_138 : BitVec 32 := 0#32
  let v258 : BitVec 1 := Scalar.cmpi .slt c8_i32 c0_i32_138
  let v259 : BitVec 32 := Scalar.extui v258
  let v260 : BitVec 32 := Scalar.subi v257 v259
  let v261 : BitVec 1 := Scalar.cmpi .ne v255 v260
  let v262 : BitVec 32 := Scalar.remsi arg22 c8_i32
  let c0_i32_139 : BitVec 32 := 0#32
  let v263 : BitVec 1 := Scalar.cmpi .ne v262 c0_i32_139
  let v264 : BitVec 1 := Scalar.andi v261 v263
  let v250 : BitVec 32 := Scalar.divsi arg22 c8_i32
  let c1_i32_140 : BitVec 32 := 1#32
  let v265 : BitVec 32 := Scalar.subi v250 c1_i32_140
  let v266 : BitVec 32 := Scalar.select v264 v265 v250
  let c128_i32_141 : BitVec 32 := 128#32
  let v267 : BitVec 32 := Scalar.muli v266 c128_i32_141
  let v268 : BitVec 32 := v267
  let v269 : Index := Scalar.indexCast v268
  ![0, v269.toNat]
def k0_off10 (k0_t2 : Fin k0_t2_loop.trips) : Fin 2 → Nat :=
  let c0_154 : Index := 0#32
  let c0_i32_11 : BitVec 32 := 0#32
  let c1_i32_13 : BitVec 32 := 1#32
  let arg22 : BitVec 32 := Scf.iv c0_i32_11 c1_i32_13 k0_t2
  let c128_i32 : BitVec 32 := 128#32
  let v227 : BitVec 32 := Scalar.muli arg22 c128_i32
  let v228 : BitVec 32 := v227
  let v305 : Index := Scalar.indexCast v228
  ![0, v305.toNat]
@[reducible] def k0_t3_loop : Scf.Loop 32 :=
  let c1_i32_18 : BitVec 32 := 1#32
  let c239_i32 : BitVec 32 := 239#32
  let v55 : BitVec 32 := Scalar.addi c1_i32_18 c239_i32
  let c1_i32_19 : BitVec 32 := 1#32
  ⟨c1_i32_18, v55, c1_i32_19⟩
@[reducible] def k0_t4_loop : Scf.Loop 32 :=
  let c0_i32_26 : BitVec 32 := 0#32
  let c64_i32_27 : BitVec 32 := 64#32
  let v74 : BitVec 32 := Scalar.addi c0_i32_26 c64_i32_27
  let c1_i32_28 : BitVec 32 := 1#32
  ⟨c0_i32_26, v74, c1_i32_28⟩
def k0_mult4 (k0_t4 : Fin k0_t4_loop.trips) : BitVec 32 :=
  let c0_i32_26 : BitVec 32 := 0#32
  let c1_i32_28 : BitVec 32 := 1#32
  let arg22 : BitVec 32 := Scf.iv c0_i32_26 c1_i32_28 k0_t4
  let c128_i32 : BitVec 32 := 128#32
  let v227 : BitVec 32 := Scalar.muli arg22 c128_i32
  v227
def k0_off11 (k0_t4 : Fin k0_t4_loop.trips) : Fin 2 → Nat :=
  let c0_130 : Index := 0#32
  let c0_i32_26 : BitVec 32 := 0#32
  let c1_i32_28 : BitVec 32 := 1#32
  let arg22 : BitVec 32 := Scf.iv c0_i32_26 c1_i32_28 k0_t4
  let c128_i32 : BitVec 32 := 128#32
  let v227 : BitVec 32 := Scalar.muli arg22 c128_i32
  let v228 : BitVec 32 := v227
  let v229 : Index := Scalar.indexCast v228
  ![0, v229.toNat]
def k0_off12 (k0_t4 : Fin k0_t4_loop.trips) : Fin 2 → Nat :=
  let c0_133 : Index := 0#32
  let c0_i32_26 : BitVec 32 := 0#32
  let c1_i32_28 : BitVec 32 := 1#32
  let arg22 : BitVec 32 := Scf.iv c0_i32_26 c1_i32_28 k0_t4
  let c128_i32 : BitVec 32 := 128#32
  let v227 : BitVec 32 := Scalar.muli arg22 c128_i32
  let v228 : BitVec 32 := v227
  let v237 : Index := Scalar.indexCast v228
  ![0, v237.toNat]
@[reducible] def k0_t5_loop : Scf.Loop 32 :=
  let c0_i32_31 : BitVec 32 := 0#32
  let c64_i32_32 : BitVec 32 := 64#32
  let v79 : BitVec 32 := Scalar.addi c0_i32_31 c64_i32_32
  let c1_i32_33 : BitVec 32 := 1#32
  ⟨c0_i32_31, v79, c1_i32_33⟩
def k0_mult5 (k0_t5 : Fin k0_t5_loop.trips) : BitVec 32 :=
  let c0_i32_31 : BitVec 32 := 0#32
  let c1_i32_33 : BitVec 32 := 1#32
  let arg22 : BitVec 32 := Scf.iv c0_i32_31 c1_i32_33 k0_t5
  let c128_i32 : BitVec 32 := 128#32
  let v227 : BitVec 32 := Scalar.muli arg22 c128_i32
  v227
def k0_off13 (k0_t5 : Fin k0_t5_loop.trips) : Fin 2 → Nat :=
  let c32_130 : Index := 32#32
  let c0_i32_31 : BitVec 32 := 0#32
  let c1_i32_33 : BitVec 32 := 1#32
  let arg22 : BitVec 32 := Scf.iv c0_i32_31 c1_i32_33 k0_t5
  let c128_i32 : BitVec 32 := 128#32
  let v227 : BitVec 32 := Scalar.muli arg22 c128_i32
  let v228 : BitVec 32 := v227
  let v229 : Index := Scalar.indexCast v228
  ![32, v229.toNat]
def k0_off14 (k0_t5 : Fin k0_t5_loop.trips) : Fin 2 → Nat :=
  let c0_132 : Index := 0#32
  let c0_i32_31 : BitVec 32 := 0#32
  let c1_i32_33 : BitVec 32 := 1#32
  let arg22 : BitVec 32 := Scf.iv c0_i32_31 c1_i32_33 k0_t5
  let c128_i32 : BitVec 32 := 128#32
  let v227 : BitVec 32 := Scalar.muli arg22 c128_i32
  let v228 : BitVec 32 := v227
  let v240 : Index := Scalar.indexCast v228
  ![0, v240.toNat]
def k0_off15 (k0_t5 : Fin k0_t5_loop.trips) : Fin 2 → Nat :=
  let c0_133 : Index := 0#32
  let c0_i32_31 : BitVec 32 := 0#32
  let c1_i32_33 : BitVec 32 := 1#32
  let arg22 : BitVec 32 := Scf.iv c0_i32_31 c1_i32_33 k0_t5
  let c128_i32 : BitVec 32 := 128#32
  let v227 : BitVec 32 := Scalar.muli arg22 c128_i32
  let v228 : BitVec 32 := v227
  let v250 : Index := Scalar.indexCast v228
  ![0, v250.toNat]
def k0_off16 (k0_t5 : Fin k0_t5_loop.trips) : Fin 2 → Nat :=
  let c0_137 : Index := 0#32
  let c0_i32_31 : BitVec 32 := 0#32
  let c1_i32_33 : BitVec 32 := 1#32
  let arg22 : BitVec 32 := Scf.iv c0_i32_31 c1_i32_33 k0_t5
  let c128_i32 : BitVec 32 := 128#32
  let v227 : BitVec 32 := Scalar.muli arg22 c128_i32
  let v228 : BitVec 32 := v227
  let v278 : Index := Scalar.indexCast v228
  ![0, v278.toNat]
@[reducible] def k0_t6_loop : Scf.Loop 32 :=
  let c0_i32_40 : BitVec 32 := 0#32
  let c64_i32_41 : BitVec 32 := 64#32
  let v94 : BitVec 32 := Scalar.addi c0_i32_40 c64_i32_41
  let c1_i32_42 : BitVec 32 := 1#32
  ⟨c0_i32_40, v94, c1_i32_42⟩
def k0_mult6 (k0_t6 : Fin k0_t6_loop.trips) : BitVec 32 :=
  let c0_i32_40 : BitVec 32 := 0#32
  let c1_i32_42 : BitVec 32 := 1#32
  let arg22 : BitVec 32 := Scf.iv c0_i32_40 c1_i32_42 k0_t6
  let c128_i32 : BitVec 32 := 128#32
  let v227 : BitVec 32 := Scalar.muli arg22 c128_i32
  v227
def k0_off17 (k0_t6 : Fin k0_t6_loop.trips) : Fin 2 → Nat :=
  let c0_130 : Index := 0#32
  let c0_i32_40 : BitVec 32 := 0#32
  let c1_i32_42 : BitVec 32 := 1#32
  let arg22 : BitVec 32 := Scf.iv c0_i32_40 c1_i32_42 k0_t6
  let c128_i32 : BitVec 32 := 128#32
  let v227 : BitVec 32 := Scalar.muli arg22 c128_i32
  let v228 : BitVec 32 := v227
  let v229 : Index := Scalar.indexCast v228
  ![0, v229.toNat]
def k0_off18 (k0_t6 : Fin k0_t6_loop.trips) : Fin 2 → Nat :=
  let c0_131 : Index := 0#32
  let c0_i32_40 : BitVec 32 := 0#32
  let c1_i32_42 : BitVec 32 := 1#32
  let arg22 : BitVec 32 := Scf.iv c0_i32_40 c1_i32_42 k0_t6
  let c128_i32 : BitVec 32 := 128#32
  let v227 : BitVec 32 := Scalar.muli arg22 c128_i32
  let v228 : BitVec 32 := v227
  let v232 : Index := Scalar.indexCast v228
  ![0, v232.toNat]
def k0_off19 (k0_t6 : Fin k0_t6_loop.trips) : Fin 2 → Nat :=
  let c32_133 : Index := 32#32
  let c0_i32_40 : BitVec 32 := 0#32
  let c1_i32_42 : BitVec 32 := 1#32
  let arg22 : BitVec 32 := Scf.iv c0_i32_40 c1_i32_42 k0_t6
  let c128_i32 : BitVec 32 := 128#32
  let v227 : BitVec 32 := Scalar.muli arg22 c128_i32
  let v228 : BitVec 32 := v227
  let v242 : Index := Scalar.indexCast v228
  ![32, v242.toNat]
def k0_mult7 (k0_t6 : Fin k0_t6_loop.trips) : BitVec 32 :=
  let c0_i32_40 : BitVec 32 := 0#32
  let c1_i32_42 : BitVec 32 := 1#32
  let arg22 : BitVec 32 := Scf.iv c0_i32_40 c1_i32_42 k0_t6
  let c0_i32_135 : BitVec 32 := 0#32
  let v251 : BitVec 1 := Scalar.cmpi .sgt arg22 c0_i32_135
  let v252 : BitVec 32 := Scalar.extui v251
  let c0_i32_136 : BitVec 32 := 0#32
  let v253 : BitVec 1 := Scalar.cmpi .slt arg22 c0_i32_136
  let v254 : BitVec 32 := Scalar.extui v253
  let v255 : BitVec 32 := Scalar.subi v252 v254
  let c8_i32 : BitVec 32 := 8#32
  let c0_i32_137 : BitVec 32 := 0#32
  let v256 : BitVec 1 := Scalar.cmpi .sgt c8_i32 c0_i32_137
  let v257 : BitVec 32 := Scalar.extui v256
  let c0_i32_138 : BitVec 32 := 0#32
  let v258 : BitVec 1 := Scalar.cmpi .slt c8_i32 c0_i32_138
  let v259 : BitVec 32 := Scalar.extui v258
  let v260 : BitVec 32 := Scalar.subi v257 v259
  let v261 : BitVec 1 := Scalar.cmpi .ne v255 v260
  let v262 : BitVec 32 := Scalar.remsi arg22 c8_i32
  let c0_i32_139 : BitVec 32 := 0#32
  let v263 : BitVec 1 := Scalar.cmpi .ne v262 c0_i32_139
  let v264 : BitVec 1 := Scalar.andi v261 v263
  let v250 : BitVec 32 := Scalar.divsi arg22 c8_i32
  let c1_i32_140 : BitVec 32 := 1#32
  let v265 : BitVec 32 := Scalar.subi v250 c1_i32_140
  let v266 : BitVec 32 := Scalar.select v264 v265 v250
  let c128_i32_141 : BitVec 32 := 128#32
  let v267 : BitVec 32 := Scalar.muli v266 c128_i32_141
  v267
def k0_off20 (k0_t6 : Fin k0_t6_loop.trips) : Fin 2 → Nat :=
  let c32_142 : Index := 32#32
  let c0_i32_40 : BitVec 32 := 0#32
  let c1_i32_42 : BitVec 32 := 1#32
  let arg22 : BitVec 32 := Scf.iv c0_i32_40 c1_i32_42 k0_t6
  let c0_i32_135 : BitVec 32 := 0#32
  let v251 : BitVec 1 := Scalar.cmpi .sgt arg22 c0_i32_135
  let v252 : BitVec 32 := Scalar.extui v251
  let c0_i32_136 : BitVec 32 := 0#32
  let v253 : BitVec 1 := Scalar.cmpi .slt arg22 c0_i32_136
  let v254 : BitVec 32 := Scalar.extui v253
  let v255 : BitVec 32 := Scalar.subi v252 v254
  let c8_i32 : BitVec 32 := 8#32
  let c0_i32_137 : BitVec 32 := 0#32
  let v256 : BitVec 1 := Scalar.cmpi .sgt c8_i32 c0_i32_137
  let v257 : BitVec 32 := Scalar.extui v256
  let c0_i32_138 : BitVec 32 := 0#32
  let v258 : BitVec 1 := Scalar.cmpi .slt c8_i32 c0_i32_138
  let v259 : BitVec 32 := Scalar.extui v258
  let v260 : BitVec 32 := Scalar.subi v257 v259
  let v261 : BitVec 1 := Scalar.cmpi .ne v255 v260
  let v262 : BitVec 32 := Scalar.remsi arg22 c8_i32
  let c0_i32_139 : BitVec 32 := 0#32
  let v263 : BitVec 1 := Scalar.cmpi .ne v262 c0_i32_139
  let v264 : BitVec 1 := Scalar.andi v261 v263
  let v250 : BitVec 32 := Scalar.divsi arg22 c8_i32
  let c1_i32_140 : BitVec 32 := 1#32
  let v265 : BitVec 32 := Scalar.subi v250 c1_i32_140
  let v266 : BitVec 32 := Scalar.select v264 v265 v250
  let c128_i32_141 : BitVec 32 := 128#32
  let v267 : BitVec 32 := Scalar.muli v266 c128_i32_141
  let v268 : BitVec 32 := v267
  let v269 : Index := Scalar.indexCast v268
  ![32, v269.toNat]
def k0_off21 (k0_t6 : Fin k0_t6_loop.trips) : Fin 2 → Nat :=
  let c0_154 : Index := 0#32
  let c0_i32_40 : BitVec 32 := 0#32
  let c1_i32_42 : BitVec 32 := 1#32
  let arg22 : BitVec 32 := Scf.iv c0_i32_40 c1_i32_42 k0_t6
  let c128_i32 : BitVec 32 := 128#32
  let v227 : BitVec 32 := Scalar.muli arg22 c128_i32
  let v228 : BitVec 32 := v227
  let v305 : Index := Scalar.indexCast v228
  ![0, v305.toNat]
@[reducible] def k0_t7_loop : Scf.Loop 32 :=
  let c1_i32_47 : BitVec 32 := 1#32
  let c239_i32_48 : BitVec 32 := 239#32
  let v103 : BitVec 32 := Scalar.addi c1_i32_47 c239_i32_48
  let c1_i32_49 : BitVec 32 := 1#32
  ⟨c1_i32_47, v103, c1_i32_49⟩
@[reducible] def k0_t8_loop : Scf.Loop 32 :=
  let c0_i32_58 : BitVec 32 := 0#32
  let c64_i32_59 : BitVec 32 := 64#32
  let v122 : BitVec 32 := Scalar.addi c0_i32_58 c64_i32_59
  let c1_i32_60 : BitVec 32 := 1#32
  ⟨c0_i32_58, v122, c1_i32_60⟩
def k0_mult8 (k0_t8 : Fin k0_t8_loop.trips) : BitVec 32 :=
  let c0_i32_58 : BitVec 32 := 0#32
  let c1_i32_60 : BitVec 32 := 1#32
  let arg22 : BitVec 32 := Scf.iv c0_i32_58 c1_i32_60 k0_t8
  let c128_i32 : BitVec 32 := 128#32
  let v227 : BitVec 32 := Scalar.muli arg22 c128_i32
  v227
def k0_off22 (k0_t8 : Fin k0_t8_loop.trips) : Fin 2 → Nat :=
  let c0_130 : Index := 0#32
  let c0_i32_58 : BitVec 32 := 0#32
  let c1_i32_60 : BitVec 32 := 1#32
  let arg22 : BitVec 32 := Scf.iv c0_i32_58 c1_i32_60 k0_t8
  let c128_i32 : BitVec 32 := 128#32
  let v227 : BitVec 32 := Scalar.muli arg22 c128_i32
  let v228 : BitVec 32 := v227
  let v229 : Index := Scalar.indexCast v228
  ![0, v229.toNat]
def k0_off23 (k0_t8 : Fin k0_t8_loop.trips) : Fin 2 → Nat :=
  let c32_133 : Index := 32#32
  let c0_i32_58 : BitVec 32 := 0#32
  let c1_i32_60 : BitVec 32 := 1#32
  let arg22 : BitVec 32 := Scf.iv c0_i32_58 c1_i32_60 k0_t8
  let c128_i32 : BitVec 32 := 128#32
  let v227 : BitVec 32 := Scalar.muli arg22 c128_i32
  let v228 : BitVec 32 := v227
  let v237 : Index := Scalar.indexCast v228
  ![32, v237.toNat]
@[reducible] def k0_t9_loop : Scf.Loop 32 :=
  let c0_i32_63 : BitVec 32 := 0#32
  let c64_i32_64 : BitVec 32 := 64#32
  let v127 : BitVec 32 := Scalar.addi c0_i32_63 c64_i32_64
  let c1_i32_65 : BitVec 32 := 1#32
  ⟨c0_i32_63, v127, c1_i32_65⟩
def k0_mult9 (k0_t9 : Fin k0_t9_loop.trips) : BitVec 32 :=
  let c0_i32_63 : BitVec 32 := 0#32
  let c1_i32_65 : BitVec 32 := 1#32
  let arg22 : BitVec 32 := Scf.iv c0_i32_63 c1_i32_65 k0_t9
  let c128_i32 : BitVec 32 := 128#32
  let v227 : BitVec 32 := Scalar.muli arg22 c128_i32
  v227
def k0_off24 (k0_t9 : Fin k0_t9_loop.trips) : Fin 2 → Nat :=
  let c64_130 : Index := 64#32
  let c0_i32_63 : BitVec 32 := 0#32
  let c1_i32_65 : BitVec 32 := 1#32
  let arg22 : BitVec 32 := Scf.iv c0_i32_63 c1_i32_65 k0_t9
  let c128_i32 : BitVec 32 := 128#32
  let v227 : BitVec 32 := Scalar.muli arg22 c128_i32
  let v228 : BitVec 32 := v227
  let v229 : Index := Scalar.indexCast v228
  ![64, v229.toNat]
def k0_off25 (k0_t9 : Fin k0_t9_loop.trips) : Fin 2 → Nat :=
  let c0_132 : Index := 0#32
  let c0_i32_63 : BitVec 32 := 0#32
  let c1_i32_65 : BitVec 32 := 1#32
  let arg22 : BitVec 32 := Scf.iv c0_i32_63 c1_i32_65 k0_t9
  let c128_i32 : BitVec 32 := 128#32
  let v227 : BitVec 32 := Scalar.muli arg22 c128_i32
  let v228 : BitVec 32 := v227
  let v240 : Index := Scalar.indexCast v228
  ![0, v240.toNat]
def k0_off26 (k0_t9 : Fin k0_t9_loop.trips) : Fin 2 → Nat :=
  let c0_133 : Index := 0#32
  let c0_i32_63 : BitVec 32 := 0#32
  let c1_i32_65 : BitVec 32 := 1#32
  let arg22 : BitVec 32 := Scf.iv c0_i32_63 c1_i32_65 k0_t9
  let c128_i32 : BitVec 32 := 128#32
  let v227 : BitVec 32 := Scalar.muli arg22 c128_i32
  let v228 : BitVec 32 := v227
  let v250 : Index := Scalar.indexCast v228
  ![0, v250.toNat]
def k0_off27 (k0_t9 : Fin k0_t9_loop.trips) : Fin 2 → Nat :=
  let c0_137 : Index := 0#32
  let c0_i32_63 : BitVec 32 := 0#32
  let c1_i32_65 : BitVec 32 := 1#32
  let arg22 : BitVec 32 := Scf.iv c0_i32_63 c1_i32_65 k0_t9
  let c128_i32 : BitVec 32 := 128#32
  let v227 : BitVec 32 := Scalar.muli arg22 c128_i32
  let v228 : BitVec 32 := v227
  let v278 : Index := Scalar.indexCast v228
  ![0, v278.toNat]
@[reducible] def k0_t10_loop : Scf.Loop 32 :=
  let c0_i32_72 : BitVec 32 := 0#32
  let c64_i32_73 : BitVec 32 := 64#32
  let v142 : BitVec 32 := Scalar.addi c0_i32_72 c64_i32_73
  let c1_i32_74 : BitVec 32 := 1#32
  ⟨c0_i32_72, v142, c1_i32_74⟩
def k0_mult10 (k0_t10 : Fin k0_t10_loop.trips) : BitVec 32 :=
  let c0_i32_72 : BitVec 32 := 0#32
  let c1_i32_74 : BitVec 32 := 1#32
  let arg22 : BitVec 32 := Scf.iv c0_i32_72 c1_i32_74 k0_t10
  let c128_i32 : BitVec 32 := 128#32
  let v227 : BitVec 32 := Scalar.muli arg22 c128_i32
  v227
def k0_off28 (k0_t10 : Fin k0_t10_loop.trips) : Fin 2 → Nat :=
  let c0_130 : Index := 0#32
  let c0_i32_72 : BitVec 32 := 0#32
  let c1_i32_74 : BitVec 32 := 1#32
  let arg22 : BitVec 32 := Scf.iv c0_i32_72 c1_i32_74 k0_t10
  let c128_i32 : BitVec 32 := 128#32
  let v227 : BitVec 32 := Scalar.muli arg22 c128_i32
  let v228 : BitVec 32 := v227
  let v229 : Index := Scalar.indexCast v228
  ![0, v229.toNat]
def k0_off29 (k0_t10 : Fin k0_t10_loop.trips) : Fin 2 → Nat :=
  let c0_131 : Index := 0#32
  let c0_i32_72 : BitVec 32 := 0#32
  let c1_i32_74 : BitVec 32 := 1#32
  let arg22 : BitVec 32 := Scf.iv c0_i32_72 c1_i32_74 k0_t10
  let c128_i32 : BitVec 32 := 128#32
  let v227 : BitVec 32 := Scalar.muli arg22 c128_i32
  let v228 : BitVec 32 := v227
  let v232 : Index := Scalar.indexCast v228
  ![0, v232.toNat]
def k0_off30 (k0_t10 : Fin k0_t10_loop.trips) : Fin 2 → Nat :=
  let c64_133 : Index := 64#32
  let c0_i32_72 : BitVec 32 := 0#32
  let c1_i32_74 : BitVec 32 := 1#32
  let arg22 : BitVec 32 := Scf.iv c0_i32_72 c1_i32_74 k0_t10
  let c128_i32 : BitVec 32 := 128#32
  let v227 : BitVec 32 := Scalar.muli arg22 c128_i32
  let v228 : BitVec 32 := v227
  let v242 : Index := Scalar.indexCast v228
  ![64, v242.toNat]
def k0_mult11 (k0_t10 : Fin k0_t10_loop.trips) : BitVec 32 :=
  let c0_i32_72 : BitVec 32 := 0#32
  let c1_i32_74 : BitVec 32 := 1#32
  let arg22 : BitVec 32 := Scf.iv c0_i32_72 c1_i32_74 k0_t10
  let c0_i32_135 : BitVec 32 := 0#32
  let v251 : BitVec 1 := Scalar.cmpi .sgt arg22 c0_i32_135
  let v252 : BitVec 32 := Scalar.extui v251
  let c0_i32_136 : BitVec 32 := 0#32
  let v253 : BitVec 1 := Scalar.cmpi .slt arg22 c0_i32_136
  let v254 : BitVec 32 := Scalar.extui v253
  let v255 : BitVec 32 := Scalar.subi v252 v254
  let c8_i32 : BitVec 32 := 8#32
  let c0_i32_137 : BitVec 32 := 0#32
  let v256 : BitVec 1 := Scalar.cmpi .sgt c8_i32 c0_i32_137
  let v257 : BitVec 32 := Scalar.extui v256
  let c0_i32_138 : BitVec 32 := 0#32
  let v258 : BitVec 1 := Scalar.cmpi .slt c8_i32 c0_i32_138
  let v259 : BitVec 32 := Scalar.extui v258
  let v260 : BitVec 32 := Scalar.subi v257 v259
  let v261 : BitVec 1 := Scalar.cmpi .ne v255 v260
  let v262 : BitVec 32 := Scalar.remsi arg22 c8_i32
  let c0_i32_139 : BitVec 32 := 0#32
  let v263 : BitVec 1 := Scalar.cmpi .ne v262 c0_i32_139
  let v264 : BitVec 1 := Scalar.andi v261 v263
  let v250 : BitVec 32 := Scalar.divsi arg22 c8_i32
  let c1_i32_140 : BitVec 32 := 1#32
  let v265 : BitVec 32 := Scalar.subi v250 c1_i32_140
  let v266 : BitVec 32 := Scalar.select v264 v265 v250
  let c128_i32_141 : BitVec 32 := 128#32
  let v267 : BitVec 32 := Scalar.muli v266 c128_i32_141
  v267
def k0_off31 (k0_t10 : Fin k0_t10_loop.trips) : Fin 2 → Nat :=
  let c64_142 : Index := 64#32
  let c0_i32_72 : BitVec 32 := 0#32
  let c1_i32_74 : BitVec 32 := 1#32
  let arg22 : BitVec 32 := Scf.iv c0_i32_72 c1_i32_74 k0_t10
  let c0_i32_135 : BitVec 32 := 0#32
  let v251 : BitVec 1 := Scalar.cmpi .sgt arg22 c0_i32_135
  let v252 : BitVec 32 := Scalar.extui v251
  let c0_i32_136 : BitVec 32 := 0#32
  let v253 : BitVec 1 := Scalar.cmpi .slt arg22 c0_i32_136
  let v254 : BitVec 32 := Scalar.extui v253
  let v255 : BitVec 32 := Scalar.subi v252 v254
  let c8_i32 : BitVec 32 := 8#32
  let c0_i32_137 : BitVec 32 := 0#32
  let v256 : BitVec 1 := Scalar.cmpi .sgt c8_i32 c0_i32_137
  let v257 : BitVec 32 := Scalar.extui v256
  let c0_i32_138 : BitVec 32 := 0#32
  let v258 : BitVec 1 := Scalar.cmpi .slt c8_i32 c0_i32_138
  let v259 : BitVec 32 := Scalar.extui v258
  let v260 : BitVec 32 := Scalar.subi v257 v259
  let v261 : BitVec 1 := Scalar.cmpi .ne v255 v260
  let v262 : BitVec 32 := Scalar.remsi arg22 c8_i32
  let c0_i32_139 : BitVec 32 := 0#32
  let v263 : BitVec 1 := Scalar.cmpi .ne v262 c0_i32_139
  let v264 : BitVec 1 := Scalar.andi v261 v263
  let v250 : BitVec 32 := Scalar.divsi arg22 c8_i32
  let c1_i32_140 : BitVec 32 := 1#32
  let v265 : BitVec 32 := Scalar.subi v250 c1_i32_140
  let v266 : BitVec 32 := Scalar.select v264 v265 v250
  let c128_i32_141 : BitVec 32 := 128#32
  let v267 : BitVec 32 := Scalar.muli v266 c128_i32_141
  let v268 : BitVec 32 := v267
  let v269 : Index := Scalar.indexCast v268
  ![64, v269.toNat]
def k0_off32 (k0_t10 : Fin k0_t10_loop.trips) : Fin 2 → Nat :=
  let c0_154 : Index := 0#32
  let c0_i32_72 : BitVec 32 := 0#32
  let c1_i32_74 : BitVec 32 := 1#32
  let arg22 : BitVec 32 := Scf.iv c0_i32_72 c1_i32_74 k0_t10
  let c128_i32 : BitVec 32 := 128#32
  let v227 : BitVec 32 := Scalar.muli arg22 c128_i32
  let v228 : BitVec 32 := v227
  let v305 : Index := Scalar.indexCast v228
  ![0, v305.toNat]
@[reducible] def k0_t11_loop : Scf.Loop 32 :=
  let c1_i32_79 : BitVec 32 := 1#32
  let c239_i32_80 : BitVec 32 := 239#32
  let v151 : BitVec 32 := Scalar.addi c1_i32_79 c239_i32_80
  let c1_i32_81 : BitVec 32 := 1#32
  ⟨c1_i32_79, v151, c1_i32_81⟩
@[reducible] def k0_t12_loop : Scf.Loop 32 :=
  let c0_i32_90 : BitVec 32 := 0#32
  let c64_i32_91 : BitVec 32 := 64#32
  let v170 : BitVec 32 := Scalar.addi c0_i32_90 c64_i32_91
  let c1_i32_92 : BitVec 32 := 1#32
  ⟨c0_i32_90, v170, c1_i32_92⟩
def k0_mult12 (k0_t12 : Fin k0_t12_loop.trips) : BitVec 32 :=
  let c0_i32_90 : BitVec 32 := 0#32
  let c1_i32_92 : BitVec 32 := 1#32
  let arg22 : BitVec 32 := Scf.iv c0_i32_90 c1_i32_92 k0_t12
  let c128_i32 : BitVec 32 := 128#32
  let v227 : BitVec 32 := Scalar.muli arg22 c128_i32
  v227
def k0_off33 (k0_t12 : Fin k0_t12_loop.trips) : Fin 2 → Nat :=
  let c0_130 : Index := 0#32
  let c0_i32_90 : BitVec 32 := 0#32
  let c1_i32_92 : BitVec 32 := 1#32
  let arg22 : BitVec 32 := Scf.iv c0_i32_90 c1_i32_92 k0_t12
  let c128_i32 : BitVec 32 := 128#32
  let v227 : BitVec 32 := Scalar.muli arg22 c128_i32
  let v228 : BitVec 32 := v227
  let v229 : Index := Scalar.indexCast v228
  ![0, v229.toNat]
def k0_off34 (k0_t12 : Fin k0_t12_loop.trips) : Fin 2 → Nat :=
  let c64_133 : Index := 64#32
  let c0_i32_90 : BitVec 32 := 0#32
  let c1_i32_92 : BitVec 32 := 1#32
  let arg22 : BitVec 32 := Scf.iv c0_i32_90 c1_i32_92 k0_t12
  let c128_i32 : BitVec 32 := 128#32
  let v227 : BitVec 32 := Scalar.muli arg22 c128_i32
  let v228 : BitVec 32 := v227
  let v237 : Index := Scalar.indexCast v228
  ![64, v237.toNat]
@[reducible] def k0_t13_loop : Scf.Loop 32 :=
  let c0_i32_95 : BitVec 32 := 0#32
  let c64_i32_96 : BitVec 32 := 64#32
  let v175 : BitVec 32 := Scalar.addi c0_i32_95 c64_i32_96
  let c1_i32_97 : BitVec 32 := 1#32
  ⟨c0_i32_95, v175, c1_i32_97⟩
def k0_mult13 (k0_t13 : Fin k0_t13_loop.trips) : BitVec 32 :=
  let c0_i32_95 : BitVec 32 := 0#32
  let c1_i32_97 : BitVec 32 := 1#32
  let arg22 : BitVec 32 := Scf.iv c0_i32_95 c1_i32_97 k0_t13
  let c128_i32 : BitVec 32 := 128#32
  let v227 : BitVec 32 := Scalar.muli arg22 c128_i32
  v227
def k0_off35 (k0_t13 : Fin k0_t13_loop.trips) : Fin 2 → Nat :=
  let c96_130 : Index := 96#32
  let c0_i32_95 : BitVec 32 := 0#32
  let c1_i32_97 : BitVec 32 := 1#32
  let arg22 : BitVec 32 := Scf.iv c0_i32_95 c1_i32_97 k0_t13
  let c128_i32 : BitVec 32 := 128#32
  let v227 : BitVec 32 := Scalar.muli arg22 c128_i32
  let v228 : BitVec 32 := v227
  let v229 : Index := Scalar.indexCast v228
  ![96, v229.toNat]
def k0_off36 (k0_t13 : Fin k0_t13_loop.trips) : Fin 2 → Nat :=
  let c0_132 : Index := 0#32
  let c0_i32_95 : BitVec 32 := 0#32
  let c1_i32_97 : BitVec 32 := 1#32
  let arg22 : BitVec 32 := Scf.iv c0_i32_95 c1_i32_97 k0_t13
  let c128_i32 : BitVec 32 := 128#32
  let v227 : BitVec 32 := Scalar.muli arg22 c128_i32
  let v228 : BitVec 32 := v227
  let v240 : Index := Scalar.indexCast v228
  ![0, v240.toNat]
def k0_off37 (k0_t13 : Fin k0_t13_loop.trips) : Fin 2 → Nat :=
  let c0_133 : Index := 0#32
  let c0_i32_95 : BitVec 32 := 0#32
  let c1_i32_97 : BitVec 32 := 1#32
  let arg22 : BitVec 32 := Scf.iv c0_i32_95 c1_i32_97 k0_t13
  let c128_i32 : BitVec 32 := 128#32
  let v227 : BitVec 32 := Scalar.muli arg22 c128_i32
  let v228 : BitVec 32 := v227
  let v250 : Index := Scalar.indexCast v228
  ![0, v250.toNat]
def k0_off38 (k0_t13 : Fin k0_t13_loop.trips) : Fin 2 → Nat :=
  let c0_137 : Index := 0#32
  let c0_i32_95 : BitVec 32 := 0#32
  let c1_i32_97 : BitVec 32 := 1#32
  let arg22 : BitVec 32 := Scf.iv c0_i32_95 c1_i32_97 k0_t13
  let c128_i32 : BitVec 32 := 128#32
  let v227 : BitVec 32 := Scalar.muli arg22 c128_i32
  let v228 : BitVec 32 := v227
  let v278 : Index := Scalar.indexCast v228
  ![0, v278.toNat]
@[reducible] def k0_t14_loop : Scf.Loop 32 :=
  let c0_i32_104 : BitVec 32 := 0#32
  let c64_i32_105 : BitVec 32 := 64#32
  let v190 : BitVec 32 := Scalar.addi c0_i32_104 c64_i32_105
  let c1_i32_106 : BitVec 32 := 1#32
  ⟨c0_i32_104, v190, c1_i32_106⟩
def k0_mult14 (k0_t14 : Fin k0_t14_loop.trips) : BitVec 32 :=
  let c0_i32_104 : BitVec 32 := 0#32
  let c1_i32_106 : BitVec 32 := 1#32
  let arg22 : BitVec 32 := Scf.iv c0_i32_104 c1_i32_106 k0_t14
  let c128_i32 : BitVec 32 := 128#32
  let v227 : BitVec 32 := Scalar.muli arg22 c128_i32
  v227
def k0_off39 (k0_t14 : Fin k0_t14_loop.trips) : Fin 2 → Nat :=
  let c0_130 : Index := 0#32
  let c0_i32_104 : BitVec 32 := 0#32
  let c1_i32_106 : BitVec 32 := 1#32
  let arg22 : BitVec 32 := Scf.iv c0_i32_104 c1_i32_106 k0_t14
  let c128_i32 : BitVec 32 := 128#32
  let v227 : BitVec 32 := Scalar.muli arg22 c128_i32
  let v228 : BitVec 32 := v227
  let v229 : Index := Scalar.indexCast v228
  ![0, v229.toNat]
def k0_off40 (k0_t14 : Fin k0_t14_loop.trips) : Fin 2 → Nat :=
  let c0_131 : Index := 0#32
  let c0_i32_104 : BitVec 32 := 0#32
  let c1_i32_106 : BitVec 32 := 1#32
  let arg22 : BitVec 32 := Scf.iv c0_i32_104 c1_i32_106 k0_t14
  let c128_i32 : BitVec 32 := 128#32
  let v227 : BitVec 32 := Scalar.muli arg22 c128_i32
  let v228 : BitVec 32 := v227
  let v232 : Index := Scalar.indexCast v228
  ![0, v232.toNat]
def k0_off41 (k0_t14 : Fin k0_t14_loop.trips) : Fin 2 → Nat :=
  let c96_133 : Index := 96#32
  let c0_i32_104 : BitVec 32 := 0#32
  let c1_i32_106 : BitVec 32 := 1#32
  let arg22 : BitVec 32 := Scf.iv c0_i32_104 c1_i32_106 k0_t14
  let c128_i32 : BitVec 32 := 128#32
  let v227 : BitVec 32 := Scalar.muli arg22 c128_i32
  let v228 : BitVec 32 := v227
  let v242 : Index := Scalar.indexCast v228
  ![96, v242.toNat]
def k0_mult15 (k0_t14 : Fin k0_t14_loop.trips) : BitVec 32 :=
  let c0_i32_104 : BitVec 32 := 0#32
  let c1_i32_106 : BitVec 32 := 1#32
  let arg22 : BitVec 32 := Scf.iv c0_i32_104 c1_i32_106 k0_t14
  let c0_i32_135 : BitVec 32 := 0#32
  let v251 : BitVec 1 := Scalar.cmpi .sgt arg22 c0_i32_135
  let v252 : BitVec 32 := Scalar.extui v251
  let c0_i32_136 : BitVec 32 := 0#32
  let v253 : BitVec 1 := Scalar.cmpi .slt arg22 c0_i32_136
  let v254 : BitVec 32 := Scalar.extui v253
  let v255 : BitVec 32 := Scalar.subi v252 v254
  let c8_i32 : BitVec 32 := 8#32
  let c0_i32_137 : BitVec 32 := 0#32
  let v256 : BitVec 1 := Scalar.cmpi .sgt c8_i32 c0_i32_137
  let v257 : BitVec 32 := Scalar.extui v256
  let c0_i32_138 : BitVec 32 := 0#32
  let v258 : BitVec 1 := Scalar.cmpi .slt c8_i32 c0_i32_138
  let v259 : BitVec 32 := Scalar.extui v258
  let v260 : BitVec 32 := Scalar.subi v257 v259
  let v261 : BitVec 1 := Scalar.cmpi .ne v255 v260
  let v262 : BitVec 32 := Scalar.remsi arg22 c8_i32
  let c0_i32_139 : BitVec 32 := 0#32
  let v263 : BitVec 1 := Scalar.cmpi .ne v262 c0_i32_139
  let v264 : BitVec 1 := Scalar.andi v261 v263
  let v250 : BitVec 32 := Scalar.divsi arg22 c8_i32
  let c1_i32_140 : BitVec 32 := 1#32
  let v265 : BitVec 32 := Scalar.subi v250 c1_i32_140
  let v266 : BitVec 32 := Scalar.select v264 v265 v250
  let c128_i32_141 : BitVec 32 := 128#32
  let v267 : BitVec 32 := Scalar.muli v266 c128_i32_141
  v267
def k0_off42 (k0_t14 : Fin k0_t14_loop.trips) : Fin 2 → Nat :=
  let c96_142 : Index := 96#32
  let c0_i32_104 : BitVec 32 := 0#32
  let c1_i32_106 : BitVec 32 := 1#32
  let arg22 : BitVec 32 := Scf.iv c0_i32_104 c1_i32_106 k0_t14
  let c0_i32_135 : BitVec 32 := 0#32
  let v251 : BitVec 1 := Scalar.cmpi .sgt arg22 c0_i32_135
  let v252 : BitVec 32 := Scalar.extui v251
  let c0_i32_136 : BitVec 32 := 0#32
  let v253 : BitVec 1 := Scalar.cmpi .slt arg22 c0_i32_136
  let v254 : BitVec 32 := Scalar.extui v253
  let v255 : BitVec 32 := Scalar.subi v252 v254
  let c8_i32 : BitVec 32 := 8#32
  let c0_i32_137 : BitVec 32 := 0#32
  let v256 : BitVec 1 := Scalar.cmpi .sgt c8_i32 c0_i32_137
  let v257 : BitVec 32 := Scalar.extui v256
  let c0_i32_138 : BitVec 32 := 0#32
  let v258 : BitVec 1 := Scalar.cmpi .slt c8_i32 c0_i32_138
  let v259 : BitVec 32 := Scalar.extui v258
  let v260 : BitVec 32 := Scalar.subi v257 v259
  let v261 : BitVec 1 := Scalar.cmpi .ne v255 v260
  let v262 : BitVec 32 := Scalar.remsi arg22 c8_i32
  let c0_i32_139 : BitVec 32 := 0#32
  let v263 : BitVec 1 := Scalar.cmpi .ne v262 c0_i32_139
  let v264 : BitVec 1 := Scalar.andi v261 v263
  let v250 : BitVec 32 := Scalar.divsi arg22 c8_i32
  let c1_i32_140 : BitVec 32 := 1#32
  let v265 : BitVec 32 := Scalar.subi v250 c1_i32_140
  let v266 : BitVec 32 := Scalar.select v264 v265 v250
  let c128_i32_141 : BitVec 32 := 128#32
  let v267 : BitVec 32 := Scalar.muli v266 c128_i32_141
  let v268 : BitVec 32 := v267
  let v269 : Index := Scalar.indexCast v268
  ![96, v269.toNat]
def k0_off43 (k0_t14 : Fin k0_t14_loop.trips) : Fin 2 → Nat :=
  let c0_154 : Index := 0#32
  let c0_i32_104 : BitVec 32 := 0#32
  let c1_i32_106 : BitVec 32 := 1#32
  let arg22 : BitVec 32 := Scf.iv c0_i32_104 c1_i32_106 k0_t14
  let c128_i32 : BitVec 32 := 128#32
  let v227 : BitVec 32 := Scalar.muli arg22 c128_i32
  let v228 : BitVec 32 := v227
  let v305 : Index := Scalar.indexCast v228
  ![0, v305.toNat]
@[reducible] def k0_t15_loop : Scf.Loop 32 :=
  let c1_i32_111 : BitVec 32 := 1#32
  let c239_i32_112 : BitVec 32 := 239#32
  let v199 : BitVec 32 := Scalar.addi c1_i32_111 c239_i32_112
  let c1_i32_113 : BitVec 32 := 1#32
  ⟨c1_i32_111, v199, c1_i32_113⟩
@[reducible] def k0_t16_loop : Scf.Loop 32 :=
  let c0_i32_122 : BitVec 32 := 0#32
  let c64_i32_123 : BitVec 32 := 64#32
  let v218 : BitVec 32 := Scalar.addi c0_i32_122 c64_i32_123
  let c1_i32_124 : BitVec 32 := 1#32
  ⟨c0_i32_122, v218, c1_i32_124⟩
def k0_mult16 (k0_t16 : Fin k0_t16_loop.trips) : BitVec 32 :=
  let c0_i32_122 : BitVec 32 := 0#32
  let c1_i32_124 : BitVec 32 := 1#32
  let arg22 : BitVec 32 := Scf.iv c0_i32_122 c1_i32_124 k0_t16
  let c128_i32 : BitVec 32 := 128#32
  let v227 : BitVec 32 := Scalar.muli arg22 c128_i32
  v227
def k0_off44 (k0_t16 : Fin k0_t16_loop.trips) : Fin 2 → Nat :=
  let c0_130 : Index := 0#32
  let c0_i32_122 : BitVec 32 := 0#32
  let c1_i32_124 : BitVec 32 := 1#32
  let arg22 : BitVec 32 := Scf.iv c0_i32_122 c1_i32_124 k0_t16
  let c128_i32 : BitVec 32 := 128#32
  let v227 : BitVec 32 := Scalar.muli arg22 c128_i32
  let v228 : BitVec 32 := v227
  let v229 : Index := Scalar.indexCast v228
  ![0, v229.toNat]
def k0_off45 (k0_t16 : Fin k0_t16_loop.trips) : Fin 2 → Nat :=
  let c96_133 : Index := 96#32
  let c0_i32_122 : BitVec 32 := 0#32
  let c1_i32_124 : BitVec 32 := 1#32
  let arg22 : BitVec 32 := Scf.iv c0_i32_122 c1_i32_124 k0_t16
  let c128_i32 : BitVec 32 := 128#32
  let v227 : BitVec 32 := Scalar.muli arg22 c128_i32
  let v228 : BitVec 32 := v227
  let v237 : Index := Scalar.indexCast v228
  ![96, v237.toNat]
def k0_cond2 (i : grid0.Coords) : BitVec 1 :=
  let arg0 : BitVec 32 := BitVec.ofNat 32 (i 0).val
  let c15_i32 : BitVec 32 := 15#32
  let v224 : BitVec 1 := Scalar.cmpi .eq arg0 c15_i32
  let v225 : BitVec 32 := Scalar.extui v224
  let c0_i32_129 : BitVec 32 := 0#32
  let v226 : BitVec 1 := Scalar.cmpi .ne v225 c0_i32_129
  v226

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8192 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x8192 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x8192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S1x2048x8192 : Shape := ⟨3, ![1, 2048, 8192]⟩
abbrev S1x2048 : Shape := ⟨2, ![1, 2048]⟩
abbrev S1x2048x1024 : Shape := ⟨3, ![1, 2048, 1024]⟩
abbrev S8192 : Shape := ⟨1, ![8192]⟩
abbrev S1x2048x1024x1 : Shape := ⟨4, ![1, 2048, 1024, 1]⟩
abbrev S8 : Shape := ⟨1, ![8]⟩
abbrev S1x1x1x8 : Shape := ⟨4, ![1, 1, 1, 8]⟩
abbrev S1x2048x1024x8 : Shape := ⟨4, ![1, 2048, 1024, 8]⟩
abbrev S_ : Shape := ⟨0, ![]⟩
abbrev S16x128x8192 : Shape := ⟨3, ![16, 128, 8192]⟩
abbrev S16x128 : Shape := ⟨2, ![16, 128]⟩
abbrev S1x1x8192 : Shape := ⟨3, ![1, 1, 8192]⟩
abbrev S2048x8192 : Shape := ⟨2, ![2048, 8192]⟩
abbrev S1x8192 : Shape := ⟨2, ![1, 8192]⟩
abbrev S16x128x1 : Shape := ⟨3, ![16, 128, 1]⟩
abbrev S16x128x256 : Shape := ⟨3, ![16, 128, 256]⟩

abbrev nBuf : Space → Nat
  | .hbm => 32
  | .vmem => 14
  | .smem => 0
  | _ => 0

abbrev bufTy : (tb : Table) → Fin (tcTables nBuf tb) → BufTy
  | .hbm, ⟨0, _⟩ => ⟨S1x2048x8192, .fp8e5m2⟩
  | .hbm, ⟨1, _⟩ => ⟨S1x2048, .f32⟩
  | .hbm, ⟨2, _⟩ => ⟨S1x2048x8192, .bf16⟩
  | .hbm, ⟨3, _⟩ => ⟨S1x2048x1024, .i8⟩
  | .hbm, ⟨4, _⟩ => ⟨S1x2048x8192, .bf16⟩
  | .hbm, ⟨5, _⟩ => ⟨S1x2048, .f32⟩
  | .hbm, ⟨6, _⟩ => ⟨S1x2048, .f32⟩
  | .hbm, ⟨7, _⟩ => ⟨S8192, .f32⟩
  | .hbm, ⟨8, _⟩ => ⟨S1x2048x1024, .i32⟩
  | .hbm, ⟨9, _⟩ => ⟨S1x2048x1024x1, .i32⟩
  | .hbm, ⟨10, _⟩ => ⟨S8, .i32⟩
  | .hbm, ⟨11, _⟩ => ⟨S1x1x1x8, .i32⟩
  | .hbm, ⟨12, _⟩ => ⟨S1x2048x1024x8, .i32⟩
  | .hbm, ⟨13, _⟩ => ⟨S1x2048x1024x8, .i32⟩
  | .hbm, ⟨14, _⟩ => ⟨S1x2048x1024x8, .i32⟩
  | .hbm, ⟨15, _⟩ => ⟨S_, .i32⟩
  | .hbm, ⟨16, _⟩ => ⟨S1x2048x1024x8, .i32⟩
  | .hbm, ⟨17, _⟩ => ⟨S1x2048x1024x8, .i32⟩
  | .hbm, ⟨18, _⟩ => ⟨S16x128x8192, .fp8e5m2⟩
  | .hbm, ⟨19, _⟩ => ⟨S16x128, .f32⟩
  | .hbm, ⟨20, _⟩ => ⟨S16x128x8192, .bf16⟩
  | .hbm, ⟨21, _⟩ => ⟨S16x128x8192, .i32⟩
  | .hbm, ⟨22, _⟩ => ⟨S16x128x8192, .bf16⟩
  | .hbm, ⟨23, _⟩ => ⟨S16x128, .f32⟩
  | .hbm, ⟨24, _⟩ => ⟨S16x128, .f32⟩
  | .hbm, ⟨25, _⟩ => ⟨S1x1x8192, .f32⟩
  | .hbm, ⟨26, _⟩ => ⟨S2048x8192, .bf16⟩
  | .hbm, ⟨27, _⟩ => ⟨S2048x8192, .fp8e5m2⟩
  | .hbm, ⟨28, _⟩ => ⟨S16x128, .f32⟩
  | .hbm, ⟨29, _⟩ => ⟨S1x8192, .f32⟩
  | .hbm, ⟨30, _⟩ => ⟨S1x8192, .f32⟩
  | .hbm, ⟨31, _⟩ => ⟨S1x8192, .f32⟩
  | .local _ .vmem, ⟨0, _⟩ => ⟨S16x128x8192, .fp8e5m2⟩
  | .local _ .vmem, ⟨1, _⟩ => ⟨S16x128, .f32⟩
  | .local _ .vmem, ⟨2, _⟩ => ⟨S16x128x8192, .bf16⟩
  | .local _ .vmem, ⟨3, _⟩ => ⟨S16x128x8192, .i32⟩
  | .local _ .vmem, ⟨4, _⟩ => ⟨S16x128x8192, .bf16⟩
  | .local _ .vmem, ⟨5, _⟩ => ⟨S16x128, .f32⟩
  | .local _ .vmem, ⟨6, _⟩ => ⟨S16x128, .f32⟩
  | .local _ .vmem, ⟨7, _⟩ => ⟨S1x1x8192, .f32⟩
  | .local _ .vmem, ⟨8, _⟩ => ⟨S2048x8192, .bf16⟩
  | .local _ .vmem, ⟨9, _⟩ => ⟨S2048x8192, .fp8e5m2⟩
  | .local _ .vmem, ⟨10, _⟩ => ⟨S16x128, .f32⟩
  | .local _ .vmem, ⟨11, _⟩ => ⟨S1x8192, .f32⟩
  | .local _ .vmem, ⟨12, _⟩ => ⟨S1x8192, .f32⟩
  | .local _ .vmem, ⟨13, _⟩ => ⟨S1x8192, .f32⟩
  | _, _ => ⟨S1x2048x8192, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev main_v17_5 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S16x128x8192 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x8192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x8192 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Trips.lean ====
/- One trip of each of the kernel's three kinds of loop, stated once for all four row groups.

   The kernel walks its 128 rows in four groups of 32. Each group runs the same loops over the 64 column tiles, at other offsets. Here
   each kind of trip is one program over the offsets (`Geo`), and each is run once: what it leaves is a function of what it finds. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 8192

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- Where the trips of a row group read and write: the group's tile of a 128-row block, of the one-row block, of the 8-row partial
    sums, of the 32-row scratch, and of the block of mask bytes. -/
structure Geo (n : ℕ) where
  tile : Fin n → Fin 2 → ℕ
  tile_inb : ∀ k a, tile k a + S32x128.size a ≤ S128x8192.size a
  row : Fin n → Fin 2 → ℕ
  row_inb : ∀ k a, row k a + S1x128.size a ≤ S1x8192.size a
  acc : Fin n → Fin 2 → ℕ
  acc_inb : ∀ k a, acc k a + S8x128.size a ≤ S8x8192.size a
  scr : Fin n → Fin 2 → ℕ
  scr_inb : ∀ k a, scr k a + S32x128.size a ≤ S32x8192.size a
  msk : Fin n → Fin 2 → ℕ
  msk_inb : ∀ k a, msk k a + S32x128.size a ≤ S128x1024.size a

namespace Geo

variable {n : ℕ} (g : Geo n) (k : Fin n)

/-- The tile of a 128-row block. -/
abbrev tileR : Rect S128x8192 := Rect.unit (s := S128x8192) (g.tile k) S32x128.size (g.tile_inb k)
/-- The tile of a one-row block. -/
abbrev rowR : Rect S1x8192 := Rect.unit (s := S1x8192) (g.row k) S1x128.size (g.row_inb k)
/-- The tile of the 8-row partial sums. -/
abbrev accR : Rect S8x8192 := Rect.unit (s := S8x8192) (g.acc k) S8x128.size (g.acc_inb k)
/-- The tile of the 32-row scratch. -/
abbrev scrR : Rect S32x8192 := Rect.unit (s := S32x8192) (g.scr k) S32x128.size (g.scr_inb k)
/-- The tile of the block of mask bytes. -/
abbrev mskR : Rect S128x1024 := Rect.unit (s := S128x1024) (g.msk k) S32x128.size (g.msk_inb k)

end Geo

/-- A memory reference's contents. -/
abbrev Con (F : FTy → Type) {s : Shape} {e : EltTy} (m : Memref sig .tc .vmem s e) := BufTy.Contents (Elt F) m.view.ty

/-- A memory reference held whole, at the contents `f`. -/
abbrev at_ (c : Dev nD) {s : Shape} {e : EltTy} (m : Memref sig .tc .vmem s e) (f : Con F m) : sProp 𝕄 :=
  m.view.loc (c : Thread nD τ) ↦[m.view.set]{fullShare} f

variable (c : Dev nD) {n : ℕ} (g : Geo n)
  (arg1 : Memref sig .tc .vmem S128x8192 .fp8e5m2) (arg2 : Memref sig .tc .vmem S128x8192 .bf16) (arg3 : Memref sig .tc .vmem S128x1024 .i8)
  (arg4 : Memref sig .tc .vmem S128x8192 .bf16) (arg8 : Memref sig .tc .vmem S1x8192 .f32) (arg9 : Memref sig .tc .vmem S128x8192 .bf16)
  (harg9 : arg9.IsWhole) (arg10 : Memref sig .tc .vmem S128x8192 .fp8e5m2) (harg10 : arg10.IsWhole) (arg15 : Memref sig .tc .vmem S32x8192 .f32)
  (arg16 : Memref sig .tc .vmem S32x8192 .f32) (arg17 : Memref sig .tc .vmem S32x8192 .f32) (arg19 : Memref sig .tc .vmem S8x8192 .f32)
  (arg20 : Memref sig .tc .vmem S8x8192 .f32) (arg21 : Memref sig .tc .vmem S8x8192 .f32)

/-! ## The first pass: the row sums, the partial sums for the gradients of gain and shift, and the scratch copies -/

/-- A trip of the first pass. -/
def gen1 (sq mq rq : FVec F S32x128 .f32) (k : Fin n) (acc : FVec F S32x128 .f32 × FVec F S32x128 .f32) :
    Prog (TpuEff nD τ sig (Elt F) Λ₀ .tc) (FVec F S32x128 .f32 × FVec F S32x128 .f32) := do
  let d : Vec F S32x128 .fp8e5m2 ← Prog.lift (.load arg1 (g.tileR k).toLoadRect (View.loadsAt_vmem h_S32x128))
  let h : Vec F S32x128 .bf16 ← Prog.lift (.load arg4 (g.tileR k).toLoadRect (View.loadsAt_vmem h_S32x128))
  let w : Vec F S1x128 .f32 ← Prog.lift (.load arg8 (g.rowR k).toLoadRect (View.loadsAt_vmem h_S1x128))
  let p : Vec F S8x128 .f32 ← Prog.lift (.load arg19 (g.accR k).toLoadRect (View.loadsAt_vmem h_S8x128))
  let _p' : Vec F S8x128 .f32 ← Prog.lift (.load arg19 (g.accR k).toLoadRect (View.loadsAt_vmem h_S8x128))
  Prog.lift (.store arg19 (g.accR k) (k0_pay13 sq mq rq d h p) Finset.univ (View.stores_vmem_bits_univ h_S8x128 rfl) (.inl rfl))
  let r : Vec F S8x128 .f32 ← Prog.lift (.load arg20 (g.accR k).toLoadRect (View.loadsAt_vmem h_S8x128))
  let _r' : Vec F S8x128 .f32 ← Prog.lift (.load arg20 (g.accR k).toLoadRect (View.loadsAt_vmem h_S8x128))
  Prog.lift (.store arg20 (g.accR k) (k0_pay66 (k0_pay14 sq d r)) Finset.univ (View.stores_vmem_bits_univ h_S8x128 rfl) (.inl rfl))
  let _x : Vec F S32x128 .f32 ← Prog.lift (.load arg15 (g.scrR k).toLoadRect (View.loadsAt_vmem h_S32x128))
  Prog.lift (.store arg15 (g.scrR k) (k0_pay67 (k0_pay7 sq d)) Finset.univ (View.stores_vmem_bits_univ h_S32x128 rfl) (.inl rfl))
  let _y : Vec F S32x128 .f32 ← Prog.lift (.load arg16 (g.scrR k).toLoadRect (View.loadsAt_vmem h_S32x128))
  Prog.lift (.store arg16 (g.scrR k) (k0_pay68 (k0_pay8 mq rq h)) Finset.univ (View.stores_vmem_bits_univ h_S32x128 rfl) (.inl rfl))
  pure (k0_pay11 sq acc.1 d w, k0_pay12 sq mq rq acc.2 d h w)

/-- What the first pass carries and writes. -/
structure St1 (F : FTy → Type) (arg15 arg16 : Memref sig .tc .vmem S32x8192 .f32) (arg19 arg20 : Memref sig .tc .vmem S8x8192 .f32) where
  acc : FVec F S32x128 .f32 × FVec F S32x128 .f32
  f15 : Con F arg15
  f16 : Con F arg16
  f19 : Con F arg19
  f20 : Con F arg20

/-- What a trip of the first pass leaves, from what it finds. -/
def trip1 (sq mq rq : FVec F S32x128 .f32) (X1 : Con F arg1) (X4 : Con F arg4) (X8 : Con F arg8) (k : Fin n)
    (s : St1 F arg15 arg16 arg19 arg20) : St1 F arg15 arg16 arg19 arg20 where
  acc := (k0_pay11 sq s.acc.1 (View.readAt (Elt F) arg1.view (g.tileR k).toLoadRect X1) (View.readAt (Elt F) arg8.view (g.rowR k).toLoadRect X8),
    k0_pay12 sq mq rq s.acc.2 (View.readAt (Elt F) arg1.view (g.tileR k).toLoadRect X1) (View.readAt (Elt F) arg4.view (g.tileR k).toLoadRect X4)
      (View.readAt (Elt F) arg8.view (g.rowR k).toLoadRect X8))
  f15 := arg15.view.writes (Elt F) s.f15 [⟨g.scrR k, k0_pay67 (k0_pay7 sq (View.readAt (Elt F) arg1.view (g.tileR k).toLoadRect X1))⟩]
  f16 := arg16.view.writes (Elt F) s.f16 [⟨g.scrR k, k0_pay68 (k0_pay8 mq rq (View.readAt (Elt F) arg4.view (g.tileR k).toLoadRect X4))⟩]
  f19 := arg19.view.writes (Elt F) s.f19 [⟨g.accR k, k0_pay13 sq mq rq (View.readAt (Elt F) arg1.view (g.tileR k).toLoadRect X1)
    (View.readAt (Elt F) arg4.view (g.tileR k).toLoadRect X4) (View.readAt (Elt F) arg19.view (g.accR k).toLoadRect s.f19)⟩]
  f20 := arg20.view.writes (Elt F) s.f20 [⟨g.accR k, k0_pay66 (k0_pay14 sq (View.readAt (Elt F) arg1.view (g.tileR k).toLoadRect X1)
    (View.readAt (Elt F) arg20.view (g.accR k).toLoadRect s.f20))⟩]

/-- Trip `k` of the first pass as a step of the count; past the last trip, nothing. -/
@[irreducible] def next1 (sq mq rq : FVec F S32x128 .f32) (X1 : Con F arg1) (X4 : Con F arg4) (X8 : Con F arg8) (k : ℕ)
    (s : St1 F arg15 arg16 arg19 arg20) : St1 F arg15 arg16 arg19 arg20 :=
  if h : k < n then trip1 g arg1 arg4 arg8 arg15 arg16 arg19 arg20 sq mq rq X1 X4 X8 ⟨k, h⟩ s else s

/-- The first pass before trip `k`. -/
def st1 (sq mq rq : FVec F S32x128 .f32) (X1 : Con F arg1) (X4 : Con F arg4) (X8 : Con F arg8) (s : St1 F arg15 arg16 arg19 arg20) :
    ℕ → St1 F arg15 arg16 arg19 arg20
  | 0 => s
  | k + 1 => next1 g arg1 arg4 arg8 arg15 arg16 arg19 arg20 sq mq rq X1 X4 X8 k (st1 sq mq rq X1 X4 X8 s k)

theorem st1_succ (sq mq rq : FVec F S32x128 .f32) (X1 : Con F arg1) (X4 : Con F arg4) (X8 : Con F arg8) (s : St1 F arg15 arg16 arg19 arg20)
    (k : Fin n) : st1 g arg1 arg4 arg8 arg15 arg16 arg19 arg20 sq mq rq X1 X4 X8 s (k.val + 1)
      = trip1 g arg1 arg4 arg8 arg15 arg16 arg19 arg20 sq mq rq X1 X4 X8 k (st1 g arg1 arg4 arg8 arg15 arg16 arg19 arg20 sq mq rq X1 X4 X8 s k) := by
  rw [st1, next1]; exact dif_pos k.isLt

/-- The first pass's resources at a state: what it reads, and what it writes. -/
abbrev res1 (X1 : Con F arg1) (X4 : Con F arg4) (X8 : Con F arg8) (s : St1 F arg15 arg16 arg19 arg20) : sProp 𝕄 :=
  iprop(at_ c arg1 X1 ∗ at_ c arg4 X4 ∗ at_ c arg8 X8 ∗ at_ c arg15 s.f15 ∗ at_ c arg16 s.f16 ∗ at_ c arg19 s.f19 ∗ at_ c arg20 s.f20)

set_option maxHeartbeats 1000000 in
theorem gen1_run (𝒱 : Variants) (bd : Option 𝒱.V) (E : Set ℕ) (sq mq rq : FVec F S32x128 .f32) (X1 : Con F arg1) (X4 : Con F arg4) (X8 : Con F arg8)
    (s : St1 F arg15 arg16 arg19 arg20) (k : Fin n) :
    res1 c arg1 arg4 arg8 arg15 arg16 arg19 arg20 X1 X4 X8 s ⊢ wp frame (wpE (defs₀ (F := F)) 𝒱 (c : Thread nD τ) bd) E
      (gen1 (F := F) g arg1 arg4 arg8 arg15 arg16 arg19 arg20 sq mq rq k s.acc)
      (fun y => iprop(⌜y = (trip1 g arg1 arg4 arg8 arg15 arg16 arg19 arg20 sq mq rq X1 X4 X8 k s).acc⌝ ∗ res1 c arg1 arg4 arg8 arg15 arg16 arg19 arg20 X1 X4 X8
        (trip1 g arg1 arg4 arg8 arg15 arg16 arg19 arg20 sq mq rq X1 X4 X8 k s))) := by
  unfold gen1
  iintro ⟨H1, H4, H8, H15, H16, H19, H20⟩
  sl_exec
  sl_step
  isplitl []
  · ipureintro; rfl
  isplitl [H1]; · iexact H1
  isplitl [H4]; · iexact H4
  isplitl [H8]; · iexact H8
  isplitl [H15]; · iexact H15
  isplitl [H16]; · iexact H16
  isplitl [H19]; · iexact H19
  iexact H20

/-! ## The second pass: the input gradient, the masked gradient, its partial sums and its row maximum -/

/-- A trip of the second pass. -/
def gen2 (hp : ∀ k, (g.tileR k).PackedRows (EltTy.packing .bf16)) (v21 : IVec S8x128 32) (v26 : IVec S32x128 32) (rq m1 m2 : FVec F S32x128 .f32)
    (t : Fin n → BitVec 32) (k : Fin n) (acc : FVec F S32x128 .f32) : Prog (TpuEff nD τ sig (Elt F) Λ₀ .tc) (FVec F S32x128 .f32) := do
  let w : Vec F S1x128 .f32 ← Prog.lift (.load arg8 (g.rowR k).toLoadRect (View.loadsAt_vmem h_S1x128))
  let y : Vec F S32x128 .f32 ← Prog.lift (.load arg15 (g.scrR k).toLoadRect (View.loadsAt_vmem h_S32x128))
  let x : Vec F S32x128 .f32 ← Prog.lift (.load arg16 (g.scrR k).toLoadRect (View.loadsAt_vmem h_S32x128))
  let r : Vec F S32x128 .bf16 ← Prog.lift (.load arg2 (g.tileR k).toLoadRect (View.loadsAt_vmem h_S32x128))
  let _o : Vec F S32x128 .bf16 ← Prog.lift (.load arg9 (g.tileR k).toLoadRect (View.loadsAt_vmem h_S32x128))
  Prog.lift (.store arg9 (g.tileR k) (k0_pay16 rq m1 m2 w y x r) Finset.univ
    (View.stores_vmem h_S32x128 (harg9.storeExact_slice rfl _ (hp k)) (fun _ => rfl)) (.inl rfl))
  let b : Vec F S32x128 .i8 ← Prog.lift (.load arg3 (g.mskR k).toLoadRect (View.loadsAt_vmem h_S32x128))
  let p : Vec F S8x128 .f32 ← Prog.lift (.load arg21 (g.accR k).toLoadRect (View.loadsAt_vmem h_S8x128))
  let _p' : Vec F S8x128 .f32 ← Prog.lift (.load arg21 (g.accR k).toLoadRect (View.loadsAt_vmem h_S8x128))
  Prog.lift (.store arg21 (g.accR k) (k0_pay73 (k0_pay18 v21 v26 (t k) (k0_pay15 rq m1 m2 w y x r) b p)) Finset.univ
    (View.stores_vmem_bits_univ h_S8x128 rfl) (.inl rfl))
  let _z : Vec F S32x128 .f32 ← Prog.lift (.load arg17 (g.scrR k).toLoadRect (View.loadsAt_vmem h_S32x128))
  Prog.lift (.store arg17 (g.scrR k) (k0_pay75 (k0_pay17 v21 v26 (t k) (k0_pay15 rq m1 m2 w y x r) b)) Finset.univ
    (View.stores_vmem_bits_univ h_S32x128 rfl) (.inl rfl))
  pure (k0_pay74 acc (k0_pay17 v21 v26 (t k) (k0_pay15 rq m1 m2 w y x r) b))

/-- What the second pass carries and writes. -/
structure St2 (F : FTy → Type) (arg9 : Memref sig .tc .vmem S128x8192 .bf16) (arg17 : Memref sig .tc .vmem S32x8192 .f32)
    (arg21 : Memref sig .tc .vmem S8x8192 .f32) where
  acc : FVec F S32x128 .f32
  f9 : Con F arg9
  f17 : Con F arg17
  f21 : Con F arg21

/-- The input gradient's tile, before rounding. -/
def grad2 (rq m1 m2 : FVec F S32x128 .f32) (X2 : Con F arg2) (X8 : Con F arg8) (X15 : Con F arg15) (X16 : Con F arg16) (k : Fin n) : FVec F S32x128 .f32 :=
  k0_pay15 rq m1 m2 (View.readAt (Elt F) arg8.view (g.rowR k).toLoadRect X8) (View.readAt (Elt F) arg15.view (g.scrR k).toLoadRect X15)
    (View.readAt (Elt F) arg16.view (g.scrR k).toLoadRect X16) (View.readAt (Elt F) arg2.view (g.tileR k).toLoadRect X2)

/-- The masked gradient's tile. -/
def masked2 (v21 : IVec S8x128 32) (v26 : IVec S32x128 32) (rq m1 m2 : FVec F S32x128 .f32) (t : Fin n → BitVec 32) (X2 : Con F arg2) (X3 : Con F arg3)
    (X8 : Con F arg8) (X15 : Con F arg15) (X16 : Con F arg16) (k : Fin n) : FVec F S32x128 .f32 :=
  k0_pay17 v21 v26 (t k) (grad2 g arg2 arg8 arg15 arg16 rq m1 m2 X2 X8 X15 X16 k) (View.readAt (Elt F) arg3.view (g.mskR k).toLoadRect X3)

/-- What a trip of the second pass leaves, from what it finds. -/
def trip2 (v21 : IVec S8x128 32) (v26 : IVec S32x128 32) (rq m1 m2 : FVec F S32x128 .f32) (t : Fin n → BitVec 32) (X2 : Con F arg2) (X3 : Con F arg3)
    (X8 : Con F arg8) (X15 : Con F arg15) (X16 : Con F arg16) (k : Fin n) (s : St2 F arg9 arg17 arg21) : St2 F arg9 arg17 arg21 where
  acc := k0_pay74 s.acc (masked2 g arg2 arg3 arg8 arg15 arg16 v21 v26 rq m1 m2 t X2 X3 X8 X15 X16 k)
  f9 := arg9.view.writes (Elt F) s.f9 [⟨g.tileR k, k0_pay16 rq m1 m2 (View.readAt (Elt F) arg8.view (g.rowR k).toLoadRect X8)
    (View.readAt (Elt F) arg15.view (g.scrR k).toLoadRect X15)
    (View.readAt (Elt F) arg16.view (g.scrR k).toLoadRect X16) (View.readAt (Elt F) arg2.view (g.tileR k).toLoadRect X2)⟩]
  f17 := arg17.view.writes (Elt F) s.f17 [⟨g.scrR k, k0_pay75 (masked2 g arg2 arg3 arg8 arg15 arg16 v21 v26 rq m1 m2 t X2 X3 X8 X15 X16 k)⟩]
  f21 := arg21.view.writes (Elt F) s.f21 [⟨g.accR k, k0_pay73 (k0_pay18 v21 v26 (t k) (grad2 g arg2 arg8 arg15 arg16 rq m1 m2 X2 X8 X15 X16 k)
    (View.readAt (Elt F) arg3.view (g.mskR k).toLoadRect X3) (View.readAt (Elt F) arg21.view (g.accR k).toLoadRect s.f21))⟩]

/-- Trip `k` of the second pass as a step of the count; past the last trip, nothing. -/
@[irreducible] def next2 (v21 : IVec S8x128 32) (v26 : IVec S32x128 32) (rq m1 m2 : FVec F S32x128 .f32) (t : Fin n → BitVec 32) (X2 : Con F arg2) (X3 : Con F arg3)
    (X8 : Con F arg8) (X15 : Con F arg15) (X16 : Con F arg16) (k : ℕ) (s : St2 F arg9 arg17 arg21) : St2 F arg9 arg17 arg21 :=
  if h : k < n then trip2 g arg2 arg3 arg8 arg9 arg15 arg16 arg17 arg21 v21 v26 rq m1 m2 t X2 X3 X8 X15 X16 ⟨k, h⟩ s else s

/-- The second pass before trip `k`. -/
def st2 (v21 : IVec S8x128 32) (v26 : IVec S32x128 32) (rq m1 m2 : FVec F S32x128 .f32) (t : Fin n → BitVec 32) (X2 : Con F arg2) (X3 : Con F arg3)
    (X8 : Con F arg8) (X15 : Con F arg15) (X16 : Con F arg16) (s : St2 F arg9 arg17 arg21) : ℕ → St2 F arg9 arg17 arg21
  | 0 => s
  | k + 1 => next2 g arg2 arg3 arg8 arg9 arg15 arg16 arg17 arg21 v21 v26 rq m1 m2 t X2 X3 X8 X15 X16 k
      (st2 v21 v26 rq m1 m2 t X2 X3 X8 X15 X16 s k)

theorem st2_succ (v21 : IVec S8x128 32) (v26 : IVec S32x128 32) (rq m1 m2 : FVec F S32x128 .f32) (t : Fin n → BitVec 32) (X2 : Con F arg2) (X3 : Con F arg3)
    (X8 : Con F arg8) (X15 : Con F arg15) (X16 : Con F arg16) (s : St2 F arg9 arg17 arg21) (k : Fin n) :
    st2 g arg2 arg3 arg8 arg9 arg15 arg16 arg17 arg21 v21 v26 rq m1 m2 t X2 X3 X8 X15 X16 s (k.val + 1)
      = trip2 g arg2 arg3 arg8 arg9 arg15 arg16 arg17 arg21 v21 v26 rq m1 m2 t X2 X3 X8 X15 X16 k
        (st2 g arg2 arg3 arg8 arg9 arg15 arg16 arg17 arg21 v21 v26 rq m1 m2 t X2 X3 X8 X15 X16 s k) := by
  rw [st2, next2]; exact dif_pos k.isLt

/-- The second pass's resources at a state. -/
abbrev res2 (X2 : Con F arg2) (X3 : Con F arg3) (X8 : Con F arg8) (X15 : Con F arg15) (X16 : Con F arg16) (s : St2 F arg9 arg17 arg21) : sProp 𝕄 :=
  iprop(at_ c arg2 X2 ∗ at_ c arg3 X3 ∗ at_ c arg8 X8 ∗ at_ c arg15 X15 ∗ at_ c arg16 X16 ∗ at_ c arg9 s.f9 ∗ at_ c arg17 s.f17 ∗ at_ c arg21 s.f21)

set_option maxHeartbeats 1000000 in
theorem gen2_run (𝒱 : Variants) (bd : Option 𝒱.V) (E : Set ℕ) (hp : ∀ k, (g.tileR k).PackedRows (EltTy.packing .bf16)) (v21 : IVec S8x128 32)
    (v26 : IVec S32x128 32) (rq m1 m2 : FVec F S32x128 .f32) (t : Fin n → BitVec 32) (X2 : Con F arg2) (X3 : Con F arg3)
    (X8 : Con F arg8) (X15 : Con F arg15) (X16 : Con F arg16) (s : St2 F arg9 arg17 arg21) (k : Fin n) :
    res2 c arg2 arg3 arg8 arg9 arg15 arg16 arg17 arg21 X2 X3 X8 X15 X16 s ⊢ wp frame (wpE (defs₀ (F := F)) 𝒱 (c : Thread nD τ) bd) E
      (gen2 (F := F) g arg2 arg3 arg8 arg9 harg9 arg15 arg16 arg17 arg21 hp v21 v26 rq m1 m2 t k s.acc)
      (fun y => iprop(⌜y = (trip2 g arg2 arg3 arg8 arg9 arg15 arg16 arg17 arg21 v21 v26 rq m1 m2 t X2 X3 X8 X15 X16 k s).acc⌝
        ∗ res2 c arg2 arg3 arg8 arg9 arg15 arg16 arg17 arg21 X2 X3 X8 X15 X16
          (trip2 g arg2 arg3 arg8 arg9 arg15 arg16 arg17 arg21 v21 v26 rq m1 m2 t X2 X3 X8 X15 X16 k s))) := by
  unfold gen2
  iintro ⟨H2, H3, H8, H15, H16, H9, H17, H21⟩
  sl_exec
  sl_step
  isplitl []
  · ipureintro; rfl
  isplitl [H2]; · iexact H2
  isplitl [H3]; · iexact H3
  isplitl [H8]; · iexact H8
  isplitl [H15]; · iexact H15
  isplitl [H16]; · iexact H16
  isplitl [H9]; · iexact H9
  isplitl [H17]; · iexact H17
  iexact H21

/-! ## The third pass: the quantised codes -/

/-- A trip of the third pass. -/
def gen4 (hp : ∀ k, (g.tileR k).PackedRows (EltTy.packing .fp8e5m2)) (P : Vec F S32x128 .f32 → FVec F S32x128 .fp8e5m2) (k : Fin n) (_ : Unit) :
    Prog (TpuEff nD τ sig (Elt F) Λ₀ .tc) Unit := do
  let z : Vec F S32x128 .f32 ← Prog.lift (.load arg17 (g.scrR k).toLoadRect (View.loadsAt_vmem h_S32x128))
  let _o : Vec F S32x128 .fp8e5m2 ← Prog.lift (.load arg10 (g.tileR k).toLoadRect (View.loadsAt_vmem h_S32x128))
  Prog.lift (.store arg10 (g.tileR k) (P z) Finset.univ
    (View.stores_vmem h_S32x128 (harg10.storeExact_slice rfl _ (hp k)) (fun _ => rfl)) (.inl rfl))
  pure ⟨⟩

/-- What a trip of the third pass leaves, from what it finds. -/
def trip4 (P : Vec F S32x128 .f32 → FVec F S32x128 .fp8e5m2) (X17 : Con F arg17) (k : Fin n) (f : Con F arg10) : Con F arg10 :=
  arg10.view.writes (Elt F) f [⟨g.tileR k, P (View.readAt (Elt F) arg17.view (g.scrR k).toLoadRect X17)⟩]

/-- Trip `k` of the third pass as a step of the count; past the last trip, nothing. -/
@[irreducible] def next4 (P : Vec F S32x128 .f32 → FVec F S32x128 .fp8e5m2) (X17 : Con F arg17) (k : ℕ) (f : Con F arg10) : Con F arg10 :=
  if h : k < n then trip4 g arg10 arg17 P X17 ⟨k, h⟩ f else f

/-- The third pass before trip `k`. -/
def st4 (P : Vec F S32x128 .f32 → FVec F S32x128 .fp8e5m2) (X17 : Con F arg17) (f : Con F arg10) : ℕ → Con F arg10
  | 0 => f
  | k + 1 => next4 g arg10 arg17 P X17 k (st4 P X17 f k)

theorem st4_succ (P : Vec F S32x128 .f32 → FVec F S32x128 .fp8e5m2) (X17 : Con F arg17) (f : Con F arg10) (k : Fin n) :
    st4 g arg10 arg17 P X17 f (k.val + 1) = trip4 g arg10 arg17 P X17 k (st4 g arg10 arg17 P X17 f k) := by
  rw [st4, next4]; exact dif_pos k.isLt

theorem gen4_run (𝒱 : Variants) (bd : Option 𝒱.V) (E : Set ℕ) (hp : ∀ k, (g.tileR k).PackedRows (EltTy.packing .fp8e5m2)) (P : Vec F S32x128 .f32 → FVec F S32x128 .fp8e5m2)
    (X17 : Con F arg17) (f : Con F arg10) (k : Fin n) (u : Unit) :
    iprop(at_ c arg17 X17 ∗ at_ c arg10 f) ⊢ wp frame (wpE (defs₀ (F := F)) 𝒱 (c : Thread nD τ) bd) E
      (gen4 (F := F) g arg10 harg10 arg17 hp P k u) (fun _ => iprop(at_ c arg17 X17 ∗ at_ c arg10 (trip4 g arg10 arg17 P X17 k f))) := by
  unfold gen4
  iintro ⟨H17, H10⟩
  sl_exec
  sl_step
  isplitl [H17]; · iexact H17
  iexact H10

/-! ## The loops' invariants -/

/-- The first pass's invariant: what it reads, what it has written, and what it carries. -/
abbrev inv1 (sq mq rq : FVec F S32x128 .f32) (X1 : Con F arg1) (X4 : Con F arg4) (X8 : Con F arg8) (s : St1 F arg15 arg16 arg19 arg20) (k : ℕ)
    (acc : FVec F S32x128 .f32 × FVec F S32x128 .f32) : sProp 𝕄 :=
  iprop(at_ c arg1 X1 ∗ at_ c arg4 X4 ∗ at_ c arg8 X8
    ∗ (∃ f, at_ c arg15 f ∗ ⌜f = (st1 g arg1 arg4 arg8 arg15 arg16 arg19 arg20 sq mq rq X1 X4 X8 s k).f15⌝)
    ∗ (∃ f, at_ c arg16 f ∗ ⌜f = (st1 g arg1 arg4 arg8 arg15 arg16 arg19 arg20 sq mq rq X1 X4 X8 s k).f16⌝)
    ∗ (∃ f, at_ c arg19 f ∗ ⌜f = (st1 g arg1 arg4 arg8 arg15 arg16 arg19 arg20 sq mq rq X1 X4 X8 s k).f19⌝)
    ∗ (∃ f, at_ c arg20 f ∗ ⌜f = (st1 g arg1 arg4 arg8 arg15 arg16 arg19 arg20 sq mq rq X1 X4 X8 s k).f20⌝)
    ∗ ⌜acc = (st1 g arg1 arg4 arg8 arg15 arg16 arg19 arg20 sq mq rq X1 X4 X8 s k).acc⌝)

theorem step1 (𝒱 : Variants) (bd : Option 𝒱.V) (E : Set ℕ) (sq mq rq : FVec F S32x128 .f32) (X1 : Con F arg1) (X4 : Con F arg4) (X8 : Con F arg8)
    (s : St1 F arg15 arg16 arg19 arg20) (k : Fin n) (acc : FVec F S32x128 .f32 × FVec F S32x128 .f32) :
    inv1 c g arg1 arg4 arg8 arg15 arg16 arg19 arg20 sq mq rq X1 X4 X8 s k acc ⊢ wp frame (wpE (defs₀ (F := F)) 𝒱 (c : Thread nD τ) bd) E
      (gen1 (F := F) g arg1 arg4 arg8 arg15 arg16 arg19 arg20 sq mq rq k acc)
      (inv1 c g arg1 arg4 arg8 arg15 arg16 arg19 arg20 sq mq rq X1 X4 X8 s (k.val + 1)) := by
  iintro ⟨H1, H4, H8, ⟨%f15, H15, %h15⟩, ⟨%f16, H16, %h16⟩, ⟨%f19, H19, %h19⟩, ⟨%f20, H20, %h20⟩, %hacc⟩
  subst h15 h16 h19 h20 hacc
  iapply (wp_wand_r Idealize.ShloMosaic.frame (wpE (defs₀ (F := F)) 𝒱 (c : Thread nD τ) bd) E)
  isplitl [H1 H4 H8 H15 H16 H19 H20]
  · iapply (gen1_run c g arg1 arg4 arg8 arg15 arg16 arg19 arg20 𝒱 bd E sq mq rq X1 X4 X8 (st1 g arg1 arg4 arg8 arg15 arg16 arg19 arg20 sq mq rq X1 X4 X8 s k) k)
    isplitl [H1]; · iexact H1
    isplitl [H4]; · iexact H4
    isplitl [H8]; · iexact H8
    isplitl [H15]; · iexact H15
    isplitl [H16]; · iexact H16
    isplitl [H19]; · iexact H19
    iexact H20
  · iintro %y ⟨%hy, H1, H4, H8, H15, H16, H19, H20⟩
    isplitl [H1]; · iexact H1
    isplitl [H4]; · iexact H4
    isplitl [H8]; · iexact H8
    simp only [st1_succ]
    isplitl [H15]
    · iexists _; isplitl [H15]; · iexact H15
      ipureintro; rfl
    isplitl [H16]
    · iexists _; isplitl [H16]; · iexact H16
      ipureintro; rfl
    isplitl [H19]
    · iexists _; isplitl [H19]; · iexact H19
      ipureintro; rfl
    isplitl [H20]
    · iexists _; isplitl [H20]; · iexact H20
      ipureintro; rfl
    ipureintro; exact hy

/-- The second pass's invariant. -/
abbrev inv2 (v21 : IVec S8x128 32) (v26 : IVec S32x128 32) (rq m1 m2 : FVec F S32x128 .f32) (t : Fin n → BitVec 32) (X2 : Con F arg2) (X3 : Con F arg3)
    (X8 : Con F arg8) (X15 : Con F arg15) (X16 : Con F arg16) (s : St2 F arg9 arg17 arg21) (k : ℕ) (acc : FVec F S32x128 .f32) : sProp 𝕄 :=
  iprop(at_ c arg2 X2 ∗ at_ c arg3 X3 ∗ at_ c arg8 X8 ∗ at_ c arg15 X15 ∗ at_ c arg16 X16
    ∗ (∃ f, at_ c arg9 f ∗ ⌜f = (st2 g arg2 arg3 arg8 arg9 arg15 arg16 arg17 arg21 v21 v26 rq m1 m2 t X2 X3 X8 X15 X16 s k).f9⌝)
    ∗ (∃ f, at_ c arg17 f ∗ ⌜f = (st2 g arg2 arg3 arg8 arg9 arg15 arg16 arg17 arg21 v21 v26 rq m1 m2 t X2 X3 X8 X15 X16 s k).f17⌝)
    ∗ (∃ f, at_ c arg21 f ∗ ⌜f = (st2 g arg2 arg3 arg8 arg9 arg15 arg16 arg17 arg21 v21 v26 rq m1 m2 t X2 X3 X8 X15 X16 s k).f21⌝)
    ∗ ⌜acc = (st2 g arg2 arg3 arg8 arg9 arg15 arg16 arg17 arg21 v21 v26 rq m1 m2 t X2 X3 X8 X15 X16 s k).acc⌝)

theorem step2 (𝒱 : Variants) (bd : Option 𝒱.V) (E : Set ℕ) (hp : ∀ k, (g.tileR k).PackedRows (EltTy.packing .bf16)) (v21 : IVec S8x128 32)
    (v26 : IVec S32x128 32) (rq m1 m2 : FVec F S32x128 .f32) (t : Fin n → BitVec 32) (X2 : Con F arg2) (X3 : Con F arg3)
    (X8 : Con F arg8) (X15 : Con F arg15) (X16 : Con F arg16) (s : St2 F arg9 arg17 arg21) (k : Fin n) (acc : FVec F S32x128 .f32) :
    inv2 c g arg2 arg3 arg8 arg9 arg15 arg16 arg17 arg21 v21 v26 rq m1 m2 t X2 X3 X8 X15 X16 s k acc
      ⊢ wp frame (wpE (defs₀ (F := F)) 𝒱 (c : Thread nD τ) bd) E
      (gen2 (F := F) g arg2 arg3 arg8 arg9 harg9 arg15 arg16 arg17 arg21 hp v21 v26 rq m1 m2 t k acc)
      (inv2 c g arg2 arg3 arg8 arg9 arg15 arg16 arg17 arg21 v21 v26 rq m1 m2 t X2 X3 X8 X15 X16 s (k.val + 1)) := by
  iintro ⟨H2, H3, H8, H15, H16, ⟨%f9, H9, %h9⟩, ⟨%f17, H17, %h17⟩, ⟨%f21, H21, %h21⟩, %hacc⟩
  subst h9 h17 h21 hacc
  iapply (wp_wand_r Idealize.ShloMosaic.frame (wpE (defs₀ (F := F)) 𝒱 (c : Thread nD τ) bd) E)
  isplitl [H2 H3 H8 H15 H16 H9 H17 H21]
  · iapply (gen2_run c g arg2 arg3 arg8 arg9 harg9 arg15 arg16 arg17 arg21 𝒱 bd E hp v21 v26 rq m1 m2 t X2 X3 X8 X15 X16
      (st2 g arg2 arg3 arg8 arg9 arg15 arg16 arg17 arg21 v21 v26 rq m1 m2 t X2 X3 X8 X15 X16 s k) k)
    isplitl [H2]; · iexact H2
    isplitl [H3]; · iexact H3
    isplitl [H8]; · iexact H8
    isplitl [H15]; · iexact H15
    isplitl [H16]; · iexact H16
    isplitl [H9]; · iexact H9
    isplitl [H17]; · iexact H17
    iexact H21
  · iintro %y ⟨%hy, H2, H3, H8, H15, H16, H9, H17, H21⟩
    isplitl [H2]; · iexact H2
    isplitl [H3]; · iexact H3
    isplitl [H8]; · iexact H8
    isplitl [H15]; · iexact H15
    isplitl [H16]; · iexact H16
    simp only [st2_succ]
    isplitl [H9]
    · iexists _; isplitl [H9]; · iexact H9
      ipureintro; rfl
    isplitl [H17]
    · iexists _; isplitl [H17]; · iexact H17
      ipureintro; rfl
    isplitl [H21]
    · iexists _; isplitl [H21]; · iexact H21
      ipureintro; rfl
    ipureintro; exact hy

/-- The third pass's invariant. -/
abbrev inv4 (P : Vec F S32x128 .f32 → FVec F S32x128 .fp8e5m2) (X17 : Con F arg17) (f : Con F arg10) (k : ℕ) (_ : Unit) : sProp 𝕄 :=
  iprop(at_ c arg17 X17 ∗ (∃ f', at_ c arg10 f' ∗ ⌜f' = st4 g arg10 arg17 P X17 f k⌝))

theorem step4 (𝒱 : Variants) (bd : Option 𝒱.V) (E : Set ℕ) (hp : ∀ k, (g.tileR k).PackedRows (EltTy.packing .fp8e5m2))
    (P : Vec F S32x128 .f32 → FVec F S32x128 .fp8e5m2) (X17 : Con F arg17) (f : Con F arg10) (k : Fin n) (u : Unit) :
    inv4 c g arg10 arg17 P X17 f k u ⊢ wp frame (wpE (defs₀ (F := F)) 𝒱 (c : Thread nD τ) bd) E
      (gen4 (F := F) g arg10 harg10 arg17 hp P k u) (inv4 c g arg10 arg17 P X17 f (k.val + 1)) := by
  iintro ⟨H17, ⟨%f10, H10, %h10⟩⟩
  subst h10
  iapply (wp_wand_r Idealize.ShloMosaic.frame (wpE (defs₀ (F := F)) 𝒱 (c : Thread nD τ) bd) E)
  isplitl [H17 H10]
  · iapply (gen4_run c g arg10 harg10 arg17 𝒱 bd E hp P X17 (st4 g arg10 arg17 P X17 f k) k u)
    isplitl [H17]; · iexact H17
    iexact H10
  · iintro %y ⟨H17, H10⟩
    isplitl [H17]; · iexact H17
    simp only [st4_succ]
    iexists _; isplitl [H10]; · iexact H10
    ipureintro; rfl

end Cert.KernelIdeal.Hand
-- ==== Proof.Invs.lean ====
/- The kernel's twelve loops that touch memory, each by its invariant.

   Four row groups, three loops each. Each loop's region is the trip of `Trips` at the group's offsets. -/
module

public import proofs.«01_k».proof.Proof.Trips

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- Row group 0: rows 0 to 31. -/
def geo0 : Geo k0_t1_loop.trips where
  tile := k0_off2
  tile_inb := k0_off2_inb
  row := k0_off3
  row_inb := k0_off3_inb
  acc := k0_off4
  acc_inb := k0_off4_inb
  scr := k0_off5
  scr_inb := k0_off5_inb
  msk := k0_off9
  msk_inb := k0_off9_inb

/-- The tiles of row group 0 start on whole words. -/
theorem geo0_p16 (k : Fin k0_t1_loop.trips) : (geo0.tileR k).PackedRows (EltTy.packing .bf16) := k0_off8_packedbf16 k
theorem geo0_p8 (k : Fin k0_t1_loop.trips) : (geo0.tileR k).PackedRows (EltTy.packing .fp8e5m2) := k0_off12_packedfp8e5m2 k

/-- Row group 1: rows 32 to 63. -/
def geo1 : Geo k0_t5_loop.trips where
  tile := k0_off13
  tile_inb := k0_off13_inb
  row := k0_off14
  row_inb := k0_off14_inb
  acc := k0_off15
  acc_inb := k0_off15_inb
  scr := k0_off16
  scr_inb := k0_off16_inb
  msk := k0_off20
  msk_inb := k0_off20_inb

/-- The tiles of row group 1 start on whole words. -/
theorem geo1_p16 (k : Fin k0_t5_loop.trips) : (geo1.tileR k).PackedRows (EltTy.packing .bf16) := k0_off19_packedbf16 k
theorem geo1_p8 (k : Fin k0_t5_loop.trips) : (geo1.tileR k).PackedRows (EltTy.packing .fp8e5m2) := k0_off23_packedfp8e5m2 k

/-- Row group 2: rows 64 to 95. -/
def geo2 : Geo k0_t9_loop.trips where
  tile := k0_off24
  tile_inb := k0_off24_inb
  row := k0_off25
  row_inb := k0_off25_inb
  acc := k0_off26
  acc_inb := k0_off26_inb
  scr := k0_off27
  scr_inb := k0_off27_inb
  msk := k0_off31
  msk_inb := k0_off31_inb

/-- The tiles of row group 2 start on whole words. -/
theorem geo2_p16 (k : Fin k0_t9_loop.trips) : (geo2.tileR k).PackedRows (EltTy.packing .bf16) := k0_off30_packedbf16 k
theorem geo2_p8 (k : Fin k0_t9_loop.trips) : (geo2.tileR k).PackedRows (EltTy.packing .fp8e5m2) := k0_off34_packedfp8e5m2 k

/-- Row group 3: rows 96 to 127. -/
def geo3 : Geo k0_t13_loop.trips where
  tile := k0_off35
  tile_inb := k0_off35_inb
  row := k0_off36
  row_inb := k0_off36_inb
  acc := k0_off37
  acc_inb := k0_off37_inb
  scr := k0_off38
  scr_inb := k0_off38_inb
  msk := k0_off42
  msk_inb := k0_off42_inb

/-- The tiles of row group 3 start on whole words. -/
theorem geo3_p16 (k : Fin k0_t13_loop.trips) : (geo3.tileR k).PackedRows (EltTy.packing .bf16) := k0_off41_packedbf16 k
theorem geo3_p8 (k : Fin k0_t13_loop.trips) : (geo3.tileR k).PackedRows (EltTy.packing .fp8e5m2) := k0_off45_packedfp8e5m2 k

/-- The tile a trip is at, as the word the program counts in. -/
abbrev word {n : ℕ} (k : Fin n) : BitVec 32 := Scf.iv 0#32 1#32 k

variable (𝒱 : Variants) (c : Dev nD) (bd : Option 𝒱.V) (E : Set ℕ) (i : grid0.Coords) (arg1 : Memref sig .tc .vmem S128x8192 .fp8e5m2) (harg1 : arg1.IsWhole) (arg2 : Memref sig .tc .vmem S128x8192 .bf16) (harg2 : arg2.IsWhole) (arg3 : Memref sig .tc .vmem S128x1024 .i8) (harg3 : arg3.IsWhole) (arg4 : Memref sig .tc .vmem S128x8192 .bf16) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S1x8192 .f32) (harg8 : arg8.IsWhole) (arg9 : Memref sig .tc .vmem S128x8192 .bf16) (harg9 : arg9.IsWhole) (arg10 : Memref sig .tc .vmem S128x8192 .fp8e5m2) (harg10 : arg10.IsWhole) (arg11 : Memref sig .tc .vmem S16x128 .f32) (harg11 : arg11.IsWhole) (arg12 : Memref sig .tc .vmem S1x8192 .f32) (harg12 : arg12.IsWhole) (arg13 : Memref sig .tc .vmem S1x8192 .f32) (harg13 : arg13.IsWhole) (arg14 : Memref sig .tc .vmem S1x8192 .f32) (harg14 : arg14.IsWhole) (arg15 : Memref sig .tc .vmem S32x8192 .f32) (harg15 : arg15.IsWhole) (arg16 : Memref sig .tc .vmem S32x8192 .f32) (harg16 : arg16.IsWhole) (arg17 : Memref sig .tc .vmem S32x8192 .f32) (harg17 : arg17.IsWhole) (arg18 : Memref sig .tc .vmem S128x128 .f32) (harg18 : arg18.IsWhole) (arg19 : Memref sig .tc .vmem S8x8192 .f32) (harg19 : arg19.IsWhole) (arg20 : Memref sig .tc .vmem S8x8192 .f32) (harg20 : arg20.IsWhole) (arg21 : Memref sig .tc .vmem S8x8192 .f32) (harg21 : arg21.IsWhole)

set_option warn.classDefReducibility false in
@[sl_loop] def loop1 (v4 : Vec F S1x128 .f32) (v10 : Vec F S1x128 .f32) (v16 : Vec F S1x128 .f32) (X1 : Con F arg1) (X4 : Con F arg4) (X8 : Con F arg8) (G15 : Con F arg15) (G16 : Con F arg16) (G19 : Con F arg19) (G20 : Con F arg20) (init : FVec F S32x128 .f32 × FVec F S32x128 .f32) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok init (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v10 v16) where
  inv := inv1 c geo0 arg1 arg4 arg8 arg15 arg16 arg19 arg20 (k0_pay62 v4) (k0_pay63 v10) (k0_pay64 v16) X1 X4 X8 ⟨init, G15, G16, G19, G20⟩
  step k acc := step1 c geo0 arg1 arg4 arg8 arg15 arg16 arg19 arg20 𝒱 bd E (k0_pay62 v4) (k0_pay63 v10) (k0_pay64 v16) X1 X4 X8 ⟨init, G15, G16, G19, G20⟩ k acc

set_option warn.classDefReducibility false in
@[sl_loop] def loop2 (v8 : FVec F S128x128 .f32) (v21 : IVec S8x128 32) (v26 : IVec S32x128 32) (v29 : FVec F S32x128 .f32) (v38 : FVec F S32x128 .f32) (v42 : FVec F S32x128 .f32) (X2 : Con F arg2) (X3 : Con F arg3) (X8 : Con F arg8) (X15 : Con F arg15) (X16 : Con F arg16) (G9 : Con F arg9) (G17 : Con F arg17) (G21 : Con F arg21) (init : FVec F S32x128 .f32) :
    Idealize.ShloMosaic.LoopInv (M := 𝕄) Idealize.ShloMosaic.frame (wpE (defs₀ (F := F)) 𝒱 (c : Thread nD τ) bd) E
      k0_t2_loop.lb k0_t2_loop.ub k0_t2_loop.st k0_t2_ok init (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v21 v26 v29 v38 v42) where
  inv := inv2 c geo0 arg2 arg3 arg8 arg9 arg15 arg16 arg17 arg21 v21 v26 v29 v38 (k0_pay71 v42) word X2 X3 X8 X15 X16 ⟨init, G9, G17, G21⟩
  step k acc := step2 c geo0 arg2 arg3 arg8 arg9 harg9 arg15 arg16 arg17 arg21 𝒱 bd E geo0_p16 v21 v26 v29 v38 (k0_pay71 v42) word X2 X3 X8 X15 X16 ⟨init, G9, G17, G21⟩ k acc

set_option warn.classDefReducibility false in
@[sl_loop] def loop4 (v8 : FVec F S128x128 .f32) (v21 : IVec S8x128 32) (v26 : IVec S32x128 32) (v29 : FVec F S32x128 .f32) (v38 : FVec F S32x128 .f32) (v42 : FVec F S32x128 .f32) (v56 : IVec S32x128 32) (X17 : Con F arg17) (G10 : Con F arg10) :
    Idealize.ShloMosaic.LoopInv (M := 𝕄) Idealize.ShloMosaic.frame (wpE (defs₀ (F := F)) 𝒱 (c : Thread nD τ) bd) E
      k0_t4_loop.lb k0_t4_loop.ub k0_t4_loop.st k0_t4_ok () (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v21 v26 v29 v38 v42 v56) where
  inv := inv4 c geo0 arg10 arg17 (k0_pay80 v56) X17 G10
  step k acc := step4 c geo0 arg10 harg10 arg17 𝒱 bd E geo0_p8 (k0_pay80 v56) X17 G10 k acc

set_option warn.classDefReducibility false in
@[sl_loop] def loop5 (v14 : FVec F S128x128 .f32) (v20 : FVec F S128x128 .f32) (v21 : IVec S8x128 32) (v26 : IVec S32x128 32) (v75 : FVec F S32x128 .f32) (X1 : Con F arg1) (X4 : Con F arg4) (X8 : Con F arg8) (G15 : Con F arg15) (G16 : Con F arg16) (G19 : Con F arg19) (G20 : Con F arg20) (init : FVec F S32x128 .f32 × FVec F S32x128 .f32) :
    Idealize.ShloMosaic.LoopInv (M := 𝕄) Idealize.ShloMosaic.frame (wpE (defs₀ (F := F)) 𝒱 (c : Thread nD τ) bd) E
      k0_t5_loop.lb k0_t5_loop.ub k0_t5_loop.st k0_t5_ok init (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v14 v20 v21 v26 v75) where
  inv := inv1 c geo1 arg1 arg4 arg8 arg15 arg16 arg19 arg20 v75 (k0_pay82 v14) (k0_pay83 v20) X1 X4 X8 ⟨init, G15, G16, G19, G20⟩
  step k acc := step1 c geo1 arg1 arg4 arg8 arg15 arg16 arg19 arg20 𝒱 bd E v75 (k0_pay82 v14) (k0_pay83 v20) X1 X4 X8 ⟨init, G15, G16, G19, G20⟩ k acc

set_option warn.classDefReducibility false in
@[sl_loop] def loop6 (v14 : FVec F S128x128 .f32) (v20 : FVec F S128x128 .f32) (v21 : IVec S8x128 32) (v26 : IVec S32x128 32) (v75 : FVec F S32x128 .f32) (v80_0 : FVec F S32x128 .f32) (v80_1 : FVec F S32x128 .f32) (X2 : Con F arg2) (X3 : Con F arg3) (X8 : Con F arg8) (X15 : Con F arg15) (X16 : Con F arg16) (G9 : Con F arg9) (G17 : Con F arg17) (G21 : Con F arg21) (init : FVec F S32x128 .f32) :
    Idealize.ShloMosaic.LoopInv (M := 𝕄) Idealize.ShloMosaic.frame (wpE (defs₀ (F := F)) 𝒱 (c : Thread nD τ) bd) E
      k0_t6_loop.lb k0_t6_loop.ub k0_t6_loop.st k0_t6_ok init (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v14 v20 v21 v26 v75 v80_0 v80_1) where
  inv := inv2 c geo1 arg2 arg3 arg8 arg9 arg15 arg16 arg17 arg21 v21 v26 (k0_pay83 v20) (k0_pay88 v80_0) (k0_pay89 v80_1) word X2 X3 X8 X15 X16 ⟨init, G9, G17, G21⟩
  step k acc := step2 c geo1 arg2 arg3 arg8 arg9 harg9 arg15 arg16 arg17 arg21 𝒱 bd E geo1_p16 v21 v26 (k0_pay83 v20) (k0_pay88 v80_0) (k0_pay89 v80_1) word X2 X3 X8 X15 X16 ⟨init, G9, G17, G21⟩ k acc

set_option warn.classDefReducibility false in
@[sl_loop] def loop8 (v8 : FVec F S128x128 .f32) (v14 : FVec F S128x128 .f32) (v20 : FVec F S128x128 .f32) (v21 : IVec S8x128 32) (v26 : IVec S32x128 32) (v110 : IVec S32x128 32) (c23_i32_54 : BitVec 32) (X17 : Con F arg17) (G10 : Con F arg10) :
    Idealize.ShloMosaic.LoopInv (M := 𝕄) Idealize.ShloMosaic.frame (wpE (defs₀ (F := F)) 𝒱 (c : Thread nD τ) bd) E
      k0_t8_loop.lb k0_t8_loop.ub k0_t8_loop.st k0_t8_ok () (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 v21 v26 v110 c23_i32_54) where
  inv := inv4 c geo1 arg10 arg17 (k0_pay98 v110) X17 G10
  step k acc := step4 c geo1 arg10 harg10 arg17 𝒱 bd E geo1_p8 (k0_pay98 v110) X17 G10 k acc

set_option warn.classDefReducibility false in
@[sl_loop] def loop9 (v8 : FVec F S128x128 .f32) (v14 : FVec F S128x128 .f32) (v20 : FVec F S128x128 .f32) (v21 : IVec S8x128 32) (v26 : IVec S32x128 32) (v110 : IVec S32x128 32) (c23_i32_54 : BitVec 32) (X1 : Con F arg1) (X4 : Con F arg4) (X8 : Con F arg8) (G15 : Con F arg15) (G16 : Con F arg16) (G19 : Con F arg19) (G20 : Con F arg20) (init : FVec F S32x128 .f32 × FVec F S32x128 .f32) :
    Idealize.ShloMosaic.LoopInv (M := 𝕄) Idealize.ShloMosaic.frame (wpE (defs₀ (F := F)) 𝒱 (c : Thread nD τ) bd) E
      k0_t9_loop.lb k0_t9_loop.ub k0_t9_loop.st k0_t9_ok init (k0_t9_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 v21 v26 v110 c23_i32_54) where
  inv := inv1 c geo2 arg1 arg4 arg8 arg15 arg16 arg19 arg20 (k0_pay99 v8) (k0_pay100 v14) (k0_pay101 v20) X1 X4 X8 ⟨init, G15, G16, G19, G20⟩
  step k acc := step1 c geo2 arg1 arg4 arg8 arg15 arg16 arg19 arg20 𝒱 bd E (k0_pay99 v8) (k0_pay100 v14) (k0_pay101 v20) X1 X4 X8 ⟨init, G15, G16, G19, G20⟩ k acc

set_option warn.classDefReducibility false in
@[sl_loop] def loop10 (v8 : FVec F S128x128 .f32) (v14 : FVec F S128x128 .f32) (v20 : FVec F S128x128 .f32) (v21 : IVec S8x128 32) (v26 : IVec S32x128 32) (v110 : IVec S32x128 32) (c23_i32_54 : BitVec 32) (v128_0 : FVec F S32x128 .f32) (v128_1 : FVec F S32x128 .f32) (X2 : Con F arg2) (X3 : Con F arg3) (X8 : Con F arg8) (X15 : Con F arg15) (X16 : Con F arg16) (G9 : Con F arg9) (G17 : Con F arg17) (G21 : Con F arg21) (init : FVec F S32x128 .f32) :
    Idealize.ShloMosaic.LoopInv (M := 𝕄) Idealize.ShloMosaic.frame (wpE (defs₀ (F := F)) 𝒱 (c : Thread nD τ) bd) E
      k0_t10_loop.lb k0_t10_loop.ub k0_t10_loop.st k0_t10_ok init (k0_t10_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 v21 v26 v110 c23_i32_54 v128_0 v128_1) where
  inv := inv2 c geo2 arg2 arg3 arg8 arg9 arg15 arg16 arg17 arg21 v21 v26 (k0_pay101 v20) (k0_pay106 v128_0) (k0_pay107 v128_1) word X2 X3 X8 X15 X16 ⟨init, G9, G17, G21⟩
  step k acc := step2 c geo2 arg2 arg3 arg8 arg9 harg9 arg15 arg16 arg17 arg21 𝒱 bd E geo2_p16 v21 v26 (k0_pay101 v20) (k0_pay106 v128_0) (k0_pay107 v128_1) word X2 X3 X8 X15 X16 ⟨init, G9, G17, G21⟩ k acc

set_option warn.classDefReducibility false in
@[sl_loop] def loop12 (v8 : FVec F S128x128 .f32) (v14 : FVec F S128x128 .f32) (v20 : FVec F S128x128 .f32) (v145 : FVec F S32x1 .f32) (v152 : IVec S32x128 32) (X17 : Con F arg17) (G10 : Con F arg10) :
    Idealize.ShloMosaic.LoopInv (M := 𝕄) Idealize.ShloMosaic.frame (wpE (defs₀ (F := F)) 𝒱 (c : Thread nD τ) bd) E
      k0_t12_loop.lb k0_t12_loop.ub k0_t12_loop.st k0_t12_ok () (k0_t12_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 v145 v152) where
  inv := inv4 c geo2 arg10 arg17 (k0_pay117 v152) X17 G10
  step k acc := step4 c geo2 arg10 harg10 arg17 𝒱 bd E geo2_p8 (k0_pay117 v152) X17 G10 k acc

set_option warn.classDefReducibility false in
@[sl_loop] def loop13 (v8 : FVec F S128x128 .f32) (v14 : FVec F S128x128 .f32) (v20 : FVec F S128x128 .f32) (v145 : FVec F S32x1 .f32) (X1 : Con F arg1) (X4 : Con F arg4) (X8 : Con F arg8) (G15 : Con F arg15) (G16 : Con F arg16) (G19 : Con F arg19) (G20 : Con F arg20) (init : FVec F S32x128 .f32 × FVec F S32x128 .f32) :
    Idealize.ShloMosaic.LoopInv (M := 𝕄) Idealize.ShloMosaic.frame (wpE (defs₀ (F := F)) 𝒱 (c : Thread nD τ) bd) E
      k0_t13_loop.lb k0_t13_loop.ub k0_t13_loop.st k0_t13_ok init (k0_t13_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 v145) where
  inv := inv1 c geo3 arg1 arg4 arg8 arg15 arg16 arg19 arg20 (k0_pay118 v8) (k0_pay119 v14) (k0_pay120 v20) X1 X4 X8 ⟨init, G15, G16, G19, G20⟩
  step k acc := step1 c geo3 arg1 arg4 arg8 arg15 arg16 arg19 arg20 𝒱 bd E (k0_pay118 v8) (k0_pay119 v14) (k0_pay120 v20) X1 X4 X8 ⟨init, G15, G16, G19, G20⟩ k acc

set_option warn.classDefReducibility false in
@[sl_loop] def loop14 (v21 : IVec S8x128 32) (v26 : IVec S32x128 32) (v173 : FVec F S32x128 .f32) (v176_1 : FVec F S32x128 .f32) (v179 : FVec F S32x1 .f32) (X2 : Con F arg2) (X3 : Con F arg3) (X8 : Con F arg8) (X15 : Con F arg15) (X16 : Con F arg16) (G9 : Con F arg9) (G17 : Con F arg17) (G21 : Con F arg21) (init : FVec F S32x128 .f32) :
    Idealize.ShloMosaic.LoopInv (M := 𝕄) Idealize.ShloMosaic.frame (wpE (defs₀ (F := F)) 𝒱 (c : Thread nD τ) bd) E
      k0_t14_loop.lb k0_t14_loop.ub k0_t14_loop.st k0_t14_ok init (k0_t14_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v21 v26 v173 v176_1 v179) where
  inv := inv2 c geo3 arg2 arg3 arg8 arg9 arg15 arg16 arg17 arg21 v21 v26 v173 (k0_pay126 v179) (k0_pay127 v176_1) word X2 X3 X8 X15 X16 ⟨init, G9, G17, G21⟩
  step k acc := step2 c geo3 arg2 arg3 arg8 arg9 harg9 arg15 arg16 arg17 arg21 𝒱 bd E geo3_p16 v21 v26 v173 (k0_pay126 v179) (k0_pay127 v176_1) word X2 X3 X8 X15 X16 ⟨init, G9, G17, G21⟩ k acc

set_option warn.classDefReducibility false in
@[sl_loop] def loop16 (v214 : FVec F S32x128 .f32) (X17 : Con F arg17) (G10 : Con F arg10) :
    Idealize.ShloMosaic.LoopInv (M := 𝕄) Idealize.ShloMosaic.frame (wpE (defs₀ (F := F)) 𝒱 (c : Thread nD τ) bd) E
      k0_t16_loop.lb k0_t16_loop.ub k0_t16_loop.st k0_t16_ok () (k0_t16_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v214) where
  inv := inv4 c geo3 arg10 arg17 (k0_pay2 v214) X17 G10
  step k acc := step4 c geo3 arg10 harg10 arg17 𝒱 bd E geo3_p8 (k0_pay2 v214) X17 G10 k acc

end Cert.KernelIdeal.Hand
-- ==== Proof.Kit.lean ====
/- The launch's facts that the proof is stated over: the arrays when the region is entered, what each input window holds at a grid point,
   when the body's two conditionals hold, and the staging and scratch memory references. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x8192 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8192 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x8192 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x8192 .fp8e5m2 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8192 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8192 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x8192 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S32x8192 .f32 := Memref.whole cc0_scratch0
abbrev scM0_1 : Memref sig .tc .vmem S32x8192 .f32 := Memref.whole cc0_scratch1
abbrev scM0_2 : Memref sig .tc .vmem S32x8192 .f32 := Memref.whole cc0_scratch2
abbrev scM0_3 : Memref sig .tc .vmem S128x128 .f32 := Memref.whole cc0_scratch3
abbrev scM0_4 : Memref sig .tc .vmem S8x8192 .f32 := Memref.whole cc0_scratch4
abbrev scM0_5 : Memref sig .tc .vmem S8x8192 .f32 := Memref.whole cc0_scratch5
abbrev scM0_6 : Memref sig .tc .vmem S8x8192 .f32 := Memref.whole cc0_scratch6
/-- The scratch `arg19` the kernel carries between points, as a view: what it holds is stated through it. -/
abbrev VS0_4 : View sig .tc .vmem S8x8192 .f32 := scM0_4.view
/-- The scratch `arg20` the kernel carries between points, as a view: what it holds is stated through it. -/
abbrev VS0_5 : View sig .tc .vmem S8x8192 .f32 := scM0_5.view
/-- The scratch `arg21` the kernel carries between points, as a view: what it holds is stated through it. -/
abbrev VS0_6 : View sig .tc .vmem S8x8192 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Hand

end
-- ==== Proof.Body.lean ====
module
public import proofs.«01_k».proof.Proof.Invs
public import proofs.«01_k».proof.Proof.Kit

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- What a row group writes: the input gradient, the codes, the three scratch copies, the scales, and the three partial sums. -/
structure GSt (F : FTy → Type) (arg9 : Memref sig .tc .vmem S128x8192 .bf16) (arg10 : Memref sig .tc .vmem S128x8192 .fp8e5m2) (arg15 : Memref sig .tc .vmem S32x8192 .f32) (arg16 : Memref sig .tc .vmem S32x8192 .f32) (arg17 : Memref sig .tc .vmem S32x8192 .f32) (arg18 : Memref sig .tc .vmem S128x128 .f32) (arg19 : Memref sig .tc .vmem S8x8192 .f32) (arg20 : Memref sig .tc .vmem S8x8192 .f32) (arg21 : Memref sig .tc .vmem S8x8192 .f32) where
  f9 : Con F arg9
  f10 : Con F arg10
  f15 : Con F arg15
  f16 : Con F arg16
  f17 : Con F arg17
  f18 : Con F arg18
  f19 : Con F arg19
  f20 : Con F arg20
  f21 : Con F arg21

section Group

variable {n : ℕ} (g : Geo n) (arg1 : Memref sig .tc .vmem S128x8192 .fp8e5m2) (arg2 : Memref sig .tc .vmem S128x8192 .bf16) (arg3 : Memref sig .tc .vmem S128x1024 .i8) (arg4 : Memref sig .tc .vmem S128x8192 .bf16) (arg8 : Memref sig .tc .vmem S1x8192 .f32) (arg9 : Memref sig .tc .vmem S128x8192 .bf16) (arg10 : Memref sig .tc .vmem S128x8192 .fp8e5m2) (arg15 : Memref sig .tc .vmem S32x8192 .f32) (arg16 : Memref sig .tc .vmem S32x8192 .f32) (arg17 : Memref sig .tc .vmem S32x8192 .f32) (arg18 : Memref sig .tc .vmem S128x128 .f32) (arg19 : Memref sig .tc .vmem S8x8192 .f32) (arg20 : Memref sig .tc .vmem S8x8192 .f32) (arg21 : Memref sig .tc .vmem S8x8192 .f32)

/-- The exponents of a row group's scales, counted from its row maxima: how many powers of two are no greater. -/
def expo (v47 : FVec F S32x128 .f32) : IVec S32x128 32 :=
  Scf.fold (n := k0_t3_loop.trips) (fun k acc => k0_pay77 v47 k acc) k0_pay76

/-- The first pass of a row group, run to its end. -/
def pass1 (sq mq rq : FVec F S32x128 .f32) (X1 : Con F arg1) (X4 : Con F arg4) (X8 : Con F arg8) (s : GSt F arg9 arg10 arg15 arg16 arg17 arg18 arg19 arg20 arg21) :
    St1 F arg15 arg16 arg19 arg20 :=
  st1 g arg1 arg4 arg8 arg15 arg16 arg19 arg20 sq mq rq X1 X4 X8 ⟨(k0_pay65, k0_pay65), s.f15, s.f16, s.f19, s.f20⟩ n

/-- The second pass of a row group, run to its end, from what its first pass left. -/
def pass2 (rq : FVec F S32x128 .f32) (X2 : Con F arg2) (X3 : Con F arg3) (X8 : Con F arg8) (a : St1 F arg15 arg16 arg19 arg20) (s : GSt F arg9 arg10 arg15 arg16 arg17 arg18 arg19 arg20 arg21) : St2 F arg9 arg17 arg21 :=
  st2 g arg2 arg3 arg8 arg9 arg15 arg16 arg17 arg21 (iota .tc S8x128 32 [1] iota_S8x128_d1_w32) k0_pay61 rq
    (k0_pay69 a.acc.1) (k0_pay71 (k0_pay70 a.acc.2)) word X2 X3 X8 a.f15 a.f16 ⟨k0_pay72, s.f9, s.f17, s.f21⟩ n

/-- What a row group leaves, from its two passes: the codes by the exponents found, and its scales in the rows from `o` on. -/
def fin (o : Fin 2 → ℕ) (ho : ∀ a, o a + S32x128.size a ≤ S128x128.size a) (a : St1 F arg15 arg16 arg19 arg20) (b : St2 F arg9 arg17 arg21) (s : GSt F arg9 arg10 arg15 arg16 arg17 arg18 arg19 arg20 arg21) : GSt F arg9 arg10 arg15 arg16 arg17 arg18 arg19 arg20 arg21 where
  f9 := b.f9
  f10 := st4 g arg10 arg17 (k0_pay80 (expo b.acc)) b.f17 s.f10 n
  f15 := a.f15
  f16 := a.f16
  f17 := b.f17
  f18 := arg18.view.writes (Elt F) s.f18 [⟨Rect.unit (s := S128x128) o S32x128.size ho, k0_pay79 (expo b.acc)⟩]
  f19 := a.f19
  f20 := a.f20
  f21 := b.f21

end Group

section Body

variable (i : grid0.Coords) (arg1 : Memref sig .tc .vmem S128x8192 .fp8e5m2) (harg1 : arg1.IsWhole) (arg2 : Memref sig .tc .vmem S128x8192 .bf16) (harg2 : arg2.IsWhole) (arg3 : Memref sig .tc .vmem S128x1024 .i8) (harg3 : arg3.IsWhole) (arg4 : Memref sig .tc .vmem S128x8192 .bf16) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S1x8192 .f32) (harg8 : arg8.IsWhole) (arg9 : Memref sig .tc .vmem S128x8192 .bf16) (harg9 : arg9.IsWhole) (arg10 : Memref sig .tc .vmem S128x8192 .fp8e5m2) (harg10 : arg10.IsWhole) (arg11 : Memref sig .tc .vmem S16x128 .f32) (harg11 : arg11.IsWhole) (arg12 : Memref sig .tc .vmem S1x8192 .f32) (harg12 : arg12.IsWhole) (arg13 : Memref sig .tc .vmem S1x8192 .f32) (harg13 : arg13.IsWhole) (arg14 : Memref sig .tc .vmem S1x8192 .f32) (harg14 : arg14.IsWhole) (arg15 : Memref sig .tc .vmem S32x8192 .f32) (harg15 : arg15.IsWhole) (arg16 : Memref sig .tc .vmem S32x8192 .f32) (harg16 : arg16.IsWhole) (arg17 : Memref sig .tc .vmem S32x8192 .f32) (harg17 : arg17.IsWhole) (arg18 : Memref sig .tc .vmem S128x128 .f32) (harg18 : arg18.IsWhole) (arg19 : Memref sig .tc .vmem S8x8192 .f32) (harg19 : arg19.IsWhole) (arg20 : Memref sig .tc .vmem S8x8192 .f32) (harg20 : arg20.IsWhole) (arg21 : Memref sig .tc .vmem S8x8192 .f32) (harg21 : arg21.IsWhole)

/-- The one row of scales, means or reciprocal deviations that a grid point reads. -/
abbrev rowAt (arg : Memref sig .tc .vmem S16x128 .f32) (X : Con F arg) : Vec F S1x128 .f32 :=
  View.readAt (Elt F) arg.view (Rect.unit (s := S16x128) (k0_off1 i) S1x128.size (k0_off1_inb i)).toLoadRect X

/-- What the row groups start from: the first grid point clears the partial sums. -/
def start (s : GSt F arg9 arg10 arg15 arg16 arg17 arg18 arg19 arg20 arg21) : GSt F arg9 arg10 arg15 arg16 arg17 arg18 arg19 arg20 arg21 :=
  { s with
    f19 := if cond0_0 i then arg19.view.writes (Elt F) arg19.view.junk [⟨Rect.unit (s := S8x8192) ![0, 0] S8x8192.size inb_S8x8192_S8x8192_0_0, k0_pay55⟩] else s.f19
    f20 := if cond0_0 i then arg20.view.writes (Elt F) arg20.view.junk [⟨Rect.unit (s := S8x8192) ![0, 0] S8x8192.size inb_S8x8192_S8x8192_0_0, k0_pay56⟩] else s.f20
    f21 := if cond0_0 i then arg21.view.writes (Elt F) arg21.view.junk [⟨Rect.unit (s := S8x8192) ![0, 0] S8x8192.size inb_S8x8192_S8x8192_0_0, k0_pay57⟩] else s.f21 }

variable (c : Dev nD) (𝒱 : Variants) (bd : Option 𝒱.V) (E : Set ℕ) (X1 : Con F arg1) (X2 : Con F arg2) (X3 : Con F arg3) (X4 : Con F arg4) (X5 : Con F arg5) (X6 : Con F arg6) (X7 : Con F arg7) (X8 : Con F arg8) (X11 : Con F arg11) (X12 : Con F arg12) (X13 : Con F arg13) (X14 : Con F arg14)

set_option maxHeartbeats 4000000 in
/-- The first part: the clearing, the rows read, and the first pass of group 0. -/
theorem part13_run (s : GSt F arg9 arg10 arg15 arg16 arg17 arg18 arg19 arg20 arg21) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 s.f9 ∗ at_ c arg10 s.f10 ∗ at_ c arg11 X11 ∗ at_ c arg12 X12 ∗ at_ c arg13 X13 ∗ at_ c arg14 X14 ∗ at_ c arg15 s.f15 ∗ at_ c arg16 s.f16 ∗ at_ c arg17 s.f17 ∗ at_ c arg18 s.f18 ∗ at_ c arg19 s.f19 ∗ at_ c arg20 s.f20 ∗ at_ c arg21 s.f21) ⊢ wp frame (wpE (defs₀ (F := F)) 𝒱 (c : Thread nD τ) bd) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
    (fun y => iprop(⌜y = ⟨BitVec.ofNat 32 (i 0).val, k0_pay58 (rowAt i arg5 X5), k0_pay59 (rowAt i arg6 X6), k0_pay60 (rowAt i arg7 X7), (iota .tc S8x128 32 [1] iota_S8x128_d1_w32), k0_pay61, k0_pay64 (rowAt i arg7 X7), k0_pay69 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)).acc.1, k0_pay70 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)).acc.2⟩⌝ ∗ at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (start i arg9 arg10 arg15 arg16 arg17 arg18 arg19 arg20 arg21 s).f9 ∗ at_ c arg10 (start i arg9 arg10 arg15 arg16 arg17 arg18 arg19 arg20 arg21 s).f10 ∗ at_ c arg11 X11 ∗ at_ c arg12 X12 ∗ at_ c arg13 X13 ∗ at_ c arg14 X14 ∗ at_ c arg15 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)).f15 ∗ at_ c arg16 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)).f16 ∗ at_ c arg17 (start i arg9 arg10 arg15 arg16 arg17 arg18 arg19 arg20 arg21 s).f17 ∗ at_ c arg18 (start i arg9 arg10 arg15 arg16 arg17 arg18 arg19 arg20 arg21 s).f18 ∗ at_ c arg19 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)).f19 ∗ at_ c arg20 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)).f20 ∗ at_ c arg21 (start i arg9 arg10 arg15 arg16 arg17 arg18 arg19 arg20 arg21 s).f21)) := by
  simp only [k0_part13_eq_skeleton]
  unfold k0_part13_skel
  iintro ⟨H1, H2, H3, H4, H5, H6, H7, H8, H9, H10, H11, H12, H13, H14, H15, H16, H17, H18, H19, H20, H21⟩
  by_cases h0 : cond0_0 i
  · sl_exec (disch := sl_exact h0)
    generalize hG19 : arg19.view.writes (Elt F) arg19.view.junk _ = G19
    generalize hG20 : arg20.view.writes (Elt F) arg20.view.junk _ = G20
    generalize hG21 : arg21.view.writes (Elt F) arg21.view.junk _ = G21
    have hs : start i arg9 arg10 arg15 arg16 arg17 arg18 arg19 arg20 arg21 s = { s with f19 := G19, f20 := G20, f21 := G21 } := by
      simp only [start, if_pos h0, ← hG19, ← hG20, ← hG21]
      rfl
    simp only [hs]
    sl_exec
    sl_step
    sl_close
  · sl_exec (disch := sl_exact h0)
    sl_step
    simp only [start, if_neg h0]
    sl_close

set_option maxHeartbeats 4000000 in
/-- The second part: the rest of group 0. -/
theorem part14_run (a : St1 F arg15 arg16 arg19 arg20) (s : GSt F arg9 arg10 arg15 arg16 arg17 arg18 arg19 arg20 arg21) (v8 : FVec F S128x128 .f32) (rq : FVec F S32x128 .f32) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 s.f9 ∗ at_ c arg10 s.f10 ∗ at_ c arg11 X11 ∗ at_ c arg12 X12 ∗ at_ c arg13 X13 ∗ at_ c arg14 X14 ∗ at_ c arg15 a.f15 ∗ at_ c arg16 a.f16 ∗ at_ c arg17 s.f17 ∗ at_ c arg18 s.f18 ∗ at_ c arg19 a.f19 ∗ at_ c arg20 a.f20 ∗ at_ c arg21 s.f21) ⊢ wp frame (wpE (defs₀ (F := F)) 𝒱 (c : Thread nD τ) bd) E (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 (iota .tc S8x128 32 [1] iota_S8x128_d1_w32) k0_pay61 rq (k0_pay69 a.acc.1) (k0_pay70 a.acc.2))
    (fun y => iprop(⌜y = k0_pay81 v8⌝ ∗ at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f9 ∗ at_ c arg10 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f10 ∗ at_ c arg11 X11 ∗ at_ c arg12 X12 ∗ at_ c arg13 X13 ∗ at_ c arg14 X14 ∗ at_ c arg15 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f15 ∗ at_ c arg16 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f16 ∗ at_ c arg17 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f17 ∗ at_ c arg18 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f18 ∗ at_ c arg19 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f19 ∗ at_ c arg20 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f20 ∗ at_ c arg21 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f21)) := by
  simp only [k0_part14_eq_skeleton]
  unfold k0_part14_skel
  iintro ⟨H1, H2, H3, H4, H5, H6, H7, H8, H9, H10, H11, H12, H13, H14, H15, H16, H17, H18, H19, H20, H21⟩
  sl_exec
  sl_step
  simp only [fin]
  sl_close

set_option maxHeartbeats 4000000 in
/-- The third part: the two passes of group 1 and its exponents. -/
theorem part15_run (s : GSt F arg9 arg10 arg15 arg16 arg17 arg18 arg19 arg20 arg21) (v8 v14 v20 : FVec F S128x128 .f32) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 s.f9 ∗ at_ c arg10 s.f10 ∗ at_ c arg11 X11 ∗ at_ c arg12 X12 ∗ at_ c arg13 X13 ∗ at_ c arg14 X14 ∗ at_ c arg15 s.f15 ∗ at_ c arg16 s.f16 ∗ at_ c arg17 s.f17 ∗ at_ c arg18 s.f18 ∗ at_ c arg19 s.f19 ∗ at_ c arg20 s.f20 ∗ at_ c arg21 s.f21) ⊢ wp frame (wpE (defs₀ (F := F)) 𝒱 (c : Thread nD τ) bd) E (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v14 v20 (iota .tc S8x128 32 [1] iota_S8x128_d1_w32) k0_pay61 (k0_pay81 v8))
    (fun y => iprop(⌜y = ⟨k0_pay96 (expo (pass2 geo1 arg2 arg3 arg8 arg9 arg10 arg15 arg16 arg17 arg18 arg19 arg20 arg21 (k0_pay83 v20) X2 X3 X8 (pass1 geo1 arg1 arg4 arg8 arg9 arg10 arg15 arg16 arg17 arg18 arg19 arg20 arg21 (k0_pay81 v8) (k0_pay82 v14) (k0_pay83 v20) X1 X4 X8 s) s).acc), 23#32⟩⌝ ∗ at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (pass2 geo1 arg2 arg3 arg8 arg9 arg10 arg15 arg16 arg17 arg18 arg19 arg20 arg21 (k0_pay83 v20) X2 X3 X8 (pass1 geo1 arg1 arg4 arg8 arg9 arg10 arg15 arg16 arg17 arg18 arg19 arg20 arg21 (k0_pay81 v8) (k0_pay82 v14) (k0_pay83 v20) X1 X4 X8 s) s).f9 ∗ at_ c arg10 s.f10 ∗ at_ c arg11 X11 ∗ at_ c arg12 X12 ∗ at_ c arg13 X13 ∗ at_ c arg14 X14 ∗ at_ c arg15 (pass1 geo1 arg1 arg4 arg8 arg9 arg10 arg15 arg16 arg17 arg18 arg19 arg20 arg21 (k0_pay81 v8) (k0_pay82 v14) (k0_pay83 v20) X1 X4 X8 s).f15 ∗ at_ c arg16 (pass1 geo1 arg1 arg4 arg8 arg9 arg10 arg15 arg16 arg17 arg18 arg19 arg20 arg21 (k0_pay81 v8) (k0_pay82 v14) (k0_pay83 v20) X1 X4 X8 s).f16 ∗ at_ c arg17 (pass2 geo1 arg2 arg3 arg8 arg9 arg10 arg15 arg16 arg17 arg18 arg19 arg20 arg21 (k0_pay83 v20) X2 X3 X8 (pass1 geo1 arg1 arg4 arg8 arg9 arg10 arg15 arg16 arg17 arg18 arg19 arg20 arg21 (k0_pay81 v8) (k0_pay82 v14) (k0_pay83 v20) X1 X4 X8 s) s).f17 ∗ at_ c arg18 s.f18 ∗ at_ c arg19 (pass1 geo1 arg1 arg4 arg8 arg9 arg10 arg15 arg16 arg17 arg18 arg19 arg20 arg21 (k0_pay81 v8) (k0_pay82 v14) (k0_pay83 v20) X1 X4 X8 s).f19 ∗ at_ c arg20 (pass1 geo1 arg1 arg4 arg8 arg9 arg10 arg15 arg16 arg17 arg18 arg19 arg20 arg21 (k0_pay81 v8) (k0_pay82 v14) (k0_pay83 v20) X1 X4 X8 s).f20 ∗ at_ c arg21 (pass2 geo1 arg2 arg3 arg8 arg9 arg10 arg15 arg16 arg17 arg18 arg19 arg20 arg21 (k0_pay83 v20) X2 X3 X8 (pass1 geo1 arg1 arg4 arg8 arg9 arg10 arg15 arg16 arg17 arg18 arg19 arg20 arg21 (k0_pay81 v8) (k0_pay82 v14) (k0_pay83 v20) X1 X4 X8 s) s).f21)) := by
  simp only [k0_part15_eq_skeleton]
  unfold k0_part15_skel
  iintro ⟨H1, H2, H3, H4, H5, H6, H7, H8, H9, H10, H11, H12, H13, H14, H15, H16, H17, H18, H19, H20, H21⟩
  sl_exec
  sl_step
  simp only [fin]
  sl_close

set_option maxHeartbeats 4000000 in
/-- The fourth part: the codes and scales of group 1, and the two passes of group 2. -/
theorem part16_run (a : St1 F arg15 arg16 arg19 arg20) (b : St2 F arg9 arg17 arg21) (s : GSt F arg9 arg10 arg15 arg16 arg17 arg18 arg19 arg20 arg21) (v8 v14 v20 : FVec F S128x128 .f32) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 b.f9 ∗ at_ c arg10 s.f10 ∗ at_ c arg11 X11 ∗ at_ c arg12 X12 ∗ at_ c arg13 X13 ∗ at_ c arg14 X14 ∗ at_ c arg15 a.f15 ∗ at_ c arg16 a.f16 ∗ at_ c arg17 b.f17 ∗ at_ c arg18 s.f18 ∗ at_ c arg19 a.f19 ∗ at_ c arg20 a.f20 ∗ at_ c arg21 b.f21) ⊢ wp frame (wpE (defs₀ (F := F)) 𝒱 (c : Thread nD τ) bd) E (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 (iota .tc S8x128 32 [1] iota_S8x128_d1_w32) k0_pay61 (k0_pay96 (expo b.acc)) 23#32)
    (fun y => iprop(⌜y = k0_pay112 (pass2 geo2 arg2 arg3 arg8 arg9 arg10 arg15 arg16 arg17 arg18 arg19 arg20 arg21 (k0_pay101 v20) X2 X3 X8 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)) (fin geo1 arg9 arg10 arg15 arg16 arg17 arg18 arg19 arg20 arg21 ![32, 0] inb_S128x128_S32x128_32_0 a b s)).acc⌝ ∗ at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (pass2 geo2 arg2 arg3 arg8 arg9 arg10 arg15 arg16 arg17 arg18 arg19 arg20 arg21 (k0_pay101 v20) X2 X3 X8 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)) (fin geo1 arg9 arg10 arg15 arg16 arg17 arg18 arg19 arg20 arg21 ![32, 0] inb_S128x128_S32x128_32_0 a b s)).f9 ∗ at_ c arg10 (fin geo1 arg9 arg10 arg15 arg16 arg17 arg18 arg19 arg20 arg21 ![32, 0] inb_S128x128_S32x128_32_0 a b s).f10 ∗ at_ c arg11 X11 ∗ at_ c arg12 X12 ∗ at_ c arg13 X13 ∗ at_ c arg14 X14 ∗ at_ c arg15 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)).f15 ∗ at_ c arg16 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)).f16 ∗ at_ c arg17 (pass2 geo2 arg2 arg3 arg8 arg9 arg10 arg15 arg16 arg17 arg18 arg19 arg20 arg21 (k0_pay101 v20) X2 X3 X8 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)) (fin geo1 arg9 arg10 arg15 arg16 arg17 arg18 arg19 arg20 arg21 ![32, 0] inb_S128x128_S32x128_32_0 a b s)).f17 ∗ at_ c arg18 (fin geo1 arg9 arg10 arg15 arg16 arg17 arg18 arg19 arg20 arg21 ![32, 0] inb_S128x128_S32x128_32_0 a b s).f18 ∗ at_ c arg19 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)).f19 ∗ at_ c arg20 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)).f20 ∗ at_ c arg21 (pass2 geo2 arg2 arg3 arg8 arg9 arg10 arg15 arg16 arg17 arg18 arg19 arg20 arg21 (k0_pay101 v20) X2 X3 X8 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)) (fin geo1 arg9 arg10 arg15 arg16 arg17 arg18 arg19 arg20 arg21 ![32, 0] inb_S128x128_S32x128_32_0 a b s)).f21)) := by
  simp only [k0_part16_eq_skeleton]
  unfold k0_part16_skel
  iintro ⟨H1, H2, H3, H4, H5, H6, H7, H8, H9, H10, H11, H12, H13, H14, H15, H16, H17, H18, H19, H20, H21⟩
  sl_exec
  sl_step
  simp only [fin]
  sl_close

set_option maxHeartbeats 4000000 in
/-- The fifth part: the exponents, codes and scales of group 2, and the first pass of group 3. -/
theorem part17_run (a : St1 F arg15 arg16 arg19 arg20) (b : St2 F arg9 arg17 arg21) (s : GSt F arg9 arg10 arg15 arg16 arg17 arg18 arg19 arg20 arg21) (v8 v14 v20 : FVec F S128x128 .f32) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 b.f9 ∗ at_ c arg10 s.f10 ∗ at_ c arg11 X11 ∗ at_ c arg12 X12 ∗ at_ c arg13 X13 ∗ at_ c arg14 X14 ∗ at_ c arg15 a.f15 ∗ at_ c arg16 a.f16 ∗ at_ c arg17 b.f17 ∗ at_ c arg18 s.f18 ∗ at_ c arg19 a.f19 ∗ at_ c arg20 a.f20 ∗ at_ c arg21 b.f21) ⊢ wp frame (wpE (defs₀ (F := F)) 𝒱 (c : Thread nD τ) bd) E (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 (k0_pay112 b.acc))
    (fun y => iprop(⌜y = ⟨k0_pay120 v20, (pass1 geo3 arg1 arg4 arg8 arg9 arg10 arg15 arg16 arg17 arg18 arg19 arg20 arg21 (k0_pay118 v8) (k0_pay119 v14) (k0_pay120 v20) X1 X4 X8 (fin geo2 arg9 arg10 arg15 arg16 arg17 arg18 arg19 arg20 arg21 ![64, 0] inb_S128x128_S32x128_64_0 a b s)).acc.2, k0_pay125 (pass1 geo3 arg1 arg4 arg8 arg9 arg10 arg15 arg16 arg17 arg18 arg19 arg20 arg21 (k0_pay118 v8) (k0_pay119 v14) (k0_pay120 v20) X1 X4 X8 (fin geo2 arg9 arg10 arg15 arg16 arg17 arg18 arg19 arg20 arg21 ![64, 0] inb_S128x128_S32x128_64_0 a b s)).acc.1⟩⌝ ∗ at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (fin geo2 arg9 arg10 arg15 arg16 arg17 arg18 arg19 arg20 arg21 ![64, 0] inb_S128x128_S32x128_64_0 a b s).f9 ∗ at_ c arg10 (fin geo2 arg9 arg10 arg15 arg16 arg17 arg18 arg19 arg20 arg21 ![64, 0] inb_S128x128_S32x128_64_0 a b s).f10 ∗ at_ c arg11 X11 ∗ at_ c arg12 X12 ∗ at_ c arg13 X13 ∗ at_ c arg14 X14 ∗ at_ c arg15 (pass1 geo3 arg1 arg4 arg8 arg9 arg10 arg15 arg16 arg17 arg18 arg19 arg20 arg21 (k0_pay118 v8) (k0_pay119 v14) (k0_pay120 v20) X1 X4 X8 (fin geo2 arg9 arg10 arg15 arg16 arg17 arg18 arg19 arg20 arg21 ![64, 0] inb_S128x128_S32x128_64_0 a b s)).f15 ∗ at_ c arg16 (pass1 geo3 arg1 arg4 arg8 arg9 arg10 arg15 arg16 arg17 arg18 arg19 arg20 arg21 (k0_pay118 v8) (k0_pay119 v14) (k0_pay120 v20) X1 X4 X8 (fin geo2 arg9 arg10 arg15 arg16 arg17 arg18 arg19 arg20 arg21 ![64, 0] inb_S128x128_S32x128_64_0 a b s)).f16 ∗ at_ c arg17 (fin geo2 arg9 arg10 arg15 arg16 arg17 arg18 arg19 arg20 arg21 ![64, 0] inb_S128x128_S32x128_64_0 a b s).f17 ∗ at_ c arg18 (fin geo2 arg9 arg10 arg15 arg16 arg17 arg18 arg19 arg20 arg21 ![64, 0] inb_S128x128_S32x128_64_0 a b s).f18 ∗ at_ c arg19 (pass1 geo3 arg1 arg4 arg8 arg9 arg10 arg15 arg16 arg17 arg18 arg19 arg20 arg21 (k0_pay118 v8) (k0_pay119 v14) (k0_pay120 v20) X1 X4 X8 (fin geo2 arg9 arg10 arg15 arg16 arg17 arg18 arg19 arg20 arg21 ![64, 0] inb_S128x128_S32x128_64_0 a b s)).f19 ∗ at_ c arg20 (pass1 geo3 arg1 arg4 arg8 arg9 arg10 arg15 arg16 arg17 arg18 arg19 arg20 arg21 (k0_pay118 v8) (k0_pay119 v14) (k0_pay120 v20) X1 X4 X8 (fin geo2 arg9 arg10 arg15 arg16 arg17 arg18 arg19 arg20 arg21 ![64, 0] inb_S128x128_S32x128_64_0 a b s)).f20 ∗ at_ c arg21 (fin geo2 arg9 arg10 arg15 arg16 arg17 arg18 arg19 arg20 arg21 ![64, 0] inb_S128x128_S32x128_64_0 a b s).f21)) := by
  simp only [k0_part17_eq_skeleton]
  unfold k0_part17_skel
  iintro ⟨H1, H2, H3, H4, H5, H6, H7, H8, H9, H10, H11, H12, H13, H14, H15, H16, H17, H18, H19, H20, H21⟩
  sl_exec
  sl_step
  simp only [fin]
  sl_close

set_option maxHeartbeats 4000000 in
/-- The sixth part: the second pass of group 3 and its exponents. -/
theorem part18_run (a : St1 F arg15 arg16 arg19 arg20) (s : GSt F arg9 arg10 arg15 arg16 arg17 arg18 arg19 arg20 arg21) (rq : FVec F S32x128 .f32) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 s.f9 ∗ at_ c arg10 s.f10 ∗ at_ c arg11 X11 ∗ at_ c arg12 X12 ∗ at_ c arg13 X13 ∗ at_ c arg14 X14 ∗ at_ c arg15 a.f15 ∗ at_ c arg16 a.f16 ∗ at_ c arg17 s.f17 ∗ at_ c arg18 s.f18 ∗ at_ c arg19 a.f19 ∗ at_ c arg20 a.f20 ∗ at_ c arg21 s.f21) ⊢ wp frame (wpE (defs₀ (F := F)) 𝒱 (c : Thread nD τ) bd) E (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota .tc S8x128 32 [1] iota_S8x128_d1_w32) k0_pay61 rq a.acc.2 (k0_pay125 a.acc.1))
    (fun y => iprop(⌜y = ⟨k0_pay135 (expo (pass2 geo3 arg2 arg3 arg8 arg9 arg10 arg15 arg16 arg17 arg18 arg19 arg20 arg21 rq X2 X3 X8 a s).acc), k0_pay136 (expo (pass2 geo3 arg2 arg3 arg8 arg9 arg10 arg15 arg16 arg17 arg18 arg19 arg20 arg21 rq X2 X3 X8 a s).acc)⟩⌝ ∗ at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (pass2 geo3 arg2 arg3 arg8 arg9 arg10 arg15 arg16 arg17 arg18 arg19 arg20 arg21 rq X2 X3 X8 a s).f9 ∗ at_ c arg10 s.f10 ∗ at_ c arg11 X11 ∗ at_ c arg12 X12 ∗ at_ c arg13 X13 ∗ at_ c arg14 X14 ∗ at_ c arg15 a.f15 ∗ at_ c arg16 a.f16 ∗ at_ c arg17 (pass2 geo3 arg2 arg3 arg8 arg9 arg10 arg15 arg16 arg17 arg18 arg19 arg20 arg21 rq X2 X3 X8 a s).f17 ∗ at_ c arg18 s.f18 ∗ at_ c arg19 a.f19 ∗ at_ c arg20 a.f20 ∗ at_ c arg21 (pass2 geo3 arg2 arg3 arg8 arg9 arg10 arg15 arg16 arg17 arg18 arg19 arg20 arg21 rq X2 X3 X8 a s).f21)) := by
  simp only [k0_part18_eq_skeleton]
  unfold k0_part18_skel
  iintro ⟨H1, H2, H3, H4, H5, H6, H7, H8, H9, H10, H11, H12, H13, H14, H15, H16, H17, H18, H19, H20, H21⟩
  sl_exec
  sl_step
  simp only [fin]
  sl_close

/-- The scales' array once a grid point has written its own row. -/
def scaleRow (X11 : Con F arg11) (X18 : Con F arg18) : Con F arg11 :=
  arg11.view.writes (Elt F) X11 [⟨Rect.unit (s := S16x128) (k0_off1 i) S1x128.size (k0_off1_inb i), k0_pay3 (View.readAt (Elt F) arg18.view (Rect.unit (s := S128x128) ![0, 0] S128x128.size inb_S128x128_S128x128_0_0).toLoadRect X18)⟩]

/-- What is left of the body after its six parts. -/
def tail (v209 v214 : FVec F S32x128 .f32) : Prog (TpuEff nD τ sig (Elt F) Λ₀ .tc) PUnit := do
  Prog.lift (.store arg18 (Rect.unit (s := S128x128) ![96, 0] S32x128.size inb_S128x128_S32x128_96_0) (k0_pay1 v209) Finset.univ (View.stores_vmem_bits_univ h_S32x128 rfl) (.inl rfl))
  Scf.Loop.for k0_t16_loop k0_t16_ok ⟨⟩ (k0_t16_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v214)
  let v219 : Vec F S128x128 .f32 ← Prog.lift (.load arg18 (Rect.unit (s := S128x128) ![0, 0] S128x128.size inb_S128x128_S128x128_0_0).toLoadRect (View.loadsAt_vmem h_S128x128))
  let v223 : Vec F S1x128 .f32 ← Prog.lift (.load arg11 (Rect.unit (s := S16x128) (k0_off1 i) S1x128.size (k0_off1_inb i)).toLoadRect (View.loadsAt_vmem h_S1x128))
  Prog.lift (.store arg11 (Rect.unit (s := S16x128) (k0_off1 i) S1x128.size (k0_off1_inb i)) (k0_pay3 v219) Finset.univ (View.stores_vmem_bits_univ h_S1x128 rfl) (.inl rfl))
  if k0_h2 : k0_cond2 i = 1#1 then do
    let v227 : Vec F S8x8192 .f32 ← Prog.lift (.load arg19 (Rect.unit (s := S8x8192) ![0, 0] S8x8192.size inb_S8x8192_S8x8192_0_0).toLoadRect (View.loadsAt_vmem h_S8x8192))
    let v230 : Vec F S1x8192 .f32 ← Prog.lift (.load arg12 (Rect.unit (s := S1x8192) ![0, 0] S1x8192.size inb_S1x8192_S1x8192_0_0).toLoadRect (View.loadsAt_vmem h_S1x8192))
    Prog.lift (.store arg12 (Rect.unit (s := S1x8192) ![0, 0] S1x8192.size inb_S1x8192_S1x8192_0_0) (k0_pay4 v227) Finset.univ (View.stores_vmem_bits_univ h_S1x8192 rfl) (.inl rfl))
    let v231 : Vec F S8x8192 .f32 ← Prog.lift (.load arg20 (Rect.unit (s := S8x8192) ![0, 0] S8x8192.size inb_S8x8192_S8x8192_0_0).toLoadRect (View.loadsAt_vmem h_S8x8192))
    let v234 : Vec F S1x8192 .f32 ← Prog.lift (.load arg13 (Rect.unit (s := S1x8192) ![0, 0] S1x8192.size inb_S1x8192_S1x8192_0_0).toLoadRect (View.loadsAt_vmem h_S1x8192))
    Prog.lift (.store arg13 (Rect.unit (s := S1x8192) ![0, 0] S1x8192.size inb_S1x8192_S1x8192_0_0) (k0_pay5 v231) Finset.univ (View.stores_vmem_bits_univ h_S1x8192 rfl) (.inl rfl))
    let v235 : Vec F S8x8192 .f32 ← Prog.lift (.load arg21 (Rect.unit (s := S8x8192) ![0, 0] S8x8192.size inb_S8x8192_S8x8192_0_0).toLoadRect (View.loadsAt_vmem h_S8x8192))
    let v238 : Vec F S1x8192 .f32 ← Prog.lift (.load arg14 (Rect.unit (s := S1x8192) ![0, 0] S1x8192.size inb_S1x8192_S1x8192_0_0).toLoadRect (View.loadsAt_vmem h_S1x8192))
    Prog.lift (.store arg14 (Rect.unit (s := S1x8192) ![0, 0] S1x8192.size inb_S1x8192_S1x8192_0_0) (k0_pay6 v235) Finset.univ (View.stores_vmem_bits_univ h_S1x8192 rfl) (.inl rfl))
    pure ⟨⟩
  else do
    pure ⟨⟩
  pure ⟨⟩

set_option maxHeartbeats 4000000 in
/-- The end of the body: group 3's codes and scales, the row of scales, and at the last grid point the three sums. -/
theorem tail_run (a : St1 F arg15 arg16 arg19 arg20) (b : St2 F arg9 arg17 arg21) (s : GSt F arg9 arg10 arg15 arg16 arg17 arg18 arg19 arg20 arg21) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 b.f9 ∗ at_ c arg10 s.f10 ∗ at_ c arg11 X11 ∗ at_ c arg12 X12 ∗ at_ c arg13 X13 ∗ at_ c arg14 X14 ∗ at_ c arg15 a.f15 ∗ at_ c arg16 a.f16 ∗ at_ c arg17 b.f17 ∗ at_ c arg18 s.f18 ∗ at_ c arg19 a.f19 ∗ at_ c arg20 a.f20 ∗ at_ c arg21 b.f21) ⊢ wp frame (wpE (defs₀ (F := F)) 𝒱 (c : Thread nD τ) bd) E (tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay135 (expo b.acc)) (k0_pay136 (expo b.acc)))
    (fun y => iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (fin geo3 arg9 arg10 arg15 arg16 arg17 arg18 arg19 arg20 arg21 ![96, 0] inb_S128x128_S32x128_96_0 a b s).f9 ∗ at_ c arg10 (fin geo3 arg9 arg10 arg15 arg16 arg17 arg18 arg19 arg20 arg21 ![96, 0] inb_S128x128_S32x128_96_0 a b s).f10 ∗ at_ c arg11 (scaleRow i arg11 arg18 X11 (fin geo3 arg9 arg10 arg15 arg16 arg17 arg18 arg19 arg20 arg21 ![96, 0] inb_S128x128_S32x128_96_0 a b s).f18) ∗ at_ c arg12 (if cond0_1 i then arg12.view.writes (Elt F) X12 [⟨Rect.unit (s := S1x8192) ![0, 0] S1x8192.size inb_S1x8192_S1x8192_0_0, k0_pay4 (View.readAt (Elt F) arg19.view (Rect.unit (s := S8x8192) ![0, 0] S8x8192.size inb_S8x8192_S8x8192_0_0).toLoadRect (fin geo3 arg9 arg10 arg15 arg16 arg17 arg18 arg19 arg20 arg21 ![96, 0] inb_S128x128_S32x128_96_0 a b s).f19)⟩] else X12) ∗ at_ c arg13 (if cond0_1 i then arg13.view.writes (Elt F) X13 [⟨Rect.unit (s := S1x8192) ![0, 0] S1x8192.size inb_S1x8192_S1x8192_0_0, k0_pay5 (View.readAt (Elt F) arg20.view (Rect.unit (s := S8x8192) ![0, 0] S8x8192.size inb_S8x8192_S8x8192_0_0).toLoadRect (fin geo3 arg9 arg10 arg15 arg16 arg17 arg18 arg19 arg20 arg21 ![96, 0] inb_S128x128_S32x128_96_0 a b s).f20)⟩] else X13) ∗ at_ c arg14 (if cond0_1 i then arg14.view.writes (Elt F) X14 [⟨Rect.unit (s := S1x8192) ![0, 0] S1x8192.size inb_S1x8192_S1x8192_0_0, k0_pay6 (View.readAt (Elt F) arg21.view (Rect.unit (s := S8x8192) ![0, 0] S8x8192.size inb_S8x8192_S8x8192_0_0).toLoadRect (fin geo3 arg9 arg10 arg15 arg16 arg17 arg18 arg19 arg20 arg21 ![96, 0] inb_S128x128_S32x128_96_0 a b s).f21)⟩] else X14) ∗ at_ c arg15 (fin geo3 arg9 arg10 arg15 arg16 arg17 arg18 arg19 arg20 arg21 ![96, 0] inb_S128x128_S32x128_96_0 a b s).f15 ∗ at_ c arg16 (fin geo3 arg9 arg10 arg15 arg16 arg17 arg18 arg19 arg20 arg21 ![96, 0] inb_S128x128_S32x128_96_0 a b s).f16 ∗ at_ c arg17 (fin geo3 arg9 arg10 arg15 arg16 arg17 arg18 arg19 arg20 arg21 ![96, 0] inb_S128x128_S32x128_96_0 a b s).f17 ∗ at_ c arg18 (fin geo3 arg9 arg10 arg15 arg16 arg17 arg18 arg19 arg20 arg21 ![96, 0] inb_S128x128_S32x128_96_0 a b s).f18 ∗ at_ c arg19 (fin geo3 arg9 arg10 arg15 arg16 arg17 arg18 arg19 arg20 arg21 ![96, 0] inb_S128x128_S32x128_96_0 a b s).f19 ∗ at_ c arg20 (fin geo3 arg9 arg10 arg15 arg16 arg17 arg18 arg19 arg20 arg21 ![96, 0] inb_S128x128_S32x128_96_0 a b s).f20 ∗ at_ c arg21 (fin geo3 arg9 arg10 arg15 arg16 arg17 arg18 arg19 arg20 arg21 ![96, 0] inb_S128x128_S32x128_96_0 a b s).f21)) := by
  unfold tail
  iintro ⟨H1, H2, H3, H4, H5, H6, H7, H8, H9, H10, H11, H12, H13, H14, H15, H16, H17, H18, H19, H20, H21⟩
  by_cases h1 : cond0_1 i
  · sl_exec (disch := sl_exact h1)
    sl_step
    simp only [fin, scaleRow, if_pos h1]
    sl_close
  · sl_exec (disch := sl_exact h1)
    sl_step
    simp only [fin, scaleRow, if_neg h1]
    sl_close

/-- A row group: from what it finds, what it leaves. -/
def grp {n : ℕ} (g : Geo n) (o : Fin 2 → ℕ) (ho : ∀ a, o a + S32x128.size a ≤ S128x128.size a) (sq mq rq : FVec F S32x128 .f32) (s : GSt F arg9 arg10 arg15 arg16 arg17 arg18 arg19 arg20 arg21) : GSt F arg9 arg10 arg15 arg16 arg17 arg18 arg19 arg20 arg21 :=
  fin g arg9 arg10 arg15 arg16 arg17 arg18 arg19 arg20 arg21 o ho (pass1 g arg1 arg4 arg8 arg9 arg10 arg15 arg16 arg17 arg18 arg19 arg20 arg21 sq mq rq X1 X4 X8 s)
    (pass2 g arg2 arg3 arg8 arg9 arg10 arg15 arg16 arg17 arg18 arg19 arg20 arg21 rq X2 X3 X8 (pass1 g arg1 arg4 arg8 arg9 arg10 arg15 arg16 arg17 arg18 arg19 arg20 arg21 sq mq rq X1 X4 X8 s) s) s

/-- The four row groups in turn. -/
def groups (s : GSt F arg9 arg10 arg15 arg16 arg17 arg18 arg19 arg20 arg21) : GSt F arg9 arg10 arg15 arg16 arg17 arg18 arg19 arg20 arg21 :=
  grp arg1 arg2 arg3 arg4 arg8 arg9 arg10 arg15 arg16 arg17 arg18 arg19 arg20 arg21 X1 X2 X3 X4 X8 geo3 ![96, 0] inb_S128x128_S32x128_96_0 (k0_pay118 (k0_pay58 (rowAt i arg5 X5))) (k0_pay119 (k0_pay59 (rowAt i arg6 X6))) (k0_pay120 (k0_pay60 (rowAt i arg7 X7)))
    (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))))

/-- A program's next part, run to one answer and one set of contents, then the rest from there. -/
theorem seq {α β : Type} {p : Prog (TpuEff nD τ sig (Elt F) Λ₀ .tc) α} {k : α → Prog (TpuEff nD τ sig (Elt F) Λ₀ .tc) β} {y : α} {P R : sProp 𝕄} {Q : β → sProp 𝕄}
    (h : P ⊢ wp frame (wpE (defs₀ (F := F)) 𝒱 (c : Thread nD τ) bd) E p (fun x => iprop(⌜x = y⌝ ∗ R)))
    (hk : R ⊢ wp frame (wpE (defs₀ (F := F)) 𝒱 (c : Thread nD τ) bd) E (k y) Q) :
    P ⊢ wp frame (wpE (defs₀ (F := F)) 𝒱 (c : Thread nD τ) bd) E (p >>= k) Q := by
  rw [wp_bind]
  refine h.trans (wp_mono _ _ _ fun x => ?_)
  iintro ⟨%hx, HR⟩
  subst hx
  iapply hk
  iexact HR

set_option maxHeartbeats 4000000 in
/-- The body at a grid point: what it leaves in every buffer, from what it finds. -/
theorem body_run (s : GSt F arg9 arg10 arg15 arg16 arg17 arg18 arg19 arg20 arg21) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 s.f9 ∗ at_ c arg10 s.f10 ∗ at_ c arg11 X11 ∗ at_ c arg12 X12 ∗ at_ c arg13 X13 ∗ at_ c arg14 X14 ∗ at_ c arg15 s.f15 ∗ at_ c arg16 s.f16 ∗ at_ c arg17 s.f17 ∗ at_ c arg18 s.f18 ∗ at_ c arg19 s.f19 ∗ at_ c arg20 s.f20 ∗ at_ c arg21 s.f21) ⊢ wp frame (wpE (defs₀ (F := F)) 𝒱 (c : Thread nD τ) bd) E (cc0_ln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
    (fun y => iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (groups i arg1 arg2 arg3 arg4 arg5 arg6 arg7 arg8 arg9 arg10 arg15 arg16 arg17 arg18 arg19 arg20 arg21 X1 X2 X3 X4 X5 X6 X7 X8 s).f9 ∗ at_ c arg10 (groups i arg1 arg2 arg3 arg4 arg5 arg6 arg7 arg8 arg9 arg10 arg15 arg16 arg17 arg18 arg19 arg20 arg21 X1 X2 X3 X4 X5 X6 X7 X8 s).f10 ∗ at_ c arg11 (scaleRow i arg11 arg18 X11 (groups i arg1 arg2 arg3 arg4 arg5 arg6 arg7 arg8 arg9 arg10 arg15 arg16 arg17 arg18 arg19 arg20 arg21 X1 X2 X3 X4 X5 X6 X7 X8 s).f18) ∗ at_ c arg12 (if cond0_1 i then arg12.view.writes (Elt F) X12 [⟨Rect.unit (s := S1x8192) ![0, 0] S1x8192.size inb_S1x8192_S1x8192_0_0, k0_pay4 (View.readAt (Elt F) arg19.view (Rect.unit (s := S8x8192) ![0, 0] S8x8192.size inb_S8x8192_S8x8192_0_0).toLoadRect (groups i arg1 arg2 arg3 arg4 arg5 arg6 arg7 arg8 arg9 arg10 arg15 arg16 arg17 arg18 arg19 arg20 arg21 X1 X2 X3 X4 X5 X6 X7 X8 s).f19)⟩] else X12) ∗ at_ c arg13 (if cond0_1 i then arg13.view.writes (Elt F) X13 [⟨Rect.unit (s := S1x8192) ![0, 0] S1x8192.size inb_S1x8192_S1x8192_0_0, k0_pay5 (View.readAt (Elt F) arg20.view (Rect.unit (s := S8x8192) ![0, 0] S8x8192.size inb_S8x8192_S8x8192_0_0).toLoadRect (groups i arg1 arg2 arg3 arg4 arg5 arg6 arg7 arg8 arg9 arg10 arg15 arg16 arg17 arg18 arg19 arg20 arg21 X1 X2 X3 X4 X5 X6 X7 X8 s).f20)⟩] else X13) ∗ at_ c arg14 (if cond0_1 i then arg14.view.writes (Elt F) X14 [⟨Rect.unit (s := S1x8192) ![0, 0] S1x8192.size inb_S1x8192_S1x8192_0_0, k0_pay6 (View.readAt (Elt F) arg21.view (Rect.unit (s := S8x8192) ![0, 0] S8x8192.size inb_S8x8192_S8x8192_0_0).toLoadRect (groups i arg1 arg2 arg3 arg4 arg5 arg6 arg7 arg8 arg9 arg10 arg15 arg16 arg17 arg18 arg19 arg20 arg21 X1 X2 X3 X4 X5 X6 X7 X8 s).f21)⟩] else X14) ∗ at_ c arg15 (groups i arg1 arg2 arg3 arg4 arg5 arg6 arg7 arg8 arg9 arg10 arg15 arg16 arg17 arg18 arg19 arg20 arg21 X1 X2 X3 X4 X5 X6 X7 X8 s).f15 ∗ at_ c arg16 (groups i arg1 arg2 arg3 arg4 arg5 arg6 arg7 arg8 arg9 arg10 arg15 arg16 arg17 arg18 arg19 arg20 arg21 X1 X2 X3 X4 X5 X6 X7 X8 s).f16 ∗ at_ c arg17 (groups i arg1 arg2 arg3 arg4 arg5 arg6 arg7 arg8 arg9 arg10 arg15 arg16 arg17 arg18 arg19 arg20 arg21 X1 X2 X3 X4 X5 X6 X7 X8 s).f17 ∗ at_ c arg18 (groups i arg1 arg2 arg3 arg4 arg5 arg6 arg7 arg8 arg9 arg10 arg15 arg16 arg17 arg18 arg19 arg20 arg21 X1 X2 X3 X4 X5 X6 X7 X8 s).f18 ∗ at_ c arg19 (groups i arg1 arg2 arg3 arg4 arg5 arg6 arg7 arg8 arg9 arg10 arg15 arg16 arg17 arg18 arg19 arg20 arg21 X1 X2 X3 X4 X5 X6 X7 X8 s).f19 ∗ at_ c arg20 (groups i arg1 arg2 arg3 arg4 arg5 arg6 arg7 arg8 arg9 arg10 arg15 arg16 arg17 arg18 arg19 arg20 arg21 X1 X2 X3 X4 X5 X6 X7 X8 s).f20 ∗ at_ c arg21 (groups i arg1 arg2 arg3 arg4 arg5 arg6 arg7 arg8 arg9 arg10 arg15 arg16 arg17 arg18 arg19 arg20 arg21 X1 X2 X3 X4 X5 X6 X7 X8 s).f21)) := by
  simp only [cc0_ln_bwd_eq_skeleton]
  unfold cc0_ln_bwd_skel
  refine seq c 𝒱 bd E (part13_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 s) ?_
  refine seq c 𝒱 bd E (part14_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)) (start i arg9 arg10 arg15 arg16 arg17 arg18 arg19 arg20 arg21 s) _ _) ?_
  refine seq c 𝒱 bd E (part15_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s)) (k0_pay58 (rowAt i arg5 X5)) (k0_pay59 (rowAt i arg6 X6)) (k0_pay60 (rowAt i arg7 X7))) ?_
  refine seq c 𝒱 bd E (part16_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 (pass1 geo1 arg1 arg4 arg8 arg9 arg10 arg15 arg16 arg17 arg18 arg19 arg20 arg21 (k0_pay81 (k0_pay58 (rowAt i arg5 X5))) (k0_pay82 (k0_pay59 (rowAt i arg6 X6))) (k0_pay83 (k0_pay60 (rowAt i arg7 X7))) X1 X4 X8 (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))) (pass2 geo1 arg2 arg3 arg8 arg9 arg10 arg15 arg16 arg17 arg18 arg19 arg20 arg21 (k0_pay83 (k0_pay60 (rowAt i arg7 X7))) X2 X3 X8 (pass1 geo1 arg1 arg4 arg8 arg9 arg10 arg15 arg16 arg17 arg18 arg19 arg20 arg21 (k0_pay81 (k0_pay58 (rowAt i arg5 X5))) (k0_pay82 (k0_pay59 (rowAt i arg6 X6))) (k0_pay83 (k0_pay60 (rowAt i arg7 X7))) X1 X4 X8 (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))) (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))) (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s)) (k0_pay58 (rowAt i arg5 X5)) (k0_pay59 (rowAt i arg6 X6)) (k0_pay60 (rowAt i arg7 X7))) ?_
  refine seq c 𝒱 bd E (part17_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 (pass1 geo2 arg1 arg4 arg8 arg9 arg10 arg15 arg16 arg17 arg18 arg19 arg20 arg21 (k0_pay99 (k0_pay58 (rowAt i arg5 X5))) (k0_pay100 (k0_pay59 (rowAt i arg6 X6))) (k0_pay101 (k0_pay60 (rowAt i arg7 X7))) X1 X4 X8 (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s)))) (pass2 geo2 arg2 arg3 arg8 arg9 arg10 arg15 arg16 arg17 arg18 arg19 arg20 arg21 (k0_pay101 (k0_pay60 (rowAt i arg7 X7))) X2 X3 X8 (pass1 geo2 arg1 arg4 arg8 arg9 arg10 arg15 arg16 arg17 arg18 arg19 arg20 arg21 (k0_pay99 (k0_pay58 (rowAt i arg5 X5))) (k0_pay100 (k0_pay59 (rowAt i arg6 X6))) (k0_pay101 (k0_pay60 (rowAt i arg7 X7))) X1 X4 X8 (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s)))) (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s)))) (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))) (k0_pay58 (rowAt i arg5 X5)) (k0_pay59 (rowAt i arg6 X6)) (k0_pay60 (rowAt i arg7 X7))) ?_
  refine seq c 𝒱 bd E (part18_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 (pass1 geo3 arg1 arg4 arg8 arg9 arg10 arg15 arg16 arg17 arg18 arg19 arg20 arg21 (k0_pay118 (k0_pay58 (rowAt i arg5 X5))) (k0_pay119 (k0_pay59 (rowAt i arg6 X6))) (k0_pay120 (k0_pay60 (rowAt i arg7 X7))) X1 X4 X8 (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))))) (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s)))) (k0_pay120 (k0_pay60 (rowAt i arg7 X7)))) ?_
  exact tail_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 (pass1 geo3 arg1 arg4 arg8 arg9 arg10 arg15 arg16 arg17 arg18 arg19 arg20 arg21 (k0_pay118 (k0_pay58 (rowAt i arg5 X5))) (k0_pay119 (k0_pay59 (rowAt i arg6 X6))) (k0_pay120 (k0_pay60 (rowAt i arg7 X7))) X1 X4 X8 (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))))) (pass2 geo3 arg2 arg3 arg8 arg9 arg10 arg15 arg16 arg17 arg18 arg19 arg20 arg21 (k0_pay120 (k0_pay60 (rowAt i arg7 X7))) X2 X3 X8 (pass1 geo3 arg1 arg4 arg8 arg9 arg10 arg15 arg16 arg17 arg18 arg19 arg20 arg21 (k0_pay118 (k0_pay58 (rowAt i arg5 X5))) (k0_pay119 (k0_pay59 (rowAt i arg6 X6))) (k0_pay120 (k0_pay60 (rowAt i arg7 X7))) X1 X4 X8 (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))))) (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))))) (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))))

end Body

end Cert.KernelIdeal.Hand
-- ==== Proof.Own.lean ====
/- The body at a grid point over buffers owned at the values they read as. -/
module
public import proofs.«01_k».proof.Proof.Body

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A whole memory reference owned at a value is held at the one contents that reads as it. -/
theorem owns_at (c : Dev nD) {s : Shape} {e : EltTy} (m : Memref sig .tc .vmem s e) (h : m.IsWhole) (Y : s.Idx → Elt F e) :
    (owns (c : Thread nD τ) m fullShare Y : sProp 𝕄) ⊢ at_ c m (h.unread Y) := by
  unfold owns
  iintro ⟨%f, %hf, H⟩
  rw [h.eq_unread hf]
  iexact H

/-- And back. -/
theorem at_owns (c : Dev nD) {s : Shape} {e : EltTy} (m : Memref sig .tc .vmem s e) (f : Con F m) (Y : s.Idx → Elt F e) (h : m.view.read (Elt F) f = Y) :
    at_ c m f ⊢ (owns (c : Thread nD τ) m fullShare Y : sProp 𝕄) := by
  unfold owns
  iintro H
  iexists f
  isplitr
  swap; · iexact H
  ipureintro; exact h

section Own

variable (i : grid0.Coords) (arg1 : Memref sig .tc .vmem S128x8192 .fp8e5m2) (harg1 : arg1.IsWhole) (arg2 : Memref sig .tc .vmem S128x8192 .bf16) (harg2 : arg2.IsWhole) (arg3 : Memref sig .tc .vmem S128x1024 .i8) (harg3 : arg3.IsWhole) (arg4 : Memref sig .tc .vmem S128x8192 .bf16) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S1x8192 .f32) (harg8 : arg8.IsWhole) (arg9 : Memref sig .tc .vmem S128x8192 .bf16) (harg9 : arg9.IsWhole) (arg10 : Memref sig .tc .vmem S128x8192 .fp8e5m2) (harg10 : arg10.IsWhole) (arg11 : Memref sig .tc .vmem S16x128 .f32) (harg11 : arg11.IsWhole) (arg12 : Memref sig .tc .vmem S1x8192 .f32) (harg12 : arg12.IsWhole) (arg13 : Memref sig .tc .vmem S1x8192 .f32) (harg13 : arg13.IsWhole) (arg14 : Memref sig .tc .vmem S1x8192 .f32) (harg14 : arg14.IsWhole) (arg15 : Memref sig .tc .vmem S32x8192 .f32) (harg15 : arg15.IsWhole) (arg16 : Memref sig .tc .vmem S32x8192 .f32) (harg16 : arg16.IsWhole) (arg17 : Memref sig .tc .vmem S32x8192 .f32) (harg17 : arg17.IsWhole) (arg18 : Memref sig .tc .vmem S128x128 .f32) (harg18 : arg18.IsWhole) (arg19 : Memref sig .tc .vmem S8x8192 .f32) (harg19 : arg19.IsWhole) (arg20 : Memref sig .tc .vmem S8x8192 .f32) (harg20 : arg20.IsWhole) (arg21 : Memref sig .tc .vmem S8x8192 .f32) (harg21 : arg21.IsWhole) (Y1 : Vec F S128x8192 .fp8e5m2) (Y2 : Vec F S128x8192 .bf16) (Y3 : Vec F S128x1024 .i8) (Y4 : Vec F S128x8192 .bf16) (Y5 : Vec F S16x128 .f32) (Y6 : Vec F S16x128 .f32) (Y7 : Vec F S16x128 .f32) (Y8 : Vec F S1x8192 .f32) (Y9 : Vec F S128x8192 .bf16) (Y10 : Vec F S128x8192 .fp8e5m2) (Y11 : Vec F S16x128 .f32) (Y12 : Vec F S1x8192 .f32) (Y13 : Vec F S1x8192 .f32) (Y14 : Vec F S1x8192 .f32) (Y15 : Vec F S32x8192 .f32) (Y16 : Vec F S32x8192 .f32) (Y17 : Vec F S32x8192 .f32) (Y18 : Vec F S128x128 .f32) (Y19 : Vec F S8x8192 .f32) (Y20 : Vec F S8x8192 .f32) (Y21 : Vec F S8x8192 .f32)

/-- The four row groups, run from buffers that read as the values given. -/
def ran : GSt F arg9 arg10 arg15 arg16 arg17 arg18 arg19 arg20 arg21 :=
  groups i arg1 arg2 arg3 arg4 arg5 arg6 arg7 arg8 arg9 arg10 arg15 arg16 arg17 arg18 arg19 arg20 arg21 (harg1.unread Y1) (harg2.unread Y2) (harg3.unread Y3) (harg4.unread Y4) (harg5.unread Y5) (harg6.unread Y6) (harg7.unread Y7) (harg8.unread Y8) ⟨(harg9.unread Y9), (harg10.unread Y10), (harg15.unread Y15), (harg16.unread Y16), (harg17.unread Y17), (harg18.unread Y18), (harg19.unread Y19), (harg20.unread Y20), (harg21.unread Y21)⟩

set_option maxHeartbeats 1000000 in
/-- The body at a grid point, over owned buffers. -/
theorem body_owns (c : Dev nD) (𝒱 : Variants) (bd : Option 𝒱.V) (E : Set ℕ) :
  (iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15 ∗ owns (c : Thread nD τ) arg16 fullShare Y16 ∗ owns (c : Thread nD τ) arg17 fullShare Y17 ∗ owns (c : Thread nD τ) arg18 fullShare Y18 ∗ owns (c : Thread nD τ) arg19 fullShare Y19 ∗ owns (c : Thread nD τ) arg20 fullShare Y20 ∗ owns (c : Thread nD τ) arg21 fullShare Y21) : sProp 𝕄) ⊢ wp frame (wpE (defs₀ (F := F)) 𝒱 (c : Thread nD τ) bd) E
    (cc0_ln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun _ => iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare (arg9.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f9) ∗ owns (c : Thread nD τ) arg10 fullShare (arg10.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f10) ∗ owns (c : Thread nD τ) arg11 fullShare (arg11.view.read (Elt F) (scaleRow i arg11 arg18 (harg11.unread Y11) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f18)) ∗ owns (c : Thread nD τ) arg12 fullShare (arg12.view.read (Elt F) (if cond0_1 i then arg12.view.writes (Elt F) (harg12.unread Y12) [⟨Rect.unit (s := S1x8192) ![0, 0] S1x8192.size inb_S1x8192_S1x8192_0_0, k0_pay4 (View.readAt (Elt F) arg19.view (Rect.unit (s := S8x8192) ![0, 0] S8x8192.size inb_S8x8192_S8x8192_0_0).toLoadRect (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f19)⟩] else (harg12.unread Y12))) ∗ owns (c : Thread nD τ) arg13 fullShare (arg13.view.read (Elt F) (if cond0_1 i then arg13.view.writes (Elt F) (harg13.unread Y13) [⟨Rect.unit (s := S1x8192) ![0, 0] S1x8192.size inb_S1x8192_S1x8192_0_0, k0_pay5 (View.readAt (Elt F) arg20.view (Rect.unit (s := S8x8192) ![0, 0] S8x8192.size inb_S8x8192_S8x8192_0_0).toLoadRect (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f20)⟩] else (harg13.unread Y13))) ∗ owns (c : Thread nD τ) arg14 fullShare (arg14.view.read (Elt F) (if cond0_1 i then arg14.view.writes (Elt F) (harg14.unread Y14) [⟨Rect.unit (s := S1x8192) ![0, 0] S1x8192.size inb_S1x8192_S1x8192_0_0, k0_pay6 (View.readAt (Elt F) arg21.view (Rect.unit (s := S8x8192) ![0, 0] S8x8192.size inb_S8x8192_S8x8192_0_0).toLoadRect (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f21)⟩] else (harg14.unread Y14))) ∗ owns (c : Thread nD τ) arg15 fullShare (arg15.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f15) ∗ owns (c : Thread nD τ) arg16 fullShare (arg16.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f16) ∗ owns (c : Thread nD τ) arg17 fullShare (arg17.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f17) ∗ owns (c : Thread nD τ) arg18 fullShare (arg18.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f18) ∗ owns (c : Thread nD τ) arg19 fullShare (arg19.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f19) ∗ owns (c : Thread nD τ) arg20 fullShare (arg20.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f20) ∗ owns (c : Thread nD τ) arg21 fullShare (arg21.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f21))) := by
  refine BI.Entails.trans ?_ ((body_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E (harg1.unread Y1) (harg2.unread Y2) (harg3.unread Y3) (harg4.unread Y4) (harg5.unread Y5) (harg6.unread Y6) (harg7.unread Y7) (harg8.unread Y8) (harg11.unread Y11) (harg12.unread Y12) (harg13.unread Y13) (harg14.unread Y14) ⟨(harg9.unread Y9), (harg10.unread Y10), (harg15.unread Y15), (harg16.unread Y16), (harg17.unread Y17), (harg18.unread Y18), (harg19.unread Y19), (harg20.unread Y20), (harg21.unread Y21)⟩).trans (wp_mono _ _ _ fun _ => ?_))
  · exact (BI.sep_mono (owns_at c arg1 harg1 Y1) (BI.sep_mono (owns_at c arg2 harg2 Y2) (BI.sep_mono (owns_at c arg3 harg3 Y3) (BI.sep_mono (owns_at c arg4 harg4 Y4) (BI.sep_mono (owns_at c arg5 harg5 Y5) (BI.sep_mono (owns_at c arg6 harg6 Y6) (BI.sep_mono (owns_at c arg7 harg7 Y7) (BI.sep_mono (owns_at c arg8 harg8 Y8) (BI.sep_mono (owns_at c arg9 harg9 Y9) (BI.sep_mono (owns_at c arg10 harg10 Y10) (BI.sep_mono (owns_at c arg11 harg11 Y11) (BI.sep_mono (owns_at c arg12 harg12 Y12) (BI.sep_mono (owns_at c arg13 harg13 Y13) (BI.sep_mono (owns_at c arg14 harg14 Y14) (BI.sep_mono (owns_at c arg15 harg15 Y15) (BI.sep_mono (owns_at c arg16 harg16 Y16) (BI.sep_mono (owns_at c arg17 harg17 Y17) (BI.sep_mono (owns_at c arg18 harg18 Y18) (BI.sep_mono (owns_at c arg19 harg19 Y19) (BI.sep_mono (owns_at c arg20 harg20 Y20) (owns_at c arg21 harg21 Y21)))))))))))))))))))))
  · exact (BI.sep_mono (at_owns c arg1 _ _ (harg1.read_unread Y1)) (BI.sep_mono (at_owns c arg2 _ _ (harg2.read_unread Y2)) (BI.sep_mono (at_owns c arg3 _ _ (harg3.read_unread Y3)) (BI.sep_mono (at_owns c arg4 _ _ (harg4.read_unread Y4)) (BI.sep_mono (at_owns c arg5 _ _ (harg5.read_unread Y5)) (BI.sep_mono (at_owns c arg6 _ _ (harg6.read_unread Y6)) (BI.sep_mono (at_owns c arg7 _ _ (harg7.read_unread Y7)) (BI.sep_mono (at_owns c arg8 _ _ (harg8.read_unread Y8)) (BI.sep_mono (at_owns c arg9 _ _ rfl) (BI.sep_mono (at_owns c arg10 _ _ rfl) (BI.sep_mono (at_owns c arg11 _ _ rfl) (BI.sep_mono (at_owns c arg12 _ _ rfl) (BI.sep_mono (at_owns c arg13 _ _ rfl) (BI.sep_mono (at_owns c arg14 _ _ rfl) (BI.sep_mono (at_owns c arg15 _ _ rfl) (BI.sep_mono (at_owns c arg16 _ _ rfl) (BI.sep_mono (at_owns c arg17 _ _ rfl) (BI.sep_mono (at_owns c arg18 _ _ rfl) (BI.sep_mono (at_owns c arg19 _ _ rfl) (BI.sep_mono (at_owns c arg20 _ _ rfl) (at_owns c arg21 _ _ rfl)))))))))))))))))))))

end Own

end Cert.KernelIdeal.Hand
-- ==== Proof.Quiet.lean ====
/- The frame: the launch ends with its inputs unchanged and its counters at zero. Nothing is said of what it leaves in its outputs. -/
module
public import proofs.«01_k».proof.Proof.Own
public import Idealize.ShloMosaic.Lib.Claim

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's data for the frame: the arrays as the region finds them, and nothing asked of what the body leaves. -/
def quiet (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at a grid point is the body. -/
theorem defs₀_row (t : Fin cfg0.N) :
    defs₀ (F := F) .tc cfg0.body (cfg0.bodyArgs t (cfg0.slots t)) = bodyAt0 t := by
  unfold defs₀; rw [Defs.onTc_tc]

/-- A resource under a condition that asks nothing. -/
theorem keep (R : sProp 𝕄) : R ⊢ iprop(⌜True⌝ ∗ R) := by
  iintro H
  isplitr; · ipureintro; trivial
  iexact H

set_option maxHeartbeats 4000000 in
/-- The body at a grid point, from any contents to some contents. -/
theorem quiet_body (c : Dev nD) (t : Fin cfg0.N) (Y0 : Vec F (cfg0.win 0).block (cfg0.win 0).elt) (Y1 : Vec F (cfg0.win 1).block (cfg0.win 1).elt) (Y2 : Vec F (cfg0.win 2).block (cfg0.win 2).elt) (Y3 : Vec F (cfg0.win 3).block (cfg0.win 3).elt) (Y4 : Vec F (cfg0.win 4).block (cfg0.win 4).elt) (Y5 : Vec F (cfg0.win 5).block (cfg0.win 5).elt) (Y6 : Vec F (cfg0.win 6).block (cfg0.win 6).elt) (Y7 : Vec F (cfg0.win 7).block (cfg0.win 7).elt) (Y8 : Vec F (cfg0.win 8).block (cfg0.win 8).elt) (Y9 : Vec F (cfg0.win 9).block (cfg0.win 9).elt) (Y10 : Vec F (cfg0.win 10).block (cfg0.win 10).elt) (Y11 : Vec F (cfg0.win 11).block (cfg0.win 11).elt) (Y12 : Vec F (cfg0.win 12).block (cfg0.win 12).elt) (Y13 : Vec F (cfg0.win 13).block (cfg0.win 13).elt) :
    (iprop(Pipeline.ΦA spec0 c ∗ (quiet m c).owesAt () t.castSucc
      ∗ owns (c : Thread nD τ) (ms0_0 t) fullShare Y0 ∗ owns (c : Thread nD τ) (ms0_1 t) fullShare Y1 ∗ owns (c : Thread nD τ) (ms0_2 t) fullShare Y2 ∗ owns (c : Thread nD τ) (ms0_3 t) fullShare Y3 ∗ owns (c : Thread nD τ) (ms0_4 t) fullShare Y4 ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13) : sProp 𝕄)
    ⊢ wp frame (wpE (defs₀ (F := F)) Variants.none c none) Set.univ (bodyAt0 t) (fun _ => iprop(Pipeline.ΦA spec0 c ∗ (quiet m c).owesAt () t.succ
      ∗ (∃ X, ⌜True⌝ ∗ owns (c : Thread nD τ) (ms0_0 t) fullShare X) ∗ (∃ X, ⌜True⌝ ∗ owns (c : Thread nD τ) (ms0_1 t) fullShare X) ∗ (∃ X, ⌜True⌝ ∗ owns (c : Thread nD τ) (ms0_2 t) fullShare X) ∗ (∃ X, ⌜True⌝ ∗ owns (c : Thread nD τ) (ms0_3 t) fullShare X) ∗ (∃ X, ⌜True⌝ ∗ owns (c : Thread nD τ) (ms0_4 t) fullShare X) ∗ (∃ X, ⌜True⌝ ∗ owns (c : Thread nD τ) (ms0_5 t) fullShare X) ∗ (∃ X, ⌜True⌝ ∗ owns (c : Thread nD τ) (ms0_6 t) fullShare X) ∗ (∃ X, ⌜True⌝ ∗ owns (c : Thread nD τ) (ms0_7 t) fullShare X) ∗ (∃ X, ⌜True⌝ ∗ owns (c : Thread nD τ) (ms0_8 t) fullShare X) ∗ (∃ X, ⌜True⌝ ∗ owns (c : Thread nD τ) (ms0_9 t) fullShare X) ∗ (∃ X, ⌜True⌝ ∗ owns (c : Thread nD τ) (ms0_10 t) fullShare X) ∗ (∃ X, ⌜True⌝ ∗ owns (c : Thread nD τ) (ms0_11 t) fullShare X) ∗ (∃ X, ⌜True⌝ ∗ owns (c : Thread nD τ) (ms0_12 t) fullShare X) ∗ (∃ X, ⌜True⌝ ∗ owns (c : Thread nD τ) (ms0_13 t) fullShare X))) := by
  rw [show (quiet m c).owesAt () t.succ = (quiet m c).owesAt () t.castSucc from rfl, PhiA0_eq]
  unfold bodyAt0
  iintro ⟨⟨⟨⟨%Z0, S0⟩, ⟨%Z1, S1⟩, ⟨%Z2, S2⟩, ⟨%Z3, S3⟩, ⟨%Z4, S4⟩, ⟨%Z5, S5⟩, ⟨%Z6, S6⟩⟩, Hg⟩, Ho, H0, H1, H2, H3, H4, H5, H6, H7, H8, H9, H10, H11, H12, H13⟩
  iapply (wp_wand_r frame (wpE (defs₀ (F := F)) Variants.none (c : Thread nD τ) none) Set.univ)
  isplitl [H0 H1 H2 H3 H4 H5 H6 H7 H8 H9 H10 H11 H12 H13 S0 S1 S2 S3 S4 S5 S6]
  · iapply (body_owns (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) Y0 Y1 Y2 Y3 Y4 Y5 Y6 Y7 Y8 Y9 Y10 Y11 Y12 Y13 Z0 Z1 Z2 Z3 Z4 Z5 Z6 c Variants.none none Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S4]; · iexact S4
    isplitl [S5]; · iexact S5
    iexact S6
  · iintro %y ⟨H0, H1, H2, H3, H4, H5, H6, H7, H8, H9, H10, H11, H12, H13, S0, S1, S2, S3, S4, S5, S6⟩
    isplitl [S0 S1 S2 S3 S4 S5 S6 Hg]
    · isplitl [S0 S1 S2 S3 S4 S5 S6]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        iexists _; iexact S6
      · iexact Hg
    isplitl [Ho]; · iexact Ho
    isplitl [H0]; · iexists _; iapply (keep _); iexact H0
    isplitl [H1]; · iexists _; iapply (keep _); iexact H1
    isplitl [H2]; · iexists _; iapply (keep _); iexact H2
    isplitl [H3]; · iexists _; iapply (keep _); iexact H3
    isplitl [H4]; · iexists _; iapply (keep _); iexact H4
    isplitl [H5]; · iexists _; iapply (keep _); iexact H5
    isplitl [H6]; · iexists _; iapply (keep _); iexact H6
    isplitl [H7]; · iexists _; iapply (keep _); iexact H7
    isplitl [H8]; · iexists _; iapply (keep _); iexact H8
    isplitl [H9]; · iexists _; iapply (keep _); iexact H9
    isplitl [H10]; · iexists _; iapply (keep _); iexact H10
    isplitl [H11]; · iexists _; iapply (keep _); iexact H11
    isplitl [H12]; · iexists _; iapply (keep _); iexact H12
    iexists _; iapply (keep _); iexact H13

/-- The same as the pipeline asks it. -/
theorem quiet_obligation (c : Dev nD) : (quiet (F := F) m c).BodyObligation (defs₀ (F := F)) Variants.none () Set.univ := fun t Y _ => by
  rw [bigSep_W0, bigSep_W0, defs₀_row]
  exact triple_restated (quiet_body m c t (Y 0) (Y 1) (Y 2) (Y 3) (Y 4) (Y 5) (Y 6) (Y 7) (Y 8) (Y 9) (Y 10) (Y 11) (Y 12) (Y 13)) rfl .rfl fun _ => .rfl

set_option backward.isDefEq.respectTransparency.types false in
/-- The launch, and every semaphore counter at zero at its end. -/
theorem quiet_run : θ_run defs (onTc (τ := τ) (main (F := F))) (s₀ m ρ)
    (fun r => Pipeline.RDat.FramePost (cfgs 0) (quiet m) (V m) r ∧ r.2.sem = fun _ => 0) :=
  Pipeline.RDat.θ_run_frame_track cfgs (0 : Fin 1) launch0 defs₀ Variants.none (quiet m) m ρ main
    (hbody := quiet_obligation m) (hshare := fun c w => by unfold Pipeline.RDat.share; exact ite_self _)
    (howed := fun _ _ => rfl) (V := V m) (hmain := hmain m Variants.none) (hA := fun _ _ => rfl) (hin := fun _ => .rfl) (hout := fun _ => .rfl)
    (Q' := _) (hQ' := fun _ h => h)

/-- The frame: the argument arrays end unchanged, and the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (quiet m) (fun _ _ => rfl) ((θ_run defs _ _).mono (fun _ h => h.1) (quiet_run m ρ)))
    ((θ_run defs _ _).mono (fun _ h => h.2) (quiet_run m ρ))

end Cert.KernelIdeal.Hand
-- ==== Proof.Bits.Trips.lean ====
/- One trip of each of the kernel's three kinds of loop, stated once for all four row groups.

   The kernel walks its 128 rows in four groups of 32. Each group runs the same loops over the 64 column tiles, at other offsets. Here
   each kind of trip is one program over the offsets (`Geo`), and each is run once: what it leaves is a function of what it finds. -/
module

public import proofs.«01_k».proof.Proof.Gen.Kernel.Skeleton
public import Idealize.ShloMosaic.Lib.Exec
public import Idealize.ShloMosaic.Lib.Tactic
public import Idealize.ShloMosaic.Lib.Pipeline.Kit

@[expose] public section

set_option maxRecDepth 8192

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- Where the trips of a row group read and write: the group's tile of a 128-row block, of the one-row block, of the 8-row partial
    sums, of the 32-row scratch, and of the block of mask bytes. -/
structure Geo (n : ℕ) where
  tile : Fin n → Fin 2 → ℕ
  tile_inb : ∀ k a, tile k a + S32x128.size a ≤ S128x8192.size a
  row : Fin n → Fin 2 → ℕ
  row_inb : ∀ k a, row k a + S1x128.size a ≤ S1x8192.size a
  acc : Fin n → Fin 2 → ℕ
  acc_inb : ∀ k a, acc k a + S8x128.size a ≤ S8x8192.size a
  scr : Fin n → Fin 2 → ℕ
  scr_inb : ∀ k a, scr k a + S32x128.size a ≤ S32x8192.size a
  msk : Fin n → Fin 2 → ℕ
  msk_inb : ∀ k a, msk k a + S32x128.size a ≤ S128x1024.size a

namespace Geo

variable {n : ℕ} (g : Geo n) (k : Fin n)

/-- The tile of a 128-row block. -/
abbrev tileR : Rect S128x8192 := Rect.unit (s := S128x8192) (g.tile k) S32x128.size (g.tile_inb k)
/-- The tile of a one-row block. -/
abbrev rowR : Rect S1x8192 := Rect.unit (s := S1x8192) (g.row k) S1x128.size (g.row_inb k)
/-- The tile of the 8-row partial sums. -/
abbrev accR : Rect S8x8192 := Rect.unit (s := S8x8192) (g.acc k) S8x128.size (g.acc_inb k)
/-- The tile of the 32-row scratch. -/
abbrev scrR : Rect S32x8192 := Rect.unit (s := S32x8192) (g.scr k) S32x128.size (g.scr_inb k)
/-- The tile of the block of mask bytes. -/
abbrev mskR : Rect S128x1024 := Rect.unit (s := S128x1024) (g.msk k) S32x128.size (g.msk_inb k)

end Geo

/-- A memory reference's contents. -/
abbrev Con (F : FTy → Type) {s : Shape} {e : EltTy} (m : Memref sig .tc .vmem s e) := BufTy.Contents (Elt F) m.view.ty

/-- A memory reference held whole, at the contents `f`. -/
abbrev at_ (c : Dev nD) {s : Shape} {e : EltTy} (m : Memref sig .tc .vmem s e) (f : Con F m) : sProp 𝕄 :=
  m.view.loc (c : Thread nD τ) ↦[m.view.set]{fullShare} f

variable (c : Dev nD) {n : ℕ} (g : Geo n)
  (arg1 : Memref sig .tc .vmem S128x8192 .fp8e5m2) (arg2 : Memref sig .tc .vmem S128x8192 .bf16) (arg3 : Memref sig .tc .vmem S128x1024 .i8)
  (arg4 : Memref sig .tc .vmem S128x8192 .bf16) (arg8 : Memref sig .tc .vmem S1x8192 .f32) (arg9 : Memref sig .tc .vmem S128x8192 .bf16)
  (harg9 : arg9.IsWhole) (arg10 : Memref sig .tc .vmem S128x8192 .fp8e5m2) (harg10 : arg10.IsWhole) (arg15 : Memref sig .tc .vmem S32x8192 .f32)
  (arg16 : Memref sig .tc .vmem S32x8192 .f32) (arg17 : Memref sig .tc .vmem S32x8192 .f32) (arg19 : Memref sig .tc .vmem S8x8192 .f32)
  (arg20 : Memref sig .tc .vmem S8x8192 .f32) (arg21 : Memref sig .tc .vmem S8x8192 .f32)

/-! ## The first pass: the row sums, the partial sums for the gradients of gain and shift, and the scratch copies -/

/-- A trip of the first pass. -/
def gen1 (sq mq rq : FVec F S32x128 .f32) (k : Fin n) (acc : FVec F S32x128 .f32 × FVec F S32x128 .f32) :
    Prog (TpuEff nD τ sig (Elt F) Λ₀ .tc) (FVec F S32x128 .f32 × FVec F S32x128 .f32) := do
  let d : Vec F S32x128 .fp8e5m2 ← Prog.lift (.load arg1 (g.tileR k).toLoadRect (View.loadsAt_vmem h_S32x128))
  let h : Vec F S32x128 .bf16 ← Prog.lift (.load arg4 (g.tileR k).toLoadRect (View.loadsAt_vmem h_S32x128))
  let w : Vec F S1x128 .f32 ← Prog.lift (.load arg8 (g.rowR k).toLoadRect (View.loadsAt_vmem h_S1x128))
  let p : Vec F S8x128 .f32 ← Prog.lift (.load arg19 (g.accR k).toLoadRect (View.loadsAt_vmem h_S8x128))
  let _p' : Vec F S8x128 .f32 ← Prog.lift (.load arg19 (g.accR k).toLoadRect (View.loadsAt_vmem h_S8x128))
  Prog.lift (.store arg19 (g.accR k) (k0_pay13 sq mq rq d h p) Finset.univ (View.stores_vmem_bits_univ h_S8x128 rfl) (.inl rfl))
  let r : Vec F S8x128 .f32 ← Prog.lift (.load arg20 (g.accR k).toLoadRect (View.loadsAt_vmem h_S8x128))
  let _r' : Vec F S8x128 .f32 ← Prog.lift (.load arg20 (g.accR k).toLoadRect (View.loadsAt_vmem h_S8x128))
  Prog.lift (.store arg20 (g.accR k) (k0_pay66 (k0_pay14 sq d r)) Finset.univ (View.stores_vmem_bits_univ h_S8x128 rfl) (.inl rfl))
  let _x : Vec F S32x128 .f32 ← Prog.lift (.load arg15 (g.scrR k).toLoadRect (View.loadsAt_vmem h_S32x128))
  Prog.lift (.store arg15 (g.scrR k) (k0_pay67 (k0_pay7 sq d)) Finset.univ (View.stores_vmem_bits_univ h_S32x128 rfl) (.inl rfl))
  let _y : Vec F S32x128 .f32 ← Prog.lift (.load arg16 (g.scrR k).toLoadRect (View.loadsAt_vmem h_S32x128))
  Prog.lift (.store arg16 (g.scrR k) (k0_pay68 (k0_pay8 mq rq h)) Finset.univ (View.stores_vmem_bits_univ h_S32x128 rfl) (.inl rfl))
  pure (k0_pay11 sq acc.1 d w, k0_pay12 sq mq rq acc.2 d h w)

/-- What the first pass carries and writes. -/
structure St1 (F : FTy → Type) (arg15 arg16 : Memref sig .tc .vmem S32x8192 .f32) (arg19 arg20 : Memref sig .tc .vmem S8x8192 .f32) where
  acc : FVec F S32x128 .f32 × FVec F S32x128 .f32
  f15 : Con F arg15
  f16 : Con F arg16
  f19 : Con F arg19
  f20 : Con F arg20

/-- What a trip of the first pass leaves, from what it finds. -/
def trip1 (sq mq rq : FVec F S32x128 .f32) (X1 : Con F arg1) (X4 : Con F arg4) (X8 : Con F arg8) (k : Fin n)
    (s : St1 F arg15 arg16 arg19 arg20) : St1 F arg15 arg16 arg19 arg20 where
  acc := (k0_pay11 sq s.acc.1 (View.readAt (Elt F) arg1.view (g.tileR k).toLoadRect X1) (View.readAt (Elt F) arg8.view (g.rowR k).toLoadRect X8),
    k0_pay12 sq mq rq s.acc.2 (View.readAt (Elt F) arg1.view (g.tileR k).toLoadRect X1) (View.readAt (Elt F) arg4.view (g.tileR k).toLoadRect X4)
      (View.readAt (Elt F) arg8.view (g.rowR k).toLoadRect X8))
  f15 := arg15.view.writes (Elt F) s.f15 [⟨g.scrR k, k0_pay67 (k0_pay7 sq (View.readAt (Elt F) arg1.view (g.tileR k).toLoadRect X1))⟩]
  f16 := arg16.view.writes (Elt F) s.f16 [⟨g.scrR k, k0_pay68 (k0_pay8 mq rq (View.readAt (Elt F) arg4.view (g.tileR k).toLoadRect X4))⟩]
  f19 := arg19.view.writes (Elt F) s.f19 [⟨g.accR k, k0_pay13 sq mq rq (View.readAt (Elt F) arg1.view (g.tileR k).toLoadRect X1)
    (View.readAt (Elt F) arg4.view (g.tileR k).toLoadRect X4) (View.readAt (Elt F) arg19.view (g.accR k).toLoadRect s.f19)⟩]
  f20 := arg20.view.writes (Elt F) s.f20 [⟨g.accR k, k0_pay66 (k0_pay14 sq (View.readAt (Elt F) arg1.view (g.tileR k).toLoadRect X1)
    (View.readAt (Elt F) arg20.view (g.accR k).toLoadRect s.f20))⟩]

/-- Trip `k` of the first pass as a step of the count; past the last trip, nothing. -/
@[irreducible] def next1 (sq mq rq : FVec F S32x128 .f32) (X1 : Con F arg1) (X4 : Con F arg4) (X8 : Con F arg8) (k : ℕ)
    (s : St1 F arg15 arg16 arg19 arg20) : St1 F arg15 arg16 arg19 arg20 :=
  if h : k < n then trip1 g arg1 arg4 arg8 arg15 arg16 arg19 arg20 sq mq rq X1 X4 X8 ⟨k, h⟩ s else s

/-- The first pass before trip `k`. -/
def st1 (sq mq rq : FVec F S32x128 .f32) (X1 : Con F arg1) (X4 : Con F arg4) (X8 : Con F arg8) (s : St1 F arg15 arg16 arg19 arg20) :
    ℕ → St1 F arg15 arg16 arg19 arg20
  | 0 => s
  | k + 1 => next1 g arg1 arg4 arg8 arg15 arg16 arg19 arg20 sq mq rq X1 X4 X8 k (st1 sq mq rq X1 X4 X8 s k)

theorem st1_succ (sq mq rq : FVec F S32x128 .f32) (X1 : Con F arg1) (X4 : Con F arg4) (X8 : Con F arg8) (s : St1 F arg15 arg16 arg19 arg20)
    (k : Fin n) : st1 g arg1 arg4 arg8 arg15 arg16 arg19 arg20 sq mq rq X1 X4 X8 s (k.val + 1)
      = trip1 g arg1 arg4 arg8 arg15 arg16 arg19 arg20 sq mq rq X1 X4 X8 k (st1 g arg1 arg4 arg8 arg15 arg16 arg19 arg20 sq mq rq X1 X4 X8 s k) := by
  rw [st1, next1]; exact dif_pos k.isLt

/-- The first pass's resources at a state: what it reads, and what it writes. -/
abbrev res1 (X1 : Con F arg1) (X4 : Con F arg4) (X8 : Con F arg8) (s : St1 F arg15 arg16 arg19 arg20) : sProp 𝕄 :=
  iprop(at_ c arg1 X1 ∗ at_ c arg4 X4 ∗ at_ c arg8 X8 ∗ at_ c arg15 s.f15 ∗ at_ c arg16 s.f16 ∗ at_ c arg19 s.f19 ∗ at_ c arg20 s.f20)

set_option maxHeartbeats 1000000 in
theorem gen1_run (𝒱 : Variants) (bd : Option 𝒱.V) (E : Set ℕ) (sq mq rq : FVec F S32x128 .f32) (X1 : Con F arg1) (X4 : Con F arg4) (X8 : Con F arg8)
    (s : St1 F arg15 arg16 arg19 arg20) (k : Fin n) :
    res1 c arg1 arg4 arg8 arg15 arg16 arg19 arg20 X1 X4 X8 s ⊢ wp frame (wpE (defs₀ (F := F)) 𝒱 (c : Thread nD τ) bd) E
      (gen1 (F := F) g arg1 arg4 arg8 arg15 arg16 arg19 arg20 sq mq rq k s.acc)
      (fun y => iprop(⌜y = (trip1 g arg1 arg4 arg8 arg15 arg16 arg19 arg20 sq mq rq X1 X4 X8 k s).acc⌝ ∗ res1 c arg1 arg4 arg8 arg15 arg16 arg19 arg20 X1 X4 X8
        (trip1 g arg1 arg4 arg8 arg15 arg16 arg19 arg20 sq mq rq X1 X4 X8 k s))) := by
  unfold gen1
  iintro ⟨H1, H4, H8, H15, H16, H19, H20⟩
  sl_exec
  sl_step
  isplitl []
  · ipureintro; rfl
  isplitl [H1]; · iexact H1
  isplitl [H4]; · iexact H4
  isplitl [H8]; · iexact H8
  isplitl [H15]; · iexact H15
  isplitl [H16]; · iexact H16
  isplitl [H19]; · iexact H19
  iexact H20

/-! ## The second pass: the input gradient, the masked gradient, its partial sums and its row maximum -/

/-- A trip of the second pass. -/
def gen2 (hp : ∀ k, (g.tileR k).PackedRows (EltTy.packing .bf16)) (v21 : IVec S8x128 32) (v26 : IVec S32x128 32) (rq m1 m2 : FVec F S32x128 .f32)
    (t : Fin n → BitVec 32) (k : Fin n) (acc : FVec F S32x128 .f32) : Prog (TpuEff nD τ sig (Elt F) Λ₀ .tc) (FVec F S32x128 .f32) := do
  let w : Vec F S1x128 .f32 ← Prog.lift (.load arg8 (g.rowR k).toLoadRect (View.loadsAt_vmem h_S1x128))
  let y : Vec F S32x128 .f32 ← Prog.lift (.load arg15 (g.scrR k).toLoadRect (View.loadsAt_vmem h_S32x128))
  let x : Vec F S32x128 .f32 ← Prog.lift (.load arg16 (g.scrR k).toLoadRect (View.loadsAt_vmem h_S32x128))
  let r : Vec F S32x128 .bf16 ← Prog.lift (.load arg2 (g.tileR k).toLoadRect (View.loadsAt_vmem h_S32x128))
  let _o : Vec F S32x128 .bf16 ← Prog.lift (.load arg9 (g.tileR k).toLoadRect (View.loadsAt_vmem h_S32x128))
  Prog.lift (.store arg9 (g.tileR k) (k0_pay16 rq m1 m2 w y x r) Finset.univ
    (View.stores_vmem h_S32x128 (harg9.storeExact_slice rfl _ (hp k)) (fun _ => rfl)) (.inl rfl))
  let b : Vec F S32x128 .i8 ← Prog.lift (.load arg3 (g.mskR k).toLoadRect (View.loadsAt_vmem h_S32x128))
  let p : Vec F S8x128 .f32 ← Prog.lift (.load arg21 (g.accR k).toLoadRect (View.loadsAt_vmem h_S8x128))
  let _p' : Vec F S8x128 .f32 ← Prog.lift (.load arg21 (g.accR k).toLoadRect (View.loadsAt_vmem h_S8x128))
  Prog.lift (.store arg21 (g.accR k) (k0_pay73 (k0_pay18 v21 v26 (t k) (k0_pay15 rq m1 m2 w y x r) b p)) Finset.univ
    (View.stores_vmem_bits_univ h_S8x128 rfl) (.inl rfl))
  let _z : Vec F S32x128 .f32 ← Prog.lift (.load arg17 (g.scrR k).toLoadRect (View.loadsAt_vmem h_S32x128))
  Prog.lift (.store arg17 (g.scrR k) (k0_pay75 (k0_pay17 v21 v26 (t k) (k0_pay15 rq m1 m2 w y x r) b)) Finset.univ
    (View.stores_vmem_bits_univ h_S32x128 rfl) (.inl rfl))
  pure (k0_pay74 acc (k0_pay17 v21 v26 (t k) (k0_pay15 rq m1 m2 w y x r) b))

/-- What the second pass carries and writes. -/
structure St2 (F : FTy → Type) (arg9 : Memref sig .tc .vmem S128x8192 .bf16) (arg17 : Memref sig .tc .vmem S32x8192 .f32)
    (arg21 : Memref sig .tc .vmem S8x8192 .f32) where
  acc : FVec F S32x128 .f32
  f9 : Con F arg9
  f17 : Con F arg17
  f21 : Con F arg21

/-- The input gradient's tile, before rounding. -/
def grad2 (rq m1 m2 : FVec F S32x128 .f32) (X2 : Con F arg2) (X8 : Con F arg8) (X15 : Con F arg15) (X16 : Con F arg16) (k : Fin n) : FVec F S32x128 .f32 :=
  k0_pay15 rq m1 m2 (View.readAt (Elt F) arg8.view (g.rowR k).toLoadRect X8) (View.readAt (Elt F) arg15.view (g.scrR k).toLoadRect X15)
    (View.readAt (Elt F) arg16.view (g.scrR k).toLoadRect X16) (View.readAt (Elt F) arg2.view (g.tileR k).toLoadRect X2)

/-- The masked gradient's tile. -/
def masked2 (v21 : IVec S8x128 32) (v26 : IVec S32x128 32) (rq m1 m2 : FVec F S32x128 .f32) (t : Fin n → BitVec 32) (X2 : Con F arg2) (X3 : Con F arg3)
    (X8 : Con F arg8) (X15 : Con F arg15) (X16 : Con F arg16) (k : Fin n) : FVec F S32x128 .f32 :=
  k0_pay17 v21 v26 (t k) (grad2 g arg2 arg8 arg15 arg16 rq m1 m2 X2 X8 X15 X16 k) (View.readAt (Elt F) arg3.view (g.mskR k).toLoadRect X3)

/-- What a trip of the second pass leaves, from what it finds. -/
def trip2 (v21 : IVec S8x128 32) (v26 : IVec S32x128 32) (rq m1 m2 : FVec F S32x128 .f32) (t : Fin n → BitVec 32) (X2 : Con F arg2) (X3 : Con F arg3)
    (X8 : Con F arg8) (X15 : Con F arg15) (X16 : Con F arg16) (k : Fin n) (s : St2 F arg9 arg17 arg21) : St2 F arg9 arg17 arg21 where
  acc := k0_pay74 s.acc (masked2 g arg2 arg3 arg8 arg15 arg16 v21 v26 rq m1 m2 t X2 X3 X8 X15 X16 k)
  f9 := arg9.view.writes (Elt F) s.f9 [⟨g.tileR k, k0_pay16 rq m1 m2 (View.readAt (Elt F) arg8.view (g.rowR k).toLoadRect X8)
    (View.readAt (Elt F) arg15.view (g.scrR k).toLoadRect X15)
    (View.readAt (Elt F) arg16.view (g.scrR k).toLoadRect X16) (View.readAt (Elt F) arg2.view (g.tileR k).toLoadRect X2)⟩]
  f17 := arg17.view.writes (Elt F) s.f17 [⟨g.scrR k, k0_pay75 (masked2 g arg2 arg3 arg8 arg15 arg16 v21 v26 rq m1 m2 t X2 X3 X8 X15 X16 k)⟩]
  f21 := arg21.view.writes (Elt F) s.f21 [⟨g.accR k, k0_pay73 (k0_pay18 v21 v26 (t k) (grad2 g arg2 arg8 arg15 arg16 rq m1 m2 X2 X8 X15 X16 k)
    (View.readAt (Elt F) arg3.view (g.mskR k).toLoadRect X3) (View.readAt (Elt F) arg21.view (g.accR k).toLoadRect s.f21))⟩]

/-- Trip `k` of the second pass as a step of the count; past the last trip, nothing. -/
@[irreducible] def next2 (v21 : IVec S8x128 32) (v26 : IVec S32x128 32) (rq m1 m2 : FVec F S32x128 .f32) (t : Fin n → BitVec 32) (X2 : Con F arg2) (X3 : Con F arg3)
    (X8 : Con F arg8) (X15 : Con F arg15) (X16 : Con F arg16) (k : ℕ) (s : St2 F arg9 arg17 arg21) : St2 F arg9 arg17 arg21 :=
  if h : k < n then trip2 g arg2 arg3 arg8 arg9 arg15 arg16 arg17 arg21 v21 v26 rq m1 m2 t X2 X3 X8 X15 X16 ⟨k, h⟩ s else s

/-- The second pass before trip `k`. -/
def st2 (v21 : IVec S8x128 32) (v26 : IVec S32x128 32) (rq m1 m2 : FVec F S32x128 .f32) (t : Fin n → BitVec 32) (X2 : Con F arg2) (X3 : Con F arg3)
    (X8 : Con F arg8) (X15 : Con F arg15) (X16 : Con F arg16) (s : St2 F arg9 arg17 arg21) : ℕ → St2 F arg9 arg17 arg21
  | 0 => s
  | k + 1 => next2 g arg2 arg3 arg8 arg9 arg15 arg16 arg17 arg21 v21 v26 rq m1 m2 t X2 X3 X8 X15 X16 k
      (st2 v21 v26 rq m1 m2 t X2 X3 X8 X15 X16 s k)

theorem st2_succ (v21 : IVec S8x128 32) (v26 : IVec S32x128 32) (rq m1 m2 : FVec F S32x128 .f32) (t : Fin n → BitVec 32) (X2 : Con F arg2) (X3 : Con F arg3)
    (X8 : Con F arg8) (X15 : Con F arg15) (X16 : Con F arg16) (s : St2 F arg9 arg17 arg21) (k : Fin n) :
    st2 g arg2 arg3 arg8 arg9 arg15 arg16 arg17 arg21 v21 v26 rq m1 m2 t X2 X3 X8 X15 X16 s (k.val + 1)
      = trip2 g arg2 arg3 arg8 arg9 arg15 arg16 arg17 arg21 v21 v26 rq m1 m2 t X2 X3 X8 X15 X16 k
        (st2 g arg2 arg3 arg8 arg9 arg15 arg16 arg17 arg21 v21 v26 rq m1 m2 t X2 X3 X8 X15 X16 s k) := by
  rw [st2, next2]; exact dif_pos k.isLt

/-- The second pass's resources at a state. -/
abbrev res2 (X2 : Con F arg2) (X3 : Con F arg3) (X8 : Con F arg8) (X15 : Con F arg15) (X16 : Con F arg16) (s : St2 F arg9 arg17 arg21) : sProp 𝕄 :=
  iprop(at_ c arg2 X2 ∗ at_ c arg3 X3 ∗ at_ c arg8 X8 ∗ at_ c arg15 X15 ∗ at_ c arg16 X16 ∗ at_ c arg9 s.f9 ∗ at_ c arg17 s.f17 ∗ at_ c arg21 s.f21)

set_option maxHeartbeats 1000000 in
theorem gen2_run (𝒱 : Variants) (bd : Option 𝒱.V) (E : Set ℕ) (hp : ∀ k, (g.tileR k).PackedRows (EltTy.packing .bf16)) (v21 : IVec S8x128 32)
    (v26 : IVec S32x128 32) (rq m1 m2 : FVec F S32x128 .f32) (t : Fin n → BitVec 32) (X2 : Con F arg2) (X3 : Con F arg3)
    (X8 : Con F arg8) (X15 : Con F arg15) (X16 : Con F arg16) (s : St2 F arg9 arg17 arg21) (k : Fin n) :
    res2 c arg2 arg3 arg8 arg9 arg15 arg16 arg17 arg21 X2 X3 X8 X15 X16 s ⊢ wp frame (wpE (defs₀ (F := F)) 𝒱 (c : Thread nD τ) bd) E
      (gen2 (F := F) g arg2 arg3 arg8 arg9 harg9 arg15 arg16 arg17 arg21 hp v21 v26 rq m1 m2 t k s.acc)
      (fun y => iprop(⌜y = (trip2 g arg2 arg3 arg8 arg9 arg15 arg16 arg17 arg21 v21 v26 rq m1 m2 t X2 X3 X8 X15 X16 k s).acc⌝
        ∗ res2 c arg2 arg3 arg8 arg9 arg15 arg16 arg17 arg21 X2 X3 X8 X15 X16
          (trip2 g arg2 arg3 arg8 arg9 arg15 arg16 arg17 arg21 v21 v26 rq m1 m2 t X2 X3 X8 X15 X16 k s))) := by
  unfold gen2
  iintro ⟨H2, H3, H8, H15, H16, H9, H17, H21⟩
  sl_exec
  sl_step
  isplitl []
  · ipureintro; rfl
  isplitl [H2]; · iexact H2
  isplitl [H3]; · iexact H3
  isplitl [H8]; · iexact H8
  isplitl [H15]; · iexact H15
  isplitl [H16]; · iexact H16
  isplitl [H9]; · iexact H9
  isplitl [H17]; · iexact H17
  iexact H21

/-! ## The third pass: the quantised codes -/

/-- A trip of the third pass. -/
def gen4 (hp : ∀ k, (g.tileR k).PackedRows (EltTy.packing .fp8e5m2)) (P : Vec F S32x128 .f32 → FVec F S32x128 .fp8e5m2) (k : Fin n) (_ : Unit) :
    Prog (TpuEff nD τ sig (Elt F) Λ₀ .tc) Unit := do
  let z : Vec F S32x128 .f32 ← Prog.lift (.load arg17 (g.scrR k).toLoadRect (View.loadsAt_vmem h_S32x128))
  let _o : Vec F S32x128 .fp8e5m2 ← Prog.lift (.load arg10 (g.tileR k).toLoadRect (View.loadsAt_vmem h_S32x128))
  Prog.lift (.store arg10 (g.tileR k) (P z) Finset.univ
    (View.stores_vmem h_S32x128 (harg10.storeExact_slice rfl _ (hp k)) (fun _ => rfl)) (.inl rfl))
  pure ⟨⟩

/-- What a trip of the third pass leaves, from what it finds. -/
def trip4 (P : Vec F S32x128 .f32 → FVec F S32x128 .fp8e5m2) (X17 : Con F arg17) (k : Fin n) (f : Con F arg10) : Con F arg10 :=
  arg10.view.writes (Elt F) f [⟨g.tileR k, P (View.readAt (Elt F) arg17.view (g.scrR k).toLoadRect X17)⟩]

/-- Trip `k` of the third pass as a step of the count; past the last trip, nothing. -/
@[irreducible] def next4 (P : Vec F S32x128 .f32 → FVec F S32x128 .fp8e5m2) (X17 : Con F arg17) (k : ℕ) (f : Con F arg10) : Con F arg10 :=
  if h : k < n then trip4 g arg10 arg17 P X17 ⟨k, h⟩ f else f

/-- The third pass before trip `k`. -/
def st4 (P : Vec F S32x128 .f32 → FVec F S32x128 .fp8e5m2) (X17 : Con F arg17) (f : Con F arg10) : ℕ → Con F arg10
  | 0 => f
  | k + 1 => next4 g arg10 arg17 P X17 k (st4 P X17 f k)

theorem st4_succ (P : Vec F S32x128 .f32 → FVec F S32x128 .fp8e5m2) (X17 : Con F arg17) (f : Con F arg10) (k : Fin n) :
    st4 g arg10 arg17 P X17 f (k.val + 1) = trip4 g arg10 arg17 P X17 k (st4 g arg10 arg17 P X17 f k) := by
  rw [st4, next4]; exact dif_pos k.isLt

theorem gen4_run (𝒱 : Variants) (bd : Option 𝒱.V) (E : Set ℕ) (hp : ∀ k, (g.tileR k).PackedRows (EltTy.packing .fp8e5m2)) (P : Vec F S32x128 .f32 → FVec F S32x128 .fp8e5m2)
    (X17 : Con F arg17) (f : Con F arg10) (k : Fin n) (u : Unit) :
    iprop(at_ c arg17 X17 ∗ at_ c arg10 f) ⊢ wp frame (wpE (defs₀ (F := F)) 𝒱 (c : Thread nD τ) bd) E
      (gen4 (F := F) g arg10 harg10 arg17 hp P k u) (fun _ => iprop(at_ c arg17 X17 ∗ at_ c arg10 (trip4 g arg10 arg17 P X17 k f))) := by
  unfold gen4
  iintro ⟨H17, H10⟩
  sl_exec
  sl_step
  isplitl [H17]; · iexact H17
  iexact H10

/-! ## The loops' invariants -/

/-- The first pass's invariant: what it reads, what it has written, and what it carries. -/
abbrev inv1 (sq mq rq : FVec F S32x128 .f32) (X1 : Con F arg1) (X4 : Con F arg4) (X8 : Con F arg8) (s : St1 F arg15 arg16 arg19 arg20) (k : ℕ)
    (acc : FVec F S32x128 .f32 × FVec F S32x128 .f32) : sProp 𝕄 :=
  iprop(at_ c arg1 X1 ∗ at_ c arg4 X4 ∗ at_ c arg8 X8
    ∗ (∃ f, at_ c arg15 f ∗ ⌜f = (st1 g arg1 arg4 arg8 arg15 arg16 arg19 arg20 sq mq rq X1 X4 X8 s k).f15⌝)
    ∗ (∃ f, at_ c arg16 f ∗ ⌜f = (st1 g arg1 arg4 arg8 arg15 arg16 arg19 arg20 sq mq rq X1 X4 X8 s k).f16⌝)
    ∗ (∃ f, at_ c arg19 f ∗ ⌜f = (st1 g arg1 arg4 arg8 arg15 arg16 arg19 arg20 sq mq rq X1 X4 X8 s k).f19⌝)
    ∗ (∃ f, at_ c arg20 f ∗ ⌜f = (st1 g arg1 arg4 arg8 arg15 arg16 arg19 arg20 sq mq rq X1 X4 X8 s k).f20⌝)
    ∗ ⌜acc = (st1 g arg1 arg4 arg8 arg15 arg16 arg19 arg20 sq mq rq X1 X4 X8 s k).acc⌝)

theorem step1 (𝒱 : Variants) (bd : Option 𝒱.V) (E : Set ℕ) (sq mq rq : FVec F S32x128 .f32) (X1 : Con F arg1) (X4 : Con F arg4) (X8 : Con F arg8)
    (s : St1 F arg15 arg16 arg19 arg20) (k : Fin n) (acc : FVec F S32x128 .f32 × FVec F S32x128 .f32) :
    inv1 c g arg1 arg4 arg8 arg15 arg16 arg19 arg20 sq mq rq X1 X4 X8 s k acc ⊢ wp frame (wpE (defs₀ (F := F)) 𝒱 (c : Thread nD τ) bd) E
      (gen1 (F := F) g arg1 arg4 arg8 arg15 arg16 arg19 arg20 sq mq rq k acc)
      (inv1 c g arg1 arg4 arg8 arg15 arg16 arg19 arg20 sq mq rq X1 X4 X8 s (k.val + 1)) := by
  iintro ⟨H1, H4, H8, ⟨%f15, H15, %h15⟩, ⟨%f16, H16, %h16⟩, ⟨%f19, H19, %h19⟩, ⟨%f20, H20, %h20⟩, %hacc⟩
  subst h15 h16 h19 h20 hacc
  iapply (wp_wand_r Idealize.ShloMosaic.frame (wpE (defs₀ (F := F)) 𝒱 (c : Thread nD τ) bd) E)
  isplitl [H1 H4 H8 H15 H16 H19 H20]
  · iapply (gen1_run c g arg1 arg4 arg8 arg15 arg16 arg19 arg20 𝒱 bd E sq mq rq X1 X4 X8 (st1 g arg1 arg4 arg8 arg15 arg16 arg19 arg20 sq mq rq X1 X4 X8 s k) k)
    isplitl [H1]; · iexact H1
    isplitl [H4]; · iexact H4
    isplitl [H8]; · iexact H8
    isplitl [H15]; · iexact H15
    isplitl [H16]; · iexact H16
    isplitl [H19]; · iexact H19
    iexact H20
  · iintro %y ⟨%hy, H1, H4, H8, H15, H16, H19, H20⟩
    isplitl [H1]; · iexact H1
    isplitl [H4]; · iexact H4
    isplitl [H8]; · iexact H8
    simp only [st1_succ]
    isplitl [H15]
    · iexists _; isplitl [H15]; · iexact H15
      ipureintro; rfl
    isplitl [H16]
    · iexists _; isplitl [H16]; · iexact H16
      ipureintro; rfl
    isplitl [H19]
    · iexists _; isplitl [H19]; · iexact H19
      ipureintro; rfl
    isplitl [H20]
    · iexists _; isplitl [H20]; · iexact H20
      ipureintro; rfl
    ipureintro; exact hy

/-- The second pass's invariant. -/
abbrev inv2 (v21 : IVec S8x128 32) (v26 : IVec S32x128 32) (rq m1 m2 : FVec F S32x128 .f32) (t : Fin n → BitVec 32) (X2 : Con F arg2) (X3 : Con F arg3)
    (X8 : Con F arg8) (X15 : Con F arg15) (X16 : Con F arg16) (s : St2 F arg9 arg17 arg21) (k : ℕ) (acc : FVec F S32x128 .f32) : sProp 𝕄 :=
  iprop(at_ c arg2 X2 ∗ at_ c arg3 X3 ∗ at_ c arg8 X8 ∗ at_ c arg15 X15 ∗ at_ c arg16 X16
    ∗ (∃ f, at_ c arg9 f ∗ ⌜f = (st2 g arg2 arg3 arg8 arg9 arg15 arg16 arg17 arg21 v21 v26 rq m1 m2 t X2 X3 X8 X15 X16 s k).f9⌝)
    ∗ (∃ f, at_ c arg17 f ∗ ⌜f = (st2 g arg2 arg3 arg8 arg9 arg15 arg16 arg17 arg21 v21 v26 rq m1 m2 t X2 X3 X8 X15 X16 s k).f17⌝)
    ∗ (∃ f, at_ c arg21 f ∗ ⌜f = (st2 g arg2 arg3 arg8 arg9 arg15 arg16 arg17 arg21 v21 v26 rq m1 m2 t X2 X3 X8 X15 X16 s k).f21⌝)
    ∗ ⌜acc = (st2 g arg2 arg3 arg8 arg9 arg15 arg16 arg17 arg21 v21 v26 rq m1 m2 t X2 X3 X8 X15 X16 s k).acc⌝)

theorem step2 (𝒱 : Variants) (bd : Option 𝒱.V) (E : Set ℕ) (hp : ∀ k, (g.tileR k).PackedRows (EltTy.packing .bf16)) (v21 : IVec S8x128 32)
    (v26 : IVec S32x128 32) (rq m1 m2 : FVec F S32x128 .f32) (t : Fin n → BitVec 32) (X2 : Con F arg2) (X3 : Con F arg3)
    (X8 : Con F arg8) (X15 : Con F arg15) (X16 : Con F arg16) (s : St2 F arg9 arg17 arg21) (k : Fin n) (acc : FVec F S32x128 .f32) :
    inv2 c g arg2 arg3 arg8 arg9 arg15 arg16 arg17 arg21 v21 v26 rq m1 m2 t X2 X3 X8 X15 X16 s k acc
      ⊢ wp frame (wpE (defs₀ (F := F)) 𝒱 (c : Thread nD τ) bd) E
      (gen2 (F := F) g arg2 arg3 arg8 arg9 harg9 arg15 arg16 arg17 arg21 hp v21 v26 rq m1 m2 t k acc)
      (inv2 c g arg2 arg3 arg8 arg9 arg15 arg16 arg17 arg21 v21 v26 rq m1 m2 t X2 X3 X8 X15 X16 s (k.val + 1)) := by
  iintro ⟨H2, H3, H8, H15, H16, ⟨%f9, H9, %h9⟩, ⟨%f17, H17, %h17⟩, ⟨%f21, H21, %h21⟩, %hacc⟩
  subst h9 h17 h21 hacc
  iapply (wp_wand_r Idealize.ShloMosaic.frame (wpE (defs₀ (F := F)) 𝒱 (c : Thread nD τ) bd) E)
  isplitl [H2 H3 H8 H15 H16 H9 H17 H21]
  · iapply (gen2_run c g arg2 arg3 arg8 arg9 harg9 arg15 arg16 arg17 arg21 𝒱 bd E hp v21 v26 rq m1 m2 t X2 X3 X8 X15 X16
      (st2 g arg2 arg3 arg8 arg9 arg15 arg16 arg17 arg21 v21 v26 rq m1 m2 t X2 X3 X8 X15 X16 s k) k)
    isplitl [H2]; · iexact H2
    isplitl [H3]; · iexact H3
    isplitl [H8]; · iexact H8
    isplitl [H15]; · iexact H15
    isplitl [H16]; · iexact H16
    isplitl [H9]; · iexact H9
    isplitl [H17]; · iexact H17
    iexact H21
  · iintro %y ⟨%hy, H2, H3, H8, H15, H16, H9, H17, H21⟩
    isplitl [H2]; · iexact H2
    isplitl [H3]; · iexact H3
    isplitl [H8]; · iexact H8
    isplitl [H15]; · iexact H15
    isplitl [H16]; · iexact H16
    simp only [st2_succ]
    isplitl [H9]
    · iexists _; isplitl [H9]; · iexact H9
      ipureintro; rfl
    isplitl [H17]
    · iexists _; isplitl [H17]; · iexact H17
      ipureintro; rfl
    isplitl [H21]
    · iexists _; isplitl [H21]; · iexact H21
      ipureintro; rfl
    ipureintro; exact hy

/-- The third pass's invariant. -/
abbrev inv4 (P : Vec F S32x128 .f32 → FVec F S32x128 .fp8e5m2) (X17 : Con F arg17) (f : Con F arg10) (k : ℕ) (_ : Unit) : sProp 𝕄 :=
  iprop(at_ c arg17 X17 ∗ (∃ f', at_ c arg10 f' ∗ ⌜f' = st4 g arg10 arg17 P X17 f k⌝))

theorem step4 (𝒱 : Variants) (bd : Option 𝒱.V) (E : Set ℕ) (hp : ∀ k, (g.tileR k).PackedRows (EltTy.packing .fp8e5m2))
    (P : Vec F S32x128 .f32 → FVec F S32x128 .fp8e5m2) (X17 : Con F arg17) (f : Con F arg10) (k : Fin n) (u : Unit) :
    inv4 c g arg10 arg17 P X17 f k u ⊢ wp frame (wpE (defs₀ (F := F)) 𝒱 (c : Thread nD τ) bd) E
      (gen4 (F := F) g arg10 harg10 arg17 hp P k u) (inv4 c g arg10 arg17 P X17 f (k.val + 1)) := by
  iintro ⟨H17, ⟨%f10, H10, %h10⟩⟩
  subst h10
  iapply (wp_wand_r Idealize.ShloMosaic.frame (wpE (defs₀ (F := F)) 𝒱 (c : Thread nD τ) bd) E)
  isplitl [H17 H10]
  · iapply (gen4_run c g arg10 harg10 arg17 𝒱 bd E hp P X17 (st4 g arg10 arg17 P X17 f k) k u)
    isplitl [H17]; · iexact H17
    iexact H10
  · iintro %y ⟨H17, H10⟩
    isplitl [H17]; · iexact H17
    simp only [st4_succ]
    iexists _; isplitl [H10]; · iexact H10
    ipureintro; rfl

end Cert.Kernel.Hand
-- ==== Proof.Bits.Invs.lean ====
/- The kernel's twelve loops that touch memory, each by its invariant.

   Four row groups, three loops each. Each loop's region is the trip of `Trips` at the group's offsets. -/
module

public import proofs.«01_k».proof.Proof.Bits.Trips

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- Row group 0: rows 0 to 31. -/
def geo0 : Geo k0_t1_loop.trips where
  tile := k0_off2
  tile_inb := k0_off2_inb
  row := k0_off3
  row_inb := k0_off3_inb
  acc := k0_off4
  acc_inb := k0_off4_inb
  scr := k0_off5
  scr_inb := k0_off5_inb
  msk := k0_off9
  msk_inb := k0_off9_inb

/-- The tiles of row group 0 start on whole words. -/
theorem geo0_p16 (k : Fin k0_t1_loop.trips) : (geo0.tileR k).PackedRows (EltTy.packing .bf16) := k0_off8_packedbf16 k
theorem geo0_p8 (k : Fin k0_t1_loop.trips) : (geo0.tileR k).PackedRows (EltTy.packing .fp8e5m2) := k0_off12_packedfp8e5m2 k

/-- Row group 1: rows 32 to 63. -/
def geo1 : Geo k0_t5_loop.trips where
  tile := k0_off13
  tile_inb := k0_off13_inb
  row := k0_off14
  row_inb := k0_off14_inb
  acc := k0_off15
  acc_inb := k0_off15_inb
  scr := k0_off16
  scr_inb := k0_off16_inb
  msk := k0_off20
  msk_inb := k0_off20_inb

/-- The tiles of row group 1 start on whole words. -/
theorem geo1_p16 (k : Fin k0_t5_loop.trips) : (geo1.tileR k).PackedRows (EltTy.packing .bf16) := k0_off19_packedbf16 k
theorem geo1_p8 (k : Fin k0_t5_loop.trips) : (geo1.tileR k).PackedRows (EltTy.packing .fp8e5m2) := k0_off23_packedfp8e5m2 k

/-- Row group 2: rows 64 to 95. -/
def geo2 : Geo k0_t9_loop.trips where
  tile := k0_off24
  tile_inb := k0_off24_inb
  row := k0_off25
  row_inb := k0_off25_inb
  acc := k0_off26
  acc_inb := k0_off26_inb
  scr := k0_off27
  scr_inb := k0_off27_inb
  msk := k0_off31
  msk_inb := k0_off31_inb

/-- The tiles of row group 2 start on whole words. -/
theorem geo2_p16 (k : Fin k0_t9_loop.trips) : (geo2.tileR k).PackedRows (EltTy.packing .bf16) := k0_off30_packedbf16 k
theorem geo2_p8 (k : Fin k0_t9_loop.trips) : (geo2.tileR k).PackedRows (EltTy.packing .fp8e5m2) := k0_off34_packedfp8e5m2 k

/-- Row group 3: rows 96 to 127. -/
def geo3 : Geo k0_t13_loop.trips where
  tile := k0_off35
  tile_inb := k0_off35_inb
  row := k0_off36
  row_inb := k0_off36_inb
  acc := k0_off37
  acc_inb := k0_off37_inb
  scr := k0_off38
  scr_inb := k0_off38_inb
  msk := k0_off42
  msk_inb := k0_off42_inb

/-- The tiles of row group 3 start on whole words. -/
theorem geo3_p16 (k : Fin k0_t13_loop.trips) : (geo3.tileR k).PackedRows (EltTy.packing .bf16) := k0_off41_packedbf16 k
theorem geo3_p8 (k : Fin k0_t13_loop.trips) : (geo3.tileR k).PackedRows (EltTy.packing .fp8e5m2) := k0_off45_packedfp8e5m2 k

/-- The tile a trip is at, as the word the program counts in. -/
abbrev word {n : ℕ} (k : Fin n) : BitVec 32 := Scf.iv 0#32 1#32 k

variable (𝒱 : Variants) (c : Dev nD) (bd : Option 𝒱.V) (E : Set ℕ) (i : grid0.Coords) (arg1 : Memref sig .tc .vmem S128x8192 .fp8e5m2) (harg1 : arg1.IsWhole) (arg2 : Memref sig .tc .vmem S128x8192 .bf16) (harg2 : arg2.IsWhole) (arg3 : Memref sig .tc .vmem S128x1024 .i8) (harg3 : arg3.IsWhole) (arg4 : Memref sig .tc .vmem S128x8192 .bf16) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S1x8192 .f32) (harg8 : arg8.IsWhole) (arg9 : Memref sig .tc .vmem S128x8192 .bf16) (harg9 : arg9.IsWhole) (arg10 : Memref sig .tc .vmem S128x8192 .fp8e5m2) (harg10 : arg10.IsWhole) (arg11 : Memref sig .tc .vmem S16x128 .f32) (harg11 : arg11.IsWhole) (arg12 : Memref sig .tc .vmem S1x8192 .f32) (harg12 : arg12.IsWhole) (arg13 : Memref sig .tc .vmem S1x8192 .f32) (harg13 : arg13.IsWhole) (arg14 : Memref sig .tc .vmem S1x8192 .f32) (harg14 : arg14.IsWhole) (arg15 : Memref sig .tc .vmem S32x8192 .f32) (harg15 : arg15.IsWhole) (arg16 : Memref sig .tc .vmem S32x8192 .f32) (harg16 : arg16.IsWhole) (arg17 : Memref sig .tc .vmem S32x8192 .f32) (harg17 : arg17.IsWhole) (arg18 : Memref sig .tc .vmem S128x128 .f32) (harg18 : arg18.IsWhole) (arg19 : Memref sig .tc .vmem S8x8192 .f32) (harg19 : arg19.IsWhole) (arg20 : Memref sig .tc .vmem S8x8192 .f32) (harg20 : arg20.IsWhole) (arg21 : Memref sig .tc .vmem S8x8192 .f32) (harg21 : arg21.IsWhole)

set_option warn.classDefReducibility false in
@[sl_loop] def loop1 (v4 : Vec F S1x128 .f32) (v10 : Vec F S1x128 .f32) (v16 : Vec F S1x128 .f32) (X1 : Con F arg1) (X4 : Con F arg4) (X8 : Con F arg8) (G15 : Con F arg15) (G16 : Con F arg16) (G19 : Con F arg19) (G20 : Con F arg20) (init : FVec F S32x128 .f32 × FVec F S32x128 .f32) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok init (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v10 v16) where
  inv := inv1 c geo0 arg1 arg4 arg8 arg15 arg16 arg19 arg20 (k0_pay62 v4) (k0_pay63 v10) (k0_pay64 v16) X1 X4 X8 ⟨init, G15, G16, G19, G20⟩
  step k acc := step1 c geo0 arg1 arg4 arg8 arg15 arg16 arg19 arg20 𝒱 bd E (k0_pay62 v4) (k0_pay63 v10) (k0_pay64 v16) X1 X4 X8 ⟨init, G15, G16, G19, G20⟩ k acc

set_option warn.classDefReducibility false in
@[sl_loop] def loop2 (v8 : FVec F S128x128 .f32) (v21 : IVec S8x128 32) (v26 : IVec S32x128 32) (v29 : FVec F S32x128 .f32) (v38 : FVec F S32x128 .f32) (v42 : FVec F S32x128 .f32) (X2 : Con F arg2) (X3 : Con F arg3) (X8 : Con F arg8) (X15 : Con F arg15) (X16 : Con F arg16) (G9 : Con F arg9) (G17 : Con F arg17) (G21 : Con F arg21) (init : FVec F S32x128 .f32) :
    Idealize.ShloMosaic.LoopInv (M := 𝕄) Idealize.ShloMosaic.frame (wpE (defs₀ (F := F)) 𝒱 (c : Thread nD τ) bd) E
      k0_t2_loop.lb k0_t2_loop.ub k0_t2_loop.st k0_t2_ok init (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v21 v26 v29 v38 v42) where
  inv := inv2 c geo0 arg2 arg3 arg8 arg9 arg15 arg16 arg17 arg21 v21 v26 v29 v38 (k0_pay71 v42) word X2 X3 X8 X15 X16 ⟨init, G9, G17, G21⟩
  step k acc := step2 c geo0 arg2 arg3 arg8 arg9 harg9 arg15 arg16 arg17 arg21 𝒱 bd E geo0_p16 v21 v26 v29 v38 (k0_pay71 v42) word X2 X3 X8 X15 X16 ⟨init, G9, G17, G21⟩ k acc

set_option warn.classDefReducibility false in
@[sl_loop] def loop4 (v8 : FVec F S128x128 .f32) (v21 : IVec S8x128 32) (v26 : IVec S32x128 32) (v29 : FVec F S32x128 .f32) (v38 : FVec F S32x128 .f32) (v42 : FVec F S32x128 .f32) (v56 : IVec S32x128 32) (X17 : Con F arg17) (G10 : Con F arg10) :
    Idealize.ShloMosaic.LoopInv (M := 𝕄) Idealize.ShloMosaic.frame (wpE (defs₀ (F := F)) 𝒱 (c : Thread nD τ) bd) E
      k0_t4_loop.lb k0_t4_loop.ub k0_t4_loop.st k0_t4_ok () (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v21 v26 v29 v38 v42 v56) where
  inv := inv4 c geo0 arg10 arg17 (k0_pay80 v56) X17 G10
  step k acc := step4 c geo0 arg10 harg10 arg17 𝒱 bd E geo0_p8 (k0_pay80 v56) X17 G10 k acc

set_option warn.classDefReducibility false in
@[sl_loop] def loop5 (v14 : FVec F S128x128 .f32) (v20 : FVec F S128x128 .f32) (v21 : IVec S8x128 32) (v26 : IVec S32x128 32) (v75 : FVec F S32x128 .f32) (X1 : Con F arg1) (X4 : Con F arg4) (X8 : Con F arg8) (G15 : Con F arg15) (G16 : Con F arg16) (G19 : Con F arg19) (G20 : Con F arg20) (init : FVec F S32x128 .f32 × FVec F S32x128 .f32) :
    Idealize.ShloMosaic.LoopInv (M := 𝕄) Idealize.ShloMosaic.frame (wpE (defs₀ (F := F)) 𝒱 (c : Thread nD τ) bd) E
      k0_t5_loop.lb k0_t5_loop.ub k0_t5_loop.st k0_t5_ok init (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v14 v20 v21 v26 v75) where
  inv := inv1 c geo1 arg1 arg4 arg8 arg15 arg16 arg19 arg20 v75 (k0_pay82 v14) (k0_pay83 v20) X1 X4 X8 ⟨init, G15, G16, G19, G20⟩
  step k acc := step1 c geo1 arg1 arg4 arg8 arg15 arg16 arg19 arg20 𝒱 bd E v75 (k0_pay82 v14) (k0_pay83 v20) X1 X4 X8 ⟨init, G15, G16, G19, G20⟩ k acc

set_option warn.classDefReducibility false in
@[sl_loop] def loop6 (v14 : FVec F S128x128 .f32) (v20 : FVec F S128x128 .f32) (v21 : IVec S8x128 32) (v26 : IVec S32x128 32) (v75 : FVec F S32x128 .f32) (v80_0 : FVec F S32x128 .f32) (v80_1 : FVec F S32x128 .f32) (X2 : Con F arg2) (X3 : Con F arg3) (X8 : Con F arg8) (X15 : Con F arg15) (X16 : Con F arg16) (G9 : Con F arg9) (G17 : Con F arg17) (G21 : Con F arg21) (init : FVec F S32x128 .f32) :
    Idealize.ShloMosaic.LoopInv (M := 𝕄) Idealize.ShloMosaic.frame (wpE (defs₀ (F := F)) 𝒱 (c : Thread nD τ) bd) E
      k0_t6_loop.lb k0_t6_loop.ub k0_t6_loop.st k0_t6_ok init (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v14 v20 v21 v26 v75 v80_0 v80_1) where
  inv := inv2 c geo1 arg2 arg3 arg8 arg9 arg15 arg16 arg17 arg21 v21 v26 (k0_pay83 v20) (k0_pay88 v80_0) (k0_pay89 v80_1) word X2 X3 X8 X15 X16 ⟨init, G9, G17, G21⟩
  step k acc := step2 c geo1 arg2 arg3 arg8 arg9 harg9 arg15 arg16 arg17 arg21 𝒱 bd E geo1_p16 v21 v26 (k0_pay83 v20) (k0_pay88 v80_0) (k0_pay89 v80_1) word X2 X3 X8 X15 X16 ⟨init, G9, G17, G21⟩ k acc

set_option warn.classDefReducibility false in
@[sl_loop] def loop8 (v8 : FVec F S128x128 .f32) (v14 : FVec F S128x128 .f32) (v20 : FVec F S128x128 .f32) (v21 : IVec S8x128 32) (v26 : IVec S32x128 32) (v110 : IVec S32x128 32) (c23_i32_54 : BitVec 32) (X17 : Con F arg17) (G10 : Con F arg10) :
    Idealize.ShloMosaic.LoopInv (M := 𝕄) Idealize.ShloMosaic.frame (wpE (defs₀ (F := F)) 𝒱 (c : Thread nD τ) bd) E
      k0_t8_loop.lb k0_t8_loop.ub k0_t8_loop.st k0_t8_ok () (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 v21 v26 v110 c23_i32_54) where
  inv := inv4 c geo1 arg10 arg17 (k0_pay98 v110) X17 G10
  step k acc := step4 c geo1 arg10 harg10 arg17 𝒱 bd E geo1_p8 (k0_pay98 v110) X17 G10 k acc

set_option warn.classDefReducibility false in
@[sl_loop] def loop9 (v8 : FVec F S128x128 .f32) (v14 : FVec F S128x128 .f32) (v20 : FVec F S128x128 .f32) (v21 : IVec S8x128 32) (v26 : IVec S32x128 32) (v110 : IVec S32x128 32) (c23_i32_54 : BitVec 32) (X1 : Con F arg1) (X4 : Con F arg4) (X8 : Con F arg8) (G15 : Con F arg15) (G16 : Con F arg16) (G19 : Con F arg19) (G20 : Con F arg20) (init : FVec F S32x128 .f32 × FVec F S32x128 .f32) :
    Idealize.ShloMosaic.LoopInv (M := 𝕄) Idealize.ShloMosaic.frame (wpE (defs₀ (F := F)) 𝒱 (c : Thread nD τ) bd) E
      k0_t9_loop.lb k0_t9_loop.ub k0_t9_loop.st k0_t9_ok init (k0_t9_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 v21 v26 v110 c23_i32_54) where
  inv := inv1 c geo2 arg1 arg4 arg8 arg15 arg16 arg19 arg20 (k0_pay99 v8) (k0_pay100 v14) (k0_pay101 v20) X1 X4 X8 ⟨init, G15, G16, G19, G20⟩
  step k acc := step1 c geo2 arg1 arg4 arg8 arg15 arg16 arg19 arg20 𝒱 bd E (k0_pay99 v8) (k0_pay100 v14) (k0_pay101 v20) X1 X4 X8 ⟨init, G15, G16, G19, G20⟩ k acc

set_option warn.classDefReducibility false in
@[sl_loop] def loop10 (v8 : FVec F S128x128 .f32) (v14 : FVec F S128x128 .f32) (v20 : FVec F S128x128 .f32) (v21 : IVec S8x128 32) (v26 : IVec S32x128 32) (v110 : IVec S32x128 32) (c23_i32_54 : BitVec 32) (v128_0 : FVec F S32x128 .f32) (v128_1 : FVec F S32x128 .f32) (X2 : Con F arg2) (X3 : Con F arg3) (X8 : Con F arg8) (X15 : Con F arg15) (X16 : Con F arg16) (G9 : Con F arg9) (G17 : Con F arg17) (G21 : Con F arg21) (init : FVec F S32x128 .f32) :
    Idealize.ShloMosaic.LoopInv (M := 𝕄) Idealize.ShloMosaic.frame (wpE (defs₀ (F := F)) 𝒱 (c : Thread nD τ) bd) E
      k0_t10_loop.lb k0_t10_loop.ub k0_t10_loop.st k0_t10_ok init (k0_t10_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 v21 v26 v110 c23_i32_54 v128_0 v128_1) where
  inv := inv2 c geo2 arg2 arg3 arg8 arg9 arg15 arg16 arg17 arg21 v21 v26 (k0_pay101 v20) (k0_pay106 v128_0) (k0_pay107 v128_1) word X2 X3 X8 X15 X16 ⟨init, G9, G17, G21⟩
  step k acc := step2 c geo2 arg2 arg3 arg8 arg9 harg9 arg15 arg16 arg17 arg21 𝒱 bd E geo2_p16 v21 v26 (k0_pay101 v20) (k0_pay106 v128_0) (k0_pay107 v128_1) word X2 X3 X8 X15 X16 ⟨init, G9, G17, G21⟩ k acc

set_option warn.classDefReducibility false in
@[sl_loop] def loop12 (v8 : FVec F S128x128 .f32) (v14 : FVec F S128x128 .f32) (v20 : FVec F S128x128 .f32) (v145 : FVec F S32x1 .f32) (v152 : IVec S32x128 32) (X17 : Con F arg17) (G10 : Con F arg10) :
    Idealize.ShloMosaic.LoopInv (M := 𝕄) Idealize.ShloMosaic.frame (wpE (defs₀ (F := F)) 𝒱 (c : Thread nD τ) bd) E
      k0_t12_loop.lb k0_t12_loop.ub k0_t12_loop.st k0_t12_ok () (k0_t12_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 v145 v152) where
  inv := inv4 c geo2 arg10 arg17 (k0_pay117 v152) X17 G10
  step k acc := step4 c geo2 arg10 harg10 arg17 𝒱 bd E geo2_p8 (k0_pay117 v152) X17 G10 k acc

set_option warn.classDefReducibility false in
@[sl_loop] def loop13 (v8 : FVec F S128x128 .f32) (v14 : FVec F S128x128 .f32) (v20 : FVec F S128x128 .f32) (v145 : FVec F S32x1 .f32) (X1 : Con F arg1) (X4 : Con F arg4) (X8 : Con F arg8) (G15 : Con F arg15) (G16 : Con F arg16) (G19 : Con F arg19) (G20 : Con F arg20) (init : FVec F S32x128 .f32 × FVec F S32x128 .f32) :
    Idealize.ShloMosaic.LoopInv (M := 𝕄) Idealize.ShloMosaic.frame (wpE (defs₀ (F := F)) 𝒱 (c : Thread nD τ) bd) E
      k0_t13_loop.lb k0_t13_loop.ub k0_t13_loop.st k0_t13_ok init (k0_t13_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 v145) where
  inv := inv1 c geo3 arg1 arg4 arg8 arg15 arg16 arg19 arg20 (k0_pay118 v8) (k0_pay119 v14) (k0_pay120 v20) X1 X4 X8 ⟨init, G15, G16, G19, G20⟩
  step k acc := step1 c geo3 arg1 arg4 arg8 arg15 arg16 arg19 arg20 𝒱 bd E (k0_pay118 v8) (k0_pay119 v14) (k0_pay120 v20) X1 X4 X8 ⟨init, G15, G16, G19, G20⟩ k acc

set_option warn.classDefReducibility false in
@[sl_loop] def loop14 (v21 : IVec S8x128 32) (v26 : IVec S32x128 32) (v173 : FVec F S32x128 .f32) (v176_1 : FVec F S32x128 .f32) (v179 : FVec F S32x1 .f32) (X2 : Con F arg2) (X3 : Con F arg3) (X8 : Con F arg8) (X15 : Con F arg15) (X16 : Con F arg16) (G9 : Con F arg9) (G17 : Con F arg17) (G21 : Con F arg21) (init : FVec F S32x128 .f32) :
    Idealize.ShloMosaic.LoopInv (M := 𝕄) Idealize.ShloMosaic.frame (wpE (defs₀ (F := F)) 𝒱 (c : Thread nD τ) bd) E
      k0_t14_loop.lb k0_t14_loop.ub k0_t14_loop.st k0_t14_ok init (k0_t14_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v21 v26 v173 v176_1 v179) where
  inv := inv2 c geo3 arg2 arg3 arg8 arg9 arg15 arg16 arg17 arg21 v21 v26 v173 (k0_pay126 v179) (k0_pay127 v176_1) word X2 X3 X8 X15 X16 ⟨init, G9, G17, G21⟩
  step k acc := step2 c geo3 arg2 arg3 arg8 arg9 harg9 arg15 arg16 arg17 arg21 𝒱 bd E geo3_p16 v21 v26 v173 (k0_pay126 v179) (k0_pay127 v176_1) word X2 X3 X8 X15 X16 ⟨init, G9, G17, G21⟩ k acc

set_option warn.classDefReducibility false in
@[sl_loop] def loop16 (v214 : FVec F S32x128 .f32) (X17 : Con F arg17) (G10 : Con F arg10) :
    Idealize.ShloMosaic.LoopInv (M := 𝕄) Idealize.ShloMosaic.frame (wpE (defs₀ (F := F)) 𝒱 (c : Thread nD τ) bd) E
      k0_t16_loop.lb k0_t16_loop.ub k0_t16_loop.st k0_t16_ok () (k0_t16_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v214) where
  inv := inv4 c geo3 arg10 arg17 (k0_pay2 v214) X17 G10
  step k acc := step4 c geo3 arg10 harg10 arg17 𝒱 bd E geo3_p8 (k0_pay2 v214) X17 G10 k acc

end Cert.Kernel.Hand
-- ==== Proof.Bits.Kit.lean ====
/- The launch's facts that the proof is stated over: the arrays when the region is entered, what each input window holds at a grid point,
   when the body's two conditionals hold, and the staging and scratch memory references. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x8192 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8192 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x8192 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x8192 .fp8e5m2 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8192 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8192 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x8192 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S32x8192 .f32 := Memref.whole cc0_scratch0
abbrev scM0_1 : Memref sig .tc .vmem S32x8192 .f32 := Memref.whole cc0_scratch1
abbrev scM0_2 : Memref sig .tc .vmem S32x8192 .f32 := Memref.whole cc0_scratch2
abbrev scM0_3 : Memref sig .tc .vmem S128x128 .f32 := Memref.whole cc0_scratch3
abbrev scM0_4 : Memref sig .tc .vmem S8x8192 .f32 := Memref.whole cc0_scratch4
abbrev scM0_5 : Memref sig .tc .vmem S8x8192 .f32 := Memref.whole cc0_scratch5
abbrev scM0_6 : Memref sig .tc .vmem S8x8192 .f32 := Memref.whole cc0_scratch6
/-- The scratch `arg19` the kernel carries between points, as a view: what it holds is stated through it. -/
abbrev VS0_4 : View sig .tc .vmem S8x8192 .f32 := scM0_4.view
/-- The scratch `arg20` the kernel carries between points, as a view: what it holds is stated through it. -/
abbrev VS0_5 : View sig .tc .vmem S8x8192 .f32 := scM0_5.view
/-- The scratch `arg21` the kernel carries between points, as a view: what it holds is stated through it. -/
abbrev VS0_6 : View sig .tc .vmem S8x8192 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Hand

end
-- ==== Proof.Bits.Body.lean ====
module
public import proofs.«01_k».proof.Proof.Bits.Invs
public import proofs.«01_k».proof.Proof.Bits.Kit

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- What a row group writes: the input gradient, the codes, the three scratch copies, the scales, and the three partial sums. -/
structure GSt (F : FTy → Type) (arg9 : Memref sig .tc .vmem S128x8192 .bf16) (arg10 : Memref sig .tc .vmem S128x8192 .fp8e5m2) (arg15 : Memref sig .tc .vmem S32x8192 .f32) (arg16 : Memref sig .tc .vmem S32x8192 .f32) (arg17 : Memref sig .tc .vmem S32x8192 .f32) (arg18 : Memref sig .tc .vmem S128x128 .f32) (arg19 : Memref sig .tc .vmem S8x8192 .f32) (arg20 : Memref sig .tc .vmem S8x8192 .f32) (arg21 : Memref sig .tc .vmem S8x8192 .f32) where
  f9 : Con F arg9
  f10 : Con F arg10
  f15 : Con F arg15
  f16 : Con F arg16
  f17 : Con F arg17
  f18 : Con F arg18
  f19 : Con F arg19
  f20 : Con F arg20
  f21 : Con F arg21

section Group

variable {n : ℕ} (g : Geo n) (arg1 : Memref sig .tc .vmem S128x8192 .fp8e5m2) (arg2 : Memref sig .tc .vmem S128x8192 .bf16) (arg3 : Memref sig .tc .vmem S128x1024 .i8) (arg4 : Memref sig .tc .vmem S128x8192 .bf16) (arg8 : Memref sig .tc .vmem S1x8192 .f32) (arg9 : Memref sig .tc .vmem S128x8192 .bf16) (arg10 : Memref sig .tc .vmem S128x8192 .fp8e5m2) (arg15 : Memref sig .tc .vmem S32x8192 .f32) (arg16 : Memref sig .tc .vmem S32x8192 .f32) (arg17 : Memref sig .tc .vmem S32x8192 .f32) (arg18 : Memref sig .tc .vmem S128x128 .f32) (arg19 : Memref sig .tc .vmem S8x8192 .f32) (arg20 : Memref sig .tc .vmem S8x8192 .f32) (arg21 : Memref sig .tc .vmem S8x8192 .f32)

/-- The exponents of a row group's scales, counted from its row maxima: how many powers of two are no greater. -/
def expo (v47 : FVec F S32x128 .f32) : IVec S32x128 32 :=
  Scf.fold (n := k0_t3_loop.trips) (fun k acc => k0_pay77 v47 k acc) k0_pay76

/-- The first pass of a row group, run to its end. -/
def pass1 (sq mq rq : FVec F S32x128 .f32) (X1 : Con F arg1) (X4 : Con F arg4) (X8 : Con F arg8) (s : GSt F arg9 arg10 arg15 arg16 arg17 arg18 arg19 arg20 arg21) :
    St1 F arg15 arg16 arg19 arg20 :=
  st1 g arg1 arg4 arg8 arg15 arg16 arg19 arg20 sq mq rq X1 X4 X8 ⟨(k0_pay65, k0_pay65), s.f15, s.f16, s.f19, s.f20⟩ n

/-- The second pass of a row group, run to its end, from what its first pass left. -/
def pass2 (rq : FVec F S32x128 .f32) (X2 : Con F arg2) (X3 : Con F arg3) (X8 : Con F arg8) (a : St1 F arg15 arg16 arg19 arg20) (s : GSt F arg9 arg10 arg15 arg16 arg17 arg18 arg19 arg20 arg21) : St2 F arg9 arg17 arg21 :=
  st2 g arg2 arg3 arg8 arg9 arg15 arg16 arg17 arg21 (iota .tc S8x128 32 [1] iota_S8x128_d1_w32) k0_pay61 rq
    (k0_pay69 a.acc.1) (k0_pay71 (k0_pay70 a.acc.2)) word X2 X3 X8 a.f15 a.f16 ⟨k0_pay72, s.f9, s.f17, s.f21⟩ n

/-- What a row group leaves, from its two passes: the codes by the exponents found, and its scales in the rows from `o` on. -/
def fin (o : Fin 2 → ℕ) (ho : ∀ a, o a + S32x128.size a ≤ S128x128.size a) (a : St1 F arg15 arg16 arg19 arg20) (b : St2 F arg9 arg17 arg21) (s : GSt F arg9 arg10 arg15 arg16 arg17 arg18 arg19 arg20 arg21) : GSt F arg9 arg10 arg15 arg16 arg17 arg18 arg19 arg20 arg21 where
  f9 := b.f9
  f10 := st4 g arg10 arg17 (k0_pay80 (expo b.acc)) b.f17 s.f10 n
  f15 := a.f15
  f16 := a.f16
  f17 := b.f17
  f18 := arg18.view.writes (Elt F) s.f18 [⟨Rect.unit (s := S128x128) o S32x128.size ho, k0_pay79 (expo b.acc)⟩]
  f19 := a.f19
  f20 := a.f20
  f21 := b.f21

end Group

section Body

variable (i : grid0.Coords) (arg1 : Memref sig .tc .vmem S128x8192 .fp8e5m2) (harg1 : arg1.IsWhole) (arg2 : Memref sig .tc .vmem S128x8192 .bf16) (harg2 : arg2.IsWhole) (arg3 : Memref sig .tc .vmem S128x1024 .i8) (harg3 : arg3.IsWhole) (arg4 : Memref sig .tc .vmem S128x8192 .bf16) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S1x8192 .f32) (harg8 : arg8.IsWhole) (arg9 : Memref sig .tc .vmem S128x8192 .bf16) (harg9 : arg9.IsWhole) (arg10 : Memref sig .tc .vmem S128x8192 .fp8e5m2) (harg10 : arg10.IsWhole) (arg11 : Memref sig .tc .vmem S16x128 .f32) (harg11 : arg11.IsWhole) (arg12 : Memref sig .tc .vmem S1x8192 .f32) (harg12 : arg12.IsWhole) (arg13 : Memref sig .tc .vmem S1x8192 .f32) (harg13 : arg13.IsWhole) (arg14 : Memref sig .tc .vmem S1x8192 .f32) (harg14 : arg14.IsWhole) (arg15 : Memref sig .tc .vmem S32x8192 .f32) (harg15 : arg15.IsWhole) (arg16 : Memref sig .tc .vmem S32x8192 .f32) (harg16 : arg16.IsWhole) (arg17 : Memref sig .tc .vmem S32x8192 .f32) (harg17 : arg17.IsWhole) (arg18 : Memref sig .tc .vmem S128x128 .f32) (harg18 : arg18.IsWhole) (arg19 : Memref sig .tc .vmem S8x8192 .f32) (harg19 : arg19.IsWhole) (arg20 : Memref sig .tc .vmem S8x8192 .f32) (harg20 : arg20.IsWhole) (arg21 : Memref sig .tc .vmem S8x8192 .f32) (harg21 : arg21.IsWhole)

/-- The one row of scales, means or reciprocal deviations that a grid point reads. -/
abbrev rowAt (arg : Memref sig .tc .vmem S16x128 .f32) (X : Con F arg) : Vec F S1x128 .f32 :=
  View.readAt (Elt F) arg.view (Rect.unit (s := S16x128) (k0_off1 i) S1x128.size (k0_off1_inb i)).toLoadRect X

/-- What the row groups start from: the first grid point clears the partial sums. -/
def start (s : GSt F arg9 arg10 arg15 arg16 arg17 arg18 arg19 arg20 arg21) : GSt F arg9 arg10 arg15 arg16 arg17 arg18 arg19 arg20 arg21 :=
  { s with
    f19 := if cond0_0 i then arg19.view.writes (Elt F) arg19.view.junk [⟨Rect.unit (s := S8x8192) ![0, 0] S8x8192.size inb_S8x8192_S8x8192_0_0, k0_pay55⟩] else s.f19
    f20 := if cond0_0 i then arg20.view.writes (Elt F) arg20.view.junk [⟨Rect.unit (s := S8x8192) ![0, 0] S8x8192.size inb_S8x8192_S8x8192_0_0, k0_pay56⟩] else s.f20
    f21 := if cond0_0 i then arg21.view.writes (Elt F) arg21.view.junk [⟨Rect.unit (s := S8x8192) ![0, 0] S8x8192.size inb_S8x8192_S8x8192_0_0, k0_pay57⟩] else s.f21 }

variable (c : Dev nD) (𝒱 : Variants) (bd : Option 𝒱.V) (E : Set ℕ) (X1 : Con F arg1) (X2 : Con F arg2) (X3 : Con F arg3) (X4 : Con F arg4) (X5 : Con F arg5) (X6 : Con F arg6) (X7 : Con F arg7) (X8 : Con F arg8) (X11 : Con F arg11) (X12 : Con F arg12) (X13 : Con F arg13) (X14 : Con F arg14)

set_option maxHeartbeats 4000000 in
/-- The first part: the clearing, the rows read, and the first pass of group 0. -/
theorem part13_run (s : GSt F arg9 arg10 arg15 arg16 arg17 arg18 arg19 arg20 arg21) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 s.f9 ∗ at_ c arg10 s.f10 ∗ at_ c arg11 X11 ∗ at_ c arg12 X12 ∗ at_ c arg13 X13 ∗ at_ c arg14 X14 ∗ at_ c arg15 s.f15 ∗ at_ c arg16 s.f16 ∗ at_ c arg17 s.f17 ∗ at_ c arg18 s.f18 ∗ at_ c arg19 s.f19 ∗ at_ c arg20 s.f20 ∗ at_ c arg21 s.f21) ⊢ wp frame (wpE (defs₀ (F := F)) 𝒱 (c : Thread nD τ) bd) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
    (fun y => iprop(⌜y = ⟨BitVec.ofNat 32 (i 0).val, k0_pay58 (rowAt i arg5 X5), k0_pay59 (rowAt i arg6 X6), k0_pay60 (rowAt i arg7 X7), (iota .tc S8x128 32 [1] iota_S8x128_d1_w32), k0_pay61, k0_pay64 (rowAt i arg7 X7), k0_pay69 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)).acc.1, k0_pay70 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)).acc.2⟩⌝ ∗ at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (start i arg9 arg10 arg15 arg16 arg17 arg18 arg19 arg20 arg21 s).f9 ∗ at_ c arg10 (start i arg9 arg10 arg15 arg16 arg17 arg18 arg19 arg20 arg21 s).f10 ∗ at_ c arg11 X11 ∗ at_ c arg12 X12 ∗ at_ c arg13 X13 ∗ at_ c arg14 X14 ∗ at_ c arg15 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)).f15 ∗ at_ c arg16 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)).f16 ∗ at_ c arg17 (start i arg9 arg10 arg15 arg16 arg17 arg18 arg19 arg20 arg21 s).f17 ∗ at_ c arg18 (start i arg9 arg10 arg15 arg16 arg17 arg18 arg19 arg20 arg21 s).f18 ∗ at_ c arg19 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)).f19 ∗ at_ c arg20 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)).f20 ∗ at_ c arg21 (start i arg9 arg10 arg15 arg16 arg17 arg18 arg19 arg20 arg21 s).f21)) := by
  simp only [k0_part13_eq_skeleton]
  unfold k0_part13_skel
  iintro ⟨H1, H2, H3, H4, H5, H6, H7, H8, H9, H10, H11, H12, H13, H14, H15, H16, H17, H18, H19, H20, H21⟩
  by_cases h0 : cond0_0 i
  · sl_exec (disch := sl_exact h0)
    generalize hG19 : arg19.view.writes (Elt F) arg19.view.junk _ = G19
    generalize hG20 : arg20.view.writes (Elt F) arg20.view.junk _ = G20
    generalize hG21 : arg21.view.writes (Elt F) arg21.view.junk _ = G21
    have hs : start i arg9 arg10 arg15 arg16 arg17 arg18 arg19 arg20 arg21 s = { s with f19 := G19, f20 := G20, f21 := G21 } := by
      simp only [start, if_pos h0, ← hG19, ← hG20, ← hG21]
      rfl
    simp only [hs]
    sl_exec
    sl_step
    sl_close
  · sl_exec (disch := sl_exact h0)
    sl_step
    simp only [start, if_neg h0]
    sl_close

set_option maxHeartbeats 4000000 in
/-- The second part: the rest of group 0. -/
theorem part14_run (a : St1 F arg15 arg16 arg19 arg20) (s : GSt F arg9 arg10 arg15 arg16 arg17 arg18 arg19 arg20 arg21) (v8 : FVec F S128x128 .f32) (rq : FVec F S32x128 .f32) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 s.f9 ∗ at_ c arg10 s.f10 ∗ at_ c arg11 X11 ∗ at_ c arg12 X12 ∗ at_ c arg13 X13 ∗ at_ c arg14 X14 ∗ at_ c arg15 a.f15 ∗ at_ c arg16 a.f16 ∗ at_ c arg17 s.f17 ∗ at_ c arg18 s.f18 ∗ at_ c arg19 a.f19 ∗ at_ c arg20 a.f20 ∗ at_ c arg21 s.f21) ⊢ wp frame (wpE (defs₀ (F := F)) 𝒱 (c : Thread nD τ) bd) E (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 (iota .tc S8x128 32 [1] iota_S8x128_d1_w32) k0_pay61 rq (k0_pay69 a.acc.1) (k0_pay70 a.acc.2))
    (fun y => iprop(⌜y = k0_pay81 v8⌝ ∗ at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f9 ∗ at_ c arg10 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f10 ∗ at_ c arg11 X11 ∗ at_ c arg12 X12 ∗ at_ c arg13 X13 ∗ at_ c arg14 X14 ∗ at_ c arg15 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f15 ∗ at_ c arg16 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f16 ∗ at_ c arg17 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f17 ∗ at_ c arg18 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f18 ∗ at_ c arg19 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f19 ∗ at_ c arg20 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f20 ∗ at_ c arg21 (fin geo0 arg9 arg10 arg15 arg16 arg17 arg18 arg19 arg20 arg21 ![0, 0] inb_S128x128_S32x128_0_0 a (pass2 geo0 arg2 arg3 arg8 arg9 arg10 arg15 arg16 arg17 arg18 arg19 arg20 arg21 rq X2 X3 X8 a s) s).f21)) := by
  simp only [k0_part14_eq_skeleton]
  unfold k0_part14_skel
  iintro ⟨H1, H2, H3, H4, H5, H6, H7, H8, H9, H10, H11, H12, H13, H14, H15, H16, H17, H18, H19, H20, H21⟩
  sl_exec
  sl_step
  simp only [fin]
  sl_close

set_option maxHeartbeats 4000000 in
/-- The third part: the two passes of group 1 and its exponents. -/
theorem part15_run (s : GSt F arg9 arg10 arg15 arg16 arg17 arg18 arg19 arg20 arg21) (v8 v14 v20 : FVec F S128x128 .f32) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 s.f9 ∗ at_ c arg10 s.f10 ∗ at_ c arg11 X11 ∗ at_ c arg12 X12 ∗ at_ c arg13 X13 ∗ at_ c arg14 X14 ∗ at_ c arg15 s.f15 ∗ at_ c arg16 s.f16 ∗ at_ c arg17 s.f17 ∗ at_ c arg18 s.f18 ∗ at_ c arg19 s.f19 ∗ at_ c arg20 s.f20 ∗ at_ c arg21 s.f21) ⊢ wp frame (wpE (defs₀ (F := F)) 𝒱 (c : Thread nD τ) bd) E (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v14 v20 (iota .tc S8x128 32 [1] iota_S8x128_d1_w32) k0_pay61 (k0_pay81 v8))
    (fun y => iprop(⌜y = ⟨k0_pay96 (expo (pass2 geo1 arg2 arg3 arg8 arg9 arg10 arg15 arg16 arg17 arg18 arg19 arg20 arg21 (k0_pay83 v20) X2 X3 X8 (pass1 geo1 arg1 arg4 arg8 arg9 arg10 arg15 arg16 arg17 arg18 arg19 arg20 arg21 (k0_pay81 v8) (k0_pay82 v14) (k0_pay83 v20) X1 X4 X8 s) s).acc), 23#32⟩⌝ ∗ at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (pass2 geo1 arg2 arg3 arg8 arg9 arg10 arg15 arg16 arg17 arg18 arg19 arg20 arg21 (k0_pay83 v20) X2 X3 X8 (pass1 geo1 arg1 arg4 arg8 arg9 arg10 arg15 arg16 arg17 arg18 arg19 arg20 arg21 (k0_pay81 v8) (k0_pay82 v14) (k0_pay83 v20) X1 X4 X8 s) s).f9 ∗ at_ c arg10 s.f10 ∗ at_ c arg11 X11 ∗ at_ c arg12 X12 ∗ at_ c arg13 X13 ∗ at_ c arg14 X14 ∗ at_ c arg15 (pass1 geo1 arg1 arg4 arg8 arg9 arg10 arg15 arg16 arg17 arg18 arg19 arg20 arg21 (k0_pay81 v8) (k0_pay82 v14) (k0_pay83 v20) X1 X4 X8 s).f15 ∗ at_ c arg16 (pass1 geo1 arg1 arg4 arg8 arg9 arg10 arg15 arg16 arg17 arg18 arg19 arg20 arg21 (k0_pay81 v8) (k0_pay82 v14) (k0_pay83 v20) X1 X4 X8 s).f16 ∗ at_ c arg17 (pass2 geo1 arg2 arg3 arg8 arg9 arg10 arg15 arg16 arg17 arg18 arg19 arg20 arg21 (k0_pay83 v20) X2 X3 X8 (pass1 geo1 arg1 arg4 arg8 arg9 arg10 arg15 arg16 arg17 arg18 arg19 arg20 arg21 (k0_pay81 v8) (k0_pay82 v14) (k0_pay83 v20) X1 X4 X8 s) s).f17 ∗ at_ c arg18 s.f18 ∗ at_ c arg19 (pass1 geo1 arg1 arg4 arg8 arg9 arg10 arg15 arg16 arg17 arg18 arg19 arg20 arg21 (k0_pay81 v8) (k0_pay82 v14) (k0_pay83 v20) X1 X4 X8 s).f19 ∗ at_ c arg20 (pass1 geo1 arg1 arg4 arg8 arg9 arg10 arg15 arg16 arg17 arg18 arg19 arg20 arg21 (k0_pay81 v8) (k0_pay82 v14) (k0_pay83 v20) X1 X4 X8 s).f20 ∗ at_ c arg21 (pass2 geo1 arg2 arg3 arg8 arg9 arg10 arg15 arg16 arg17 arg18 arg19 arg20 arg21 (k0_pay83 v20) X2 X3 X8 (pass1 geo1 arg1 arg4 arg8 arg9 arg10 arg15 arg16 arg17 arg18 arg19 arg20 arg21 (k0_pay81 v8) (k0_pay82 v14) (k0_pay83 v20) X1 X4 X8 s) s).f21)) := by
  simp only [k0_part15_eq_skeleton]
  unfold k0_part15_skel
  iintro ⟨H1, H2, H3, H4, H5, H6, H7, H8, H9, H10, H11, H12, H13, H14, H15, H16, H17, H18, H19, H20, H21⟩
  sl_exec
  sl_step
  simp only [fin]
  sl_close

set_option maxHeartbeats 4000000 in
/-- The fourth part: the codes and scales of group 1, and the two passes of group 2. -/
theorem part16_run (a : St1 F arg15 arg16 arg19 arg20) (b : St2 F arg9 arg17 arg21) (s : GSt F arg9 arg10 arg15 arg16 arg17 arg18 arg19 arg20 arg21) (v8 v14 v20 : FVec F S128x128 .f32) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 b.f9 ∗ at_ c arg10 s.f10 ∗ at_ c arg11 X11 ∗ at_ c arg12 X12 ∗ at_ c arg13 X13 ∗ at_ c arg14 X14 ∗ at_ c arg15 a.f15 ∗ at_ c arg16 a.f16 ∗ at_ c arg17 b.f17 ∗ at_ c arg18 s.f18 ∗ at_ c arg19 a.f19 ∗ at_ c arg20 a.f20 ∗ at_ c arg21 b.f21) ⊢ wp frame (wpE (defs₀ (F := F)) 𝒱 (c : Thread nD τ) bd) E (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 (iota .tc S8x128 32 [1] iota_S8x128_d1_w32) k0_pay61 (k0_pay96 (expo b.acc)) 23#32)
    (fun y => iprop(⌜y = k0_pay112 (pass2 geo2 arg2 arg3 arg8 arg9 arg10 arg15 arg16 arg17 arg18 arg19 arg20 arg21 (k0_pay101 v20) X2 X3 X8 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)) (fin geo1 arg9 arg10 arg15 arg16 arg17 arg18 arg19 arg20 arg21 ![32, 0] inb_S128x128_S32x128_32_0 a b s)).acc⌝ ∗ at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (pass2 geo2 arg2 arg3 arg8 arg9 arg10 arg15 arg16 arg17 arg18 arg19 arg20 arg21 (k0_pay101 v20) X2 X3 X8 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)) (fin geo1 arg9 arg10 arg15 arg16 arg17 arg18 arg19 arg20 arg21 ![32, 0] inb_S128x128_S32x128_32_0 a b s)).f9 ∗ at_ c arg10 (fin geo1 arg9 arg10 arg15 arg16 arg17 arg18 arg19 arg20 arg21 ![32, 0] inb_S128x128_S32x128_32_0 a b s).f10 ∗ at_ c arg11 X11 ∗ at_ c arg12 X12 ∗ at_ c arg13 X13 ∗ at_ c arg14 X14 ∗ at_ c arg15 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)).f15 ∗ at_ c arg16 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)).f16 ∗ at_ c arg17 (pass2 geo2 arg2 arg3 arg8 arg9 arg10 arg15 arg16 arg17 arg18 arg19 arg20 arg21 (k0_pay101 v20) X2 X3 X8 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)) (fin geo1 arg9 arg10 arg15 arg16 arg17 arg18 arg19 arg20 arg21 ![32, 0] inb_S128x128_S32x128_32_0 a b s)).f17 ∗ at_ c arg18 (fin geo1 arg9 arg10 arg15 arg16 arg17 arg18 arg19 arg20 arg21 ![32, 0] inb_S128x128_S32x128_32_0 a b s).f18 ∗ at_ c arg19 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)).f19 ∗ at_ c arg20 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)).f20 ∗ at_ c arg21 (pass2 geo2 arg2 arg3 arg8 arg9 arg10 arg15 arg16 arg17 arg18 arg19 arg20 arg21 (k0_pay101 v20) X2 X3 X8 (pass1 geo2 arg1 arg4 arg8 arg9 arg10 arg15 arg16 arg17 arg18 arg19 arg20 arg21 (k0_pay99 v8) (k0_pay100 v14) (k0_pay101 v20) X1 X4 X8 (fin geo1 arg9 arg10 arg15 arg16 arg17 arg18 arg19 arg20 arg21 ![32, 0] inb_S128x128_S32x128_32_0 a b s)) (fin geo1 arg9 arg10 arg15 arg16 arg17 arg18 arg19 arg20 arg21 ![32, 0] inb_S128x128_S32x128_32_0 a b s)).f21)) := by
  simp only [k0_part16_eq_skeleton]
  unfold k0_part16_skel
  iintro ⟨H1, H2, H3, H4, H5, H6, H7, H8, H9, H10, H11, H12, H13, H14, H15, H16, H17, H18, H19, H20, H21⟩
  sl_exec
  sl_step
  simp only [fin]
  sl_close

set_option maxHeartbeats 4000000 in
/-- The fifth part: the exponents, codes and scales of group 2, and the first pass of group 3. -/
theorem part17_run (a : St1 F arg15 arg16 arg19 arg20) (b : St2 F arg9 arg17 arg21) (s : GSt F arg9 arg10 arg15 arg16 arg17 arg18 arg19 arg20 arg21) (v8 v14 v20 : FVec F S128x128 .f32) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 b.f9 ∗ at_ c arg10 s.f10 ∗ at_ c arg11 X11 ∗ at_ c arg12 X12 ∗ at_ c arg13 X13 ∗ at_ c arg14 X14 ∗ at_ c arg15 a.f15 ∗ at_ c arg16 a.f16 ∗ at_ c arg17 b.f17 ∗ at_ c arg18 s.f18 ∗ at_ c arg19 a.f19 ∗ at_ c arg20 a.f20 ∗ at_ c arg21 b.f21) ⊢ wp frame (wpE (defs₀ (F := F)) 𝒱 (c : Thread nD τ) bd) E (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v14 v20 (k0_pay112 b.acc))
    (fun y => iprop(⌜y = ⟨k0_pay120 v20, (pass1 geo3 arg1 arg4 arg8 arg9 arg10 arg15 arg16 arg17 arg18 arg19 arg20 arg21 (k0_pay118 v8) (k0_pay119 v14) (k0_pay120 v20) X1 X4 X8 (fin geo2 arg9 arg10 arg15 arg16 arg17 arg18 arg19 arg20 arg21 ![64, 0] inb_S128x128_S32x128_64_0 a b s)).acc.2, k0_pay125 (pass1 geo3 arg1 arg4 arg8 arg9 arg10 arg15 arg16 arg17 arg18 arg19 arg20 arg21 (k0_pay118 v8) (k0_pay119 v14) (k0_pay120 v20) X1 X4 X8 (fin geo2 arg9 arg10 arg15 arg16 arg17 arg18 arg19 arg20 arg21 ![64, 0] inb_S128x128_S32x128_64_0 a b s)).acc.1⟩⌝ ∗ at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (fin geo2 arg9 arg10 arg15 arg16 arg17 arg18 arg19 arg20 arg21 ![64, 0] inb_S128x128_S32x128_64_0 a b s).f9 ∗ at_ c arg10 (fin geo2 arg9 arg10 arg15 arg16 arg17 arg18 arg19 arg20 arg21 ![64, 0] inb_S128x128_S32x128_64_0 a b s).f10 ∗ at_ c arg11 X11 ∗ at_ c arg12 X12 ∗ at_ c arg13 X13 ∗ at_ c arg14 X14 ∗ at_ c arg15 (pass1 geo3 arg1 arg4 arg8 arg9 arg10 arg15 arg16 arg17 arg18 arg19 arg20 arg21 (k0_pay118 v8) (k0_pay119 v14) (k0_pay120 v20) X1 X4 X8 (fin geo2 arg9 arg10 arg15 arg16 arg17 arg18 arg19 arg20 arg21 ![64, 0] inb_S128x128_S32x128_64_0 a b s)).f15 ∗ at_ c arg16 (pass1 geo3 arg1 arg4 arg8 arg9 arg10 arg15 arg16 arg17 arg18 arg19 arg20 arg21 (k0_pay118 v8) (k0_pay119 v14) (k0_pay120 v20) X1 X4 X8 (fin geo2 arg9 arg10 arg15 arg16 arg17 arg18 arg19 arg20 arg21 ![64, 0] inb_S128x128_S32x128_64_0 a b s)).f16 ∗ at_ c arg17 (fin geo2 arg9 arg10 arg15 arg16 arg17 arg18 arg19 arg20 arg21 ![64, 0] inb_S128x128_S32x128_64_0 a b s).f17 ∗ at_ c arg18 (fin geo2 arg9 arg10 arg15 arg16 arg17 arg18 arg19 arg20 arg21 ![64, 0] inb_S128x128_S32x128_64_0 a b s).f18 ∗ at_ c arg19 (pass1 geo3 arg1 arg4 arg8 arg9 arg10 arg15 arg16 arg17 arg18 arg19 arg20 arg21 (k0_pay118 v8) (k0_pay119 v14) (k0_pay120 v20) X1 X4 X8 (fin geo2 arg9 arg10 arg15 arg16 arg17 arg18 arg19 arg20 arg21 ![64, 0] inb_S128x128_S32x128_64_0 a b s)).f19 ∗ at_ c arg20 (pass1 geo3 arg1 arg4 arg8 arg9 arg10 arg15 arg16 arg17 arg18 arg19 arg20 arg21 (k0_pay118 v8) (k0_pay119 v14) (k0_pay120 v20) X1 X4 X8 (fin geo2 arg9 arg10 arg15 arg16 arg17 arg18 arg19 arg20 arg21 ![64, 0] inb_S128x128_S32x128_64_0 a b s)).f20 ∗ at_ c arg21 (fin geo2 arg9 arg10 arg15 arg16 arg17 arg18 arg19 arg20 arg21 ![64, 0] inb_S128x128_S32x128_64_0 a b s).f21)) := by
  simp only [k0_part17_eq_skeleton]
  unfold k0_part17_skel
  iintro ⟨H1, H2, H3, H4, H5, H6, H7, H8, H9, H10, H11, H12, H13, H14, H15, H16, H17, H18, H19, H20, H21⟩
  sl_exec
  sl_step
  simp only [fin]
  sl_close

set_option maxHeartbeats 4000000 in
/-- The sixth part: the second pass of group 3 and its exponents. -/
theorem part18_run (a : St1 F arg15 arg16 arg19 arg20) (s : GSt F arg9 arg10 arg15 arg16 arg17 arg18 arg19 arg20 arg21) (rq : FVec F S32x128 .f32) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 s.f9 ∗ at_ c arg10 s.f10 ∗ at_ c arg11 X11 ∗ at_ c arg12 X12 ∗ at_ c arg13 X13 ∗ at_ c arg14 X14 ∗ at_ c arg15 a.f15 ∗ at_ c arg16 a.f16 ∗ at_ c arg17 s.f17 ∗ at_ c arg18 s.f18 ∗ at_ c arg19 a.f19 ∗ at_ c arg20 a.f20 ∗ at_ c arg21 s.f21) ⊢ wp frame (wpE (defs₀ (F := F)) 𝒱 (c : Thread nD τ) bd) E (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota .tc S8x128 32 [1] iota_S8x128_d1_w32) k0_pay61 rq a.acc.2 (k0_pay125 a.acc.1))
    (fun y => iprop(⌜y = ⟨k0_pay135 (expo (pass2 geo3 arg2 arg3 arg8 arg9 arg10 arg15 arg16 arg17 arg18 arg19 arg20 arg21 rq X2 X3 X8 a s).acc), k0_pay136 (expo (pass2 geo3 arg2 arg3 arg8 arg9 arg10 arg15 arg16 arg17 arg18 arg19 arg20 arg21 rq X2 X3 X8 a s).acc)⟩⌝ ∗ at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (pass2 geo3 arg2 arg3 arg8 arg9 arg10 arg15 arg16 arg17 arg18 arg19 arg20 arg21 rq X2 X3 X8 a s).f9 ∗ at_ c arg10 s.f10 ∗ at_ c arg11 X11 ∗ at_ c arg12 X12 ∗ at_ c arg13 X13 ∗ at_ c arg14 X14 ∗ at_ c arg15 a.f15 ∗ at_ c arg16 a.f16 ∗ at_ c arg17 (pass2 geo3 arg2 arg3 arg8 arg9 arg10 arg15 arg16 arg17 arg18 arg19 arg20 arg21 rq X2 X3 X8 a s).f17 ∗ at_ c arg18 s.f18 ∗ at_ c arg19 a.f19 ∗ at_ c arg20 a.f20 ∗ at_ c arg21 (pass2 geo3 arg2 arg3 arg8 arg9 arg10 arg15 arg16 arg17 arg18 arg19 arg20 arg21 rq X2 X3 X8 a s).f21)) := by
  simp only [k0_part18_eq_skeleton]
  unfold k0_part18_skel
  iintro ⟨H1, H2, H3, H4, H5, H6, H7, H8, H9, H10, H11, H12, H13, H14, H15, H16, H17, H18, H19, H20, H21⟩
  sl_exec
  sl_step
  simp only [fin]
  sl_close

/-- The scales' array once a grid point has written its own row. -/
def scaleRow (X11 : Con F arg11) (X18 : Con F arg18) : Con F arg11 :=
  arg11.view.writes (Elt F) X11 [⟨Rect.unit (s := S16x128) (k0_off1 i) S1x128.size (k0_off1_inb i), k0_pay3 (View.readAt (Elt F) arg18.view (Rect.unit (s := S128x128) ![0, 0] S128x128.size inb_S128x128_S128x128_0_0).toLoadRect X18)⟩]

/-- What is left of the body after its six parts. -/
def tail (v209 v214 : FVec F S32x128 .f32) : Prog (TpuEff nD τ sig (Elt F) Λ₀ .tc) PUnit := do
  Prog.lift (.store arg18 (Rect.unit (s := S128x128) ![96, 0] S32x128.size inb_S128x128_S32x128_96_0) (k0_pay1 v209) Finset.univ (View.stores_vmem_bits_univ h_S32x128 rfl) (.inl rfl))
  Scf.Loop.for k0_t16_loop k0_t16_ok ⟨⟩ (k0_t16_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v214)
  let v219 : Vec F S128x128 .f32 ← Prog.lift (.load arg18 (Rect.unit (s := S128x128) ![0, 0] S128x128.size inb_S128x128_S128x128_0_0).toLoadRect (View.loadsAt_vmem h_S128x128))
  let v223 : Vec F S1x128 .f32 ← Prog.lift (.load arg11 (Rect.unit (s := S16x128) (k0_off1 i) S1x128.size (k0_off1_inb i)).toLoadRect (View.loadsAt_vmem h_S1x128))
  Prog.lift (.store arg11 (Rect.unit (s := S16x128) (k0_off1 i) S1x128.size (k0_off1_inb i)) (k0_pay3 v219) Finset.univ (View.stores_vmem_bits_univ h_S1x128 rfl) (.inl rfl))
  if k0_h2 : k0_cond2 i = 1#1 then do
    let v227 : Vec F S8x8192 .f32 ← Prog.lift (.load arg19 (Rect.unit (s := S8x8192) ![0, 0] S8x8192.size inb_S8x8192_S8x8192_0_0).toLoadRect (View.loadsAt_vmem h_S8x8192))
    let v230 : Vec F S1x8192 .f32 ← Prog.lift (.load arg12 (Rect.unit (s := S1x8192) ![0, 0] S1x8192.size inb_S1x8192_S1x8192_0_0).toLoadRect (View.loadsAt_vmem h_S1x8192))
    Prog.lift (.store arg12 (Rect.unit (s := S1x8192) ![0, 0] S1x8192.size inb_S1x8192_S1x8192_0_0) (k0_pay4 v227) Finset.univ (View.stores_vmem_bits_univ h_S1x8192 rfl) (.inl rfl))
    let v231 : Vec F S8x8192 .f32 ← Prog.lift (.load arg20 (Rect.unit (s := S8x8192) ![0, 0] S8x8192.size inb_S8x8192_S8x8192_0_0).toLoadRect (View.loadsAt_vmem h_S8x8192))
    let v234 : Vec F S1x8192 .f32 ← Prog.lift (.load arg13 (Rect.unit (s := S1x8192) ![0, 0] S1x8192.size inb_S1x8192_S1x8192_0_0).toLoadRect (View.loadsAt_vmem h_S1x8192))
    Prog.lift (.store arg13 (Rect.unit (s := S1x8192) ![0, 0] S1x8192.size inb_S1x8192_S1x8192_0_0) (k0_pay5 v231) Finset.univ (View.stores_vmem_bits_univ h_S1x8192 rfl) (.inl rfl))
    let v235 : Vec F S8x8192 .f32 ← Prog.lift (.load arg21 (Rect.unit (s := S8x8192) ![0, 0] S8x8192.size inb_S8x8192_S8x8192_0_0).toLoadRect (View.loadsAt_vmem h_S8x8192))
    let v238 : Vec F S1x8192 .f32 ← Prog.lift (.load arg14 (Rect.unit (s := S1x8192) ![0, 0] S1x8192.size inb_S1x8192_S1x8192_0_0).toLoadRect (View.loadsAt_vmem h_S1x8192))
    Prog.lift (.store arg14 (Rect.unit (s := S1x8192) ![0, 0] S1x8192.size inb_S1x8192_S1x8192_0_0) (k0_pay6 v235) Finset.univ (View.stores_vmem_bits_univ h_S1x8192 rfl) (.inl rfl))
    pure ⟨⟩
  else do
    pure ⟨⟩
  pure ⟨⟩

set_option maxHeartbeats 4000000 in
/-- The end of the body: group 3's codes and scales, the row of scales, and at the last grid point the three sums. -/
theorem tail_run (a : St1 F arg15 arg16 arg19 arg20) (b : St2 F arg9 arg17 arg21) (s : GSt F arg9 arg10 arg15 arg16 arg17 arg18 arg19 arg20 arg21) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 b.f9 ∗ at_ c arg10 s.f10 ∗ at_ c arg11 X11 ∗ at_ c arg12 X12 ∗ at_ c arg13 X13 ∗ at_ c arg14 X14 ∗ at_ c arg15 a.f15 ∗ at_ c arg16 a.f16 ∗ at_ c arg17 b.f17 ∗ at_ c arg18 s.f18 ∗ at_ c arg19 a.f19 ∗ at_ c arg20 a.f20 ∗ at_ c arg21 b.f21) ⊢ wp frame (wpE (defs₀ (F := F)) 𝒱 (c : Thread nD τ) bd) E (tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay135 (expo b.acc)) (k0_pay136 (expo b.acc)))
    (fun y => iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (fin geo3 arg9 arg10 arg15 arg16 arg17 arg18 arg19 arg20 arg21 ![96, 0] inb_S128x128_S32x128_96_0 a b s).f9 ∗ at_ c arg10 (fin geo3 arg9 arg10 arg15 arg16 arg17 arg18 arg19 arg20 arg21 ![96, 0] inb_S128x128_S32x128_96_0 a b s).f10 ∗ at_ c arg11 (scaleRow i arg11 arg18 X11 (fin geo3 arg9 arg10 arg15 arg16 arg17 arg18 arg19 arg20 arg21 ![96, 0] inb_S128x128_S32x128_96_0 a b s).f18) ∗ at_ c arg12 (if cond0_1 i then arg12.view.writes (Elt F) X12 [⟨Rect.unit (s := S1x8192) ![0, 0] S1x8192.size inb_S1x8192_S1x8192_0_0, k0_pay4 (View.readAt (Elt F) arg19.view (Rect.unit (s := S8x8192) ![0, 0] S8x8192.size inb_S8x8192_S8x8192_0_0).toLoadRect (fin geo3 arg9 arg10 arg15 arg16 arg17 arg18 arg19 arg20 arg21 ![96, 0] inb_S128x128_S32x128_96_0 a b s).f19)⟩] else X12) ∗ at_ c arg13 (if cond0_1 i then arg13.view.writes (Elt F) X13 [⟨Rect.unit (s := S1x8192) ![0, 0] S1x8192.size inb_S1x8192_S1x8192_0_0, k0_pay5 (View.readAt (Elt F) arg20.view (Rect.unit (s := S8x8192) ![0, 0] S8x8192.size inb_S8x8192_S8x8192_0_0).toLoadRect (fin geo3 arg9 arg10 arg15 arg16 arg17 arg18 arg19 arg20 arg21 ![96, 0] inb_S128x128_S32x128_96_0 a b s).f20)⟩] else X13) ∗ at_ c arg14 (if cond0_1 i then arg14.view.writes (Elt F) X14 [⟨Rect.unit (s := S1x8192) ![0, 0] S1x8192.size inb_S1x8192_S1x8192_0_0, k0_pay6 (View.readAt (Elt F) arg21.view (Rect.unit (s := S8x8192) ![0, 0] S8x8192.size inb_S8x8192_S8x8192_0_0).toLoadRect (fin geo3 arg9 arg10 arg15 arg16 arg17 arg18 arg19 arg20 arg21 ![96, 0] inb_S128x128_S32x128_96_0 a b s).f21)⟩] else X14) ∗ at_ c arg15 (fin geo3 arg9 arg10 arg15 arg16 arg17 arg18 arg19 arg20 arg21 ![96, 0] inb_S128x128_S32x128_96_0 a b s).f15 ∗ at_ c arg16 (fin geo3 arg9 arg10 arg15 arg16 arg17 arg18 arg19 arg20 arg21 ![96, 0] inb_S128x128_S32x128_96_0 a b s).f16 ∗ at_ c arg17 (fin geo3 arg9 arg10 arg15 arg16 arg17 arg18 arg19 arg20 arg21 ![96, 0] inb_S128x128_S32x128_96_0 a b s).f17 ∗ at_ c arg18 (fin geo3 arg9 arg10 arg15 arg16 arg17 arg18 arg19 arg20 arg21 ![96, 0] inb_S128x128_S32x128_96_0 a b s).f18 ∗ at_ c arg19 (fin geo3 arg9 arg10 arg15 arg16 arg17 arg18 arg19 arg20 arg21 ![96, 0] inb_S128x128_S32x128_96_0 a b s).f19 ∗ at_ c arg20 (fin geo3 arg9 arg10 arg15 arg16 arg17 arg18 arg19 arg20 arg21 ![96, 0] inb_S128x128_S32x128_96_0 a b s).f20 ∗ at_ c arg21 (fin geo3 arg9 arg10 arg15 arg16 arg17 arg18 arg19 arg20 arg21 ![96, 0] inb_S128x128_S32x128_96_0 a b s).f21)) := by
  unfold tail
  iintro ⟨H1, H2, H3, H4, H5, H6, H7, H8, H9, H10, H11, H12, H13, H14, H15, H16, H17, H18, H19, H20, H21⟩
  by_cases h1 : cond0_1 i
  · sl_exec (disch := sl_exact h1)
    sl_step
    simp only [fin, scaleRow, if_pos h1]
    sl_close
  · sl_exec (disch := sl_exact h1)
    sl_step
    simp only [fin, scaleRow, if_neg h1]
    sl_close

/-- A row group: from what it finds, what it leaves. -/
def grp {n : ℕ} (g : Geo n) (o : Fin 2 → ℕ) (ho : ∀ a, o a + S32x128.size a ≤ S128x128.size a) (sq mq rq : FVec F S32x128 .f32) (s : GSt F arg9 arg10 arg15 arg16 arg17 arg18 arg19 arg20 arg21) : GSt F arg9 arg10 arg15 arg16 arg17 arg18 arg19 arg20 arg21 :=
  fin g arg9 arg10 arg15 arg16 arg17 arg18 arg19 arg20 arg21 o ho (pass1 g arg1 arg4 arg8 arg9 arg10 arg15 arg16 arg17 arg18 arg19 arg20 arg21 sq mq rq X1 X4 X8 s)
    (pass2 g arg2 arg3 arg8 arg9 arg10 arg15 arg16 arg17 arg18 arg19 arg20 arg21 rq X2 X3 X8 (pass1 g arg1 arg4 arg8 arg9 arg10 arg15 arg16 arg17 arg18 arg19 arg20 arg21 sq mq rq X1 X4 X8 s) s) s

/-- The four row groups in turn. -/
def groups (s : GSt F arg9 arg10 arg15 arg16 arg17 arg18 arg19 arg20 arg21) : GSt F arg9 arg10 arg15 arg16 arg17 arg18 arg19 arg20 arg21 :=
  grp arg1 arg2 arg3 arg4 arg8 arg9 arg10 arg15 arg16 arg17 arg18 arg19 arg20 arg21 X1 X2 X3 X4 X8 geo3 ![96, 0] inb_S128x128_S32x128_96_0 (k0_pay118 (k0_pay58 (rowAt i arg5 X5))) (k0_pay119 (k0_pay59 (rowAt i arg6 X6))) (k0_pay120 (k0_pay60 (rowAt i arg7 X7)))
    (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))))

/-- A program's next part, run to one answer and one set of contents, then the rest from there. -/
theorem seq {α β : Type} {p : Prog (TpuEff nD τ sig (Elt F) Λ₀ .tc) α} {k : α → Prog (TpuEff nD τ sig (Elt F) Λ₀ .tc) β} {y : α} {P R : sProp 𝕄} {Q : β → sProp 𝕄}
    (h : P ⊢ wp frame (wpE (defs₀ (F := F)) 𝒱 (c : Thread nD τ) bd) E p (fun x => iprop(⌜x = y⌝ ∗ R)))
    (hk : R ⊢ wp frame (wpE (defs₀ (F := F)) 𝒱 (c : Thread nD τ) bd) E (k y) Q) :
    P ⊢ wp frame (wpE (defs₀ (F := F)) 𝒱 (c : Thread nD τ) bd) E (p >>= k) Q := by
  rw [wp_bind]
  refine h.trans (wp_mono _ _ _ fun x => ?_)
  iintro ⟨%hx, HR⟩
  subst hx
  iapply hk
  iexact HR

set_option maxHeartbeats 4000000 in
/-- The body at a grid point: what it leaves in every buffer, from what it finds. -/
theorem body_run (s : GSt F arg9 arg10 arg15 arg16 arg17 arg18 arg19 arg20 arg21) :
  iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 s.f9 ∗ at_ c arg10 s.f10 ∗ at_ c arg11 X11 ∗ at_ c arg12 X12 ∗ at_ c arg13 X13 ∗ at_ c arg14 X14 ∗ at_ c arg15 s.f15 ∗ at_ c arg16 s.f16 ∗ at_ c arg17 s.f17 ∗ at_ c arg18 s.f18 ∗ at_ c arg19 s.f19 ∗ at_ c arg20 s.f20 ∗ at_ c arg21 s.f21) ⊢ wp frame (wpE (defs₀ (F := F)) 𝒱 (c : Thread nD τ) bd) E (cc0_ln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
    (fun y => iprop(at_ c arg1 X1 ∗ at_ c arg2 X2 ∗ at_ c arg3 X3 ∗ at_ c arg4 X4 ∗ at_ c arg5 X5 ∗ at_ c arg6 X6 ∗ at_ c arg7 X7 ∗ at_ c arg8 X8 ∗ at_ c arg9 (groups i arg1 arg2 arg3 arg4 arg5 arg6 arg7 arg8 arg9 arg10 arg15 arg16 arg17 arg18 arg19 arg20 arg21 X1 X2 X3 X4 X5 X6 X7 X8 s).f9 ∗ at_ c arg10 (groups i arg1 arg2 arg3 arg4 arg5 arg6 arg7 arg8 arg9 arg10 arg15 arg16 arg17 arg18 arg19 arg20 arg21 X1 X2 X3 X4 X5 X6 X7 X8 s).f10 ∗ at_ c arg11 (scaleRow i arg11 arg18 X11 (groups i arg1 arg2 arg3 arg4 arg5 arg6 arg7 arg8 arg9 arg10 arg15 arg16 arg17 arg18 arg19 arg20 arg21 X1 X2 X3 X4 X5 X6 X7 X8 s).f18) ∗ at_ c arg12 (if cond0_1 i then arg12.view.writes (Elt F) X12 [⟨Rect.unit (s := S1x8192) ![0, 0] S1x8192.size inb_S1x8192_S1x8192_0_0, k0_pay4 (View.readAt (Elt F) arg19.view (Rect.unit (s := S8x8192) ![0, 0] S8x8192.size inb_S8x8192_S8x8192_0_0).toLoadRect (groups i arg1 arg2 arg3 arg4 arg5 arg6 arg7 arg8 arg9 arg10 arg15 arg16 arg17 arg18 arg19 arg20 arg21 X1 X2 X3 X4 X5 X6 X7 X8 s).f19)⟩] else X12) ∗ at_ c arg13 (if cond0_1 i then arg13.view.writes (Elt F) X13 [⟨Rect.unit (s := S1x8192) ![0, 0] S1x8192.size inb_S1x8192_S1x8192_0_0, k0_pay5 (View.readAt (Elt F) arg20.view (Rect.unit (s := S8x8192) ![0, 0] S8x8192.size inb_S8x8192_S8x8192_0_0).toLoadRect (groups i arg1 arg2 arg3 arg4 arg5 arg6 arg7 arg8 arg9 arg10 arg15 arg16 arg17 arg18 arg19 arg20 arg21 X1 X2 X3 X4 X5 X6 X7 X8 s).f20)⟩] else X13) ∗ at_ c arg14 (if cond0_1 i then arg14.view.writes (Elt F) X14 [⟨Rect.unit (s := S1x8192) ![0, 0] S1x8192.size inb_S1x8192_S1x8192_0_0, k0_pay6 (View.readAt (Elt F) arg21.view (Rect.unit (s := S8x8192) ![0, 0] S8x8192.size inb_S8x8192_S8x8192_0_0).toLoadRect (groups i arg1 arg2 arg3 arg4 arg5 arg6 arg7 arg8 arg9 arg10 arg15 arg16 arg17 arg18 arg19 arg20 arg21 X1 X2 X3 X4 X5 X6 X7 X8 s).f21)⟩] else X14) ∗ at_ c arg15 (groups i arg1 arg2 arg3 arg4 arg5 arg6 arg7 arg8 arg9 arg10 arg15 arg16 arg17 arg18 arg19 arg20 arg21 X1 X2 X3 X4 X5 X6 X7 X8 s).f15 ∗ at_ c arg16 (groups i arg1 arg2 arg3 arg4 arg5 arg6 arg7 arg8 arg9 arg10 arg15 arg16 arg17 arg18 arg19 arg20 arg21 X1 X2 X3 X4 X5 X6 X7 X8 s).f16 ∗ at_ c arg17 (groups i arg1 arg2 arg3 arg4 arg5 arg6 arg7 arg8 arg9 arg10 arg15 arg16 arg17 arg18 arg19 arg20 arg21 X1 X2 X3 X4 X5 X6 X7 X8 s).f17 ∗ at_ c arg18 (groups i arg1 arg2 arg3 arg4 arg5 arg6 arg7 arg8 arg9 arg10 arg15 arg16 arg17 arg18 arg19 arg20 arg21 X1 X2 X3 X4 X5 X6 X7 X8 s).f18 ∗ at_ c arg19 (groups i arg1 arg2 arg3 arg4 arg5 arg6 arg7 arg8 arg9 arg10 arg15 arg16 arg17 arg18 arg19 arg20 arg21 X1 X2 X3 X4 X5 X6 X7 X8 s).f19 ∗ at_ c arg20 (groups i arg1 arg2 arg3 arg4 arg5 arg6 arg7 arg8 arg9 arg10 arg15 arg16 arg17 arg18 arg19 arg20 arg21 X1 X2 X3 X4 X5 X6 X7 X8 s).f20 ∗ at_ c arg21 (groups i arg1 arg2 arg3 arg4 arg5 arg6 arg7 arg8 arg9 arg10 arg15 arg16 arg17 arg18 arg19 arg20 arg21 X1 X2 X3 X4 X5 X6 X7 X8 s).f21)) := by
  simp only [cc0_ln_bwd_eq_skeleton]
  unfold cc0_ln_bwd_skel
  refine seq c 𝒱 bd E (part13_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 s) ?_
  refine seq c 𝒱 bd E (part14_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 (pass1 geo0 arg1 arg4 arg8 arg9 arg10 arg15 arg16 arg17 arg18 arg19 arg20 arg21 (k0_pay62 (rowAt i arg5 X5)) (k0_pay63 (rowAt i arg6 X6)) (k0_pay64 (rowAt i arg7 X7)) X1 X4 X8 (start i arg9 arg10 arg15 arg16 arg17 arg18 arg19 arg20 arg21 s)) (start i arg9 arg10 arg15 arg16 arg17 arg18 arg19 arg20 arg21 s) _ _) ?_
  refine seq c 𝒱 bd E (part15_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s)) (k0_pay58 (rowAt i arg5 X5)) (k0_pay59 (rowAt i arg6 X6)) (k0_pay60 (rowAt i arg7 X7))) ?_
  refine seq c 𝒱 bd E (part16_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 (pass1 geo1 arg1 arg4 arg8 arg9 arg10 arg15 arg16 arg17 arg18 arg19 arg20 arg21 (k0_pay81 (k0_pay58 (rowAt i arg5 X5))) (k0_pay82 (k0_pay59 (rowAt i arg6 X6))) (k0_pay83 (k0_pay60 (rowAt i arg7 X7))) X1 X4 X8 (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))) (pass2 geo1 arg2 arg3 arg8 arg9 arg10 arg15 arg16 arg17 arg18 arg19 arg20 arg21 (k0_pay83 (k0_pay60 (rowAt i arg7 X7))) X2 X3 X8 (pass1 geo1 arg1 arg4 arg8 arg9 arg10 arg15 arg16 arg17 arg18 arg19 arg20 arg21 (k0_pay81 (k0_pay58 (rowAt i arg5 X5))) (k0_pay82 (k0_pay59 (rowAt i arg6 X6))) (k0_pay83 (k0_pay60 (rowAt i arg7 X7))) X1 X4 X8 (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))) (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))) (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s)) (k0_pay58 (rowAt i arg5 X5)) (k0_pay59 (rowAt i arg6 X6)) (k0_pay60 (rowAt i arg7 X7))) ?_
  refine seq c 𝒱 bd E (part17_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 (pass1 geo2 arg1 arg4 arg8 arg9 arg10 arg15 arg16 arg17 arg18 arg19 arg20 arg21 (k0_pay99 (k0_pay58 (rowAt i arg5 X5))) (k0_pay100 (k0_pay59 (rowAt i arg6 X6))) (k0_pay101 (k0_pay60 (rowAt i arg7 X7))) X1 X4 X8 (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s)))) (pass2 geo2 arg2 arg3 arg8 arg9 arg10 arg15 arg16 arg17 arg18 arg19 arg20 arg21 (k0_pay101 (k0_pay60 (rowAt i arg7 X7))) X2 X3 X8 (pass1 geo2 arg1 arg4 arg8 arg9 arg10 arg15 arg16 arg17 arg18 arg19 arg20 arg21 (k0_pay99 (k0_pay58 (rowAt i arg5 X5))) (k0_pay100 (k0_pay59 (rowAt i arg6 X6))) (k0_pay101 (k0_pay60 (rowAt i arg7 X7))) X1 X4 X8 (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s)))) (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s)))) (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))) (k0_pay58 (rowAt i arg5 X5)) (k0_pay59 (rowAt i arg6 X6)) (k0_pay60 (rowAt i arg7 X7))) ?_
  refine seq c 𝒱 bd E (part18_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 (pass1 geo3 arg1 arg4 arg8 arg9 arg10 arg15 arg16 arg17 arg18 arg19 arg20 arg21 (k0_pay118 (k0_pay58 (rowAt i arg5 X5))) (k0_pay119 (k0_pay59 (rowAt i arg6 X6))) (k0_pay120 (k0_pay60 (rowAt i arg7 X7))) X1 X4 X8 (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))))) (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s)))) (k0_pay120 (k0_pay60 (rowAt i arg7 X7)))) ?_
  exact tail_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E X1 X2 X3 X4 X5 X6 X7 X8 X11 X12 X13 X14 (pass1 geo3 arg1 arg4 arg8 arg9 arg10 arg15 arg16 arg17 arg18 arg19 arg20 arg21 (k0_pay118 (k0_pay58 (rowAt i arg5 X5))) (k0_pay119 (k0_pay59 (rowAt i arg6 X6))) (k0_pay120 (k0_pay60 (rowAt i arg7 X7))) X1 X4 X8 (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))))) (pass2 geo3 arg2 arg3 arg8 arg9 arg10 arg15 arg16 arg17 arg18 arg19 arg20 arg21 (k0_pay120 (k0_pay60 (rowAt i arg7 X7))) X2 X3 X8 (pass1 geo3 arg1 arg4 arg8 arg9 arg10 arg15 arg16 arg17 arg18 arg19 arg20 arg21 (k0_pay118 (k0_pay58 (rowAt i arg5 X5))) (k0_pay119 (k0_pay59 (rowAt i arg6 X6))) (k0_pay120 (k0_pay60 (rowAt i arg7 X7))) X1 X4 X8 (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))))) (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))))) (grp arg1 arg2 arg3 arg4 arg8 arg9 arg10 arg15 arg16 arg17 arg18 arg19 arg20 arg21 X1 X2 X3 X4 X8 geo2 ![64, 0] inb_S128x128_S32x128_64_0 (k0_pay99 (k0_pay58 (rowAt i arg5 X5))) (k0_pay100 (k0_pay59 (rowAt i arg6 X6))) (k0_pay101 (k0_pay60 (rowAt i arg7 X7)))
    (grp arg1 arg2 arg3 arg4 arg8 arg9 arg10 arg15 arg16 arg17 arg18 arg19 arg20 arg21 X1 X2 X3 X4 X8 geo1 ![32, 0] inb_S128x128_S32x128_32_0 (k0_pay81 (k0_pay58 (rowAt i arg5 X5))) (k0_pay82 (k0_pay59 (rowAt i arg6 X6))) (k0_pay83 (k0_pay60 (rowAt i arg7 X7)))
    (grp arg1 arg2 arg3 arg4 arg8 arg9 arg10 arg15 arg16 arg17 arg18 arg19 arg20 arg21 X1 X2 X3 X4 X8 geo0 ![0, 0] inb_S128x128_S32x128_0_0 (k0_pay62 (rowAt i arg5 X5)) (k0_pay63 (rowAt i arg6 X6)) (k0_pay64 (rowAt i arg7 X7))
    (start i arg9 arg10 arg15 arg16 arg17 arg18 arg19 arg20 arg21 s))))

end Body

end Cert.Kernel.Hand
-- ==== Proof.Bits.Own.lean ====
/- The body at a grid point over buffers owned at the values they read as. -/
module
public import proofs.«01_k».proof.Proof.Bits.Body

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- A whole memory reference owned at a value is held at the one contents that reads as it. -/
theorem owns_at (c : Dev nD) {s : Shape} {e : EltTy} (m : Memref sig .tc .vmem s e) (h : m.IsWhole) (Y : s.Idx → Elt F e) :
    (owns (c : Thread nD τ) m fullShare Y : sProp 𝕄) ⊢ at_ c m (h.unread Y) := by
  unfold owns
  iintro ⟨%f, %hf, H⟩
  rw [h.eq_unread hf]
  iexact H

/-- And back. -/
theorem at_owns (c : Dev nD) {s : Shape} {e : EltTy} (m : Memref sig .tc .vmem s e) (f : Con F m) (Y : s.Idx → Elt F e) (h : m.view.read (Elt F) f = Y) :
    at_ c m f ⊢ (owns (c : Thread nD τ) m fullShare Y : sProp 𝕄) := by
  unfold owns
  iintro H
  iexists f
  isplitr
  swap; · iexact H
  ipureintro; exact h

section Own

variable (i : grid0.Coords) (arg1 : Memref sig .tc .vmem S128x8192 .fp8e5m2) (harg1 : arg1.IsWhole) (arg2 : Memref sig .tc .vmem S128x8192 .bf16) (harg2 : arg2.IsWhole) (arg3 : Memref sig .tc .vmem S128x1024 .i8) (harg3 : arg3.IsWhole) (arg4 : Memref sig .tc .vmem S128x8192 .bf16) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S1x8192 .f32) (harg8 : arg8.IsWhole) (arg9 : Memref sig .tc .vmem S128x8192 .bf16) (harg9 : arg9.IsWhole) (arg10 : Memref sig .tc .vmem S128x8192 .fp8e5m2) (harg10 : arg10.IsWhole) (arg11 : Memref sig .tc .vmem S16x128 .f32) (harg11 : arg11.IsWhole) (arg12 : Memref sig .tc .vmem S1x8192 .f32) (harg12 : arg12.IsWhole) (arg13 : Memref sig .tc .vmem S1x8192 .f32) (harg13 : arg13.IsWhole) (arg14 : Memref sig .tc .vmem S1x8192 .f32) (harg14 : arg14.IsWhole) (arg15 : Memref sig .tc .vmem S32x8192 .f32) (harg15 : arg15.IsWhole) (arg16 : Memref sig .tc .vmem S32x8192 .f32) (harg16 : arg16.IsWhole) (arg17 : Memref sig .tc .vmem S32x8192 .f32) (harg17 : arg17.IsWhole) (arg18 : Memref sig .tc .vmem S128x128 .f32) (harg18 : arg18.IsWhole) (arg19 : Memref sig .tc .vmem S8x8192 .f32) (harg19 : arg19.IsWhole) (arg20 : Memref sig .tc .vmem S8x8192 .f32) (harg20 : arg20.IsWhole) (arg21 : Memref sig .tc .vmem S8x8192 .f32) (harg21 : arg21.IsWhole) (Y1 : Vec F S128x8192 .fp8e5m2) (Y2 : Vec F S128x8192 .bf16) (Y3 : Vec F S128x1024 .i8) (Y4 : Vec F S128x8192 .bf16) (Y5 : Vec F S16x128 .f32) (Y6 : Vec F S16x128 .f32) (Y7 : Vec F S16x128 .f32) (Y8 : Vec F S1x8192 .f32) (Y9 : Vec F S128x8192 .bf16) (Y10 : Vec F S128x8192 .fp8e5m2) (Y11 : Vec F S16x128 .f32) (Y12 : Vec F S1x8192 .f32) (Y13 : Vec F S1x8192 .f32) (Y14 : Vec F S1x8192 .f32) (Y15 : Vec F S32x8192 .f32) (Y16 : Vec F S32x8192 .f32) (Y17 : Vec F S32x8192 .f32) (Y18 : Vec F S128x128 .f32) (Y19 : Vec F S8x8192 .f32) (Y20 : Vec F S8x8192 .f32) (Y21 : Vec F S8x8192 .f32)

/-- The four row groups, run from buffers that read as the values given. -/
def ran : GSt F arg9 arg10 arg15 arg16 arg17 arg18 arg19 arg20 arg21 :=
  groups i arg1 arg2 arg3 arg4 arg5 arg6 arg7 arg8 arg9 arg10 arg15 arg16 arg17 arg18 arg19 arg20 arg21 (harg1.unread Y1) (harg2.unread Y2) (harg3.unread Y3) (harg4.unread Y4) (harg5.unread Y5) (harg6.unread Y6) (harg7.unread Y7) (harg8.unread Y8) ⟨(harg9.unread Y9), (harg10.unread Y10), (harg15.unread Y15), (harg16.unread Y16), (harg17.unread Y17), (harg18.unread Y18), (harg19.unread Y19), (harg20.unread Y20), (harg21.unread Y21)⟩

set_option maxHeartbeats 1000000 in
/-- The body at a grid point, over owned buffers. -/
theorem body_owns (c : Dev nD) (𝒱 : Variants) (bd : Option 𝒱.V) (E : Set ℕ) :
  (iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15 ∗ owns (c : Thread nD τ) arg16 fullShare Y16 ∗ owns (c : Thread nD τ) arg17 fullShare Y17 ∗ owns (c : Thread nD τ) arg18 fullShare Y18 ∗ owns (c : Thread nD τ) arg19 fullShare Y19 ∗ owns (c : Thread nD τ) arg20 fullShare Y20 ∗ owns (c : Thread nD τ) arg21 fullShare Y21) : sProp 𝕄) ⊢ wp frame (wpE (defs₀ (F := F)) 𝒱 (c : Thread nD τ) bd) E
    (cc0_ln_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun _ => iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare (arg9.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f9) ∗ owns (c : Thread nD τ) arg10 fullShare (arg10.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f10) ∗ owns (c : Thread nD τ) arg11 fullShare (arg11.view.read (Elt F) (scaleRow i arg11 arg18 (harg11.unread Y11) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f18)) ∗ owns (c : Thread nD τ) arg12 fullShare (arg12.view.read (Elt F) (if cond0_1 i then arg12.view.writes (Elt F) (harg12.unread Y12) [⟨Rect.unit (s := S1x8192) ![0, 0] S1x8192.size inb_S1x8192_S1x8192_0_0, k0_pay4 (View.readAt (Elt F) arg19.view (Rect.unit (s := S8x8192) ![0, 0] S8x8192.size inb_S8x8192_S8x8192_0_0).toLoadRect (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f19)⟩] else (harg12.unread Y12))) ∗ owns (c : Thread nD τ) arg13 fullShare (arg13.view.read (Elt F) (if cond0_1 i then arg13.view.writes (Elt F) (harg13.unread Y13) [⟨Rect.unit (s := S1x8192) ![0, 0] S1x8192.size inb_S1x8192_S1x8192_0_0, k0_pay5 (View.readAt (Elt F) arg20.view (Rect.unit (s := S8x8192) ![0, 0] S8x8192.size inb_S8x8192_S8x8192_0_0).toLoadRect (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f20)⟩] else (harg13.unread Y13))) ∗ owns (c : Thread nD τ) arg14 fullShare (arg14.view.read (Elt F) (if cond0_1 i then arg14.view.writes (Elt F) (harg14.unread Y14) [⟨Rect.unit (s := S1x8192) ![0, 0] S1x8192.size inb_S1x8192_S1x8192_0_0, k0_pay6 (View.readAt (Elt F) arg21.view (Rect.unit (s := S8x8192) ![0, 0] S8x8192.size inb_S8x8192_S8x8192_0_0).toLoadRect (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f21)⟩] else (harg14.unread Y14))) ∗ owns (c : Thread nD τ) arg15 fullShare (arg15.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f15) ∗ owns (c : Thread nD τ) arg16 fullShare (arg16.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f16) ∗ owns (c : Thread nD τ) arg17 fullShare (arg17.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f17) ∗ owns (c : Thread nD τ) arg18 fullShare (arg18.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f18) ∗ owns (c : Thread nD τ) arg19 fullShare (arg19.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f19) ∗ owns (c : Thread nD τ) arg20 fullShare (arg20.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f20) ∗ owns (c : Thread nD τ) arg21 fullShare (arg21.view.read (Elt F) (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).f21))) := by
  refine BI.Entails.trans ?_ ((body_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c 𝒱 bd E (harg1.unread Y1) (harg2.unread Y2) (harg3.unread Y3) (harg4.unread Y4) (harg5.unread Y5) (harg6.unread Y6) (harg7.unread Y7) (harg8.unread Y8) (harg11.unread Y11) (harg12.unread Y12) (harg13.unread Y13) (harg14.unread Y14) ⟨(harg9.unread Y9), (harg10.unread Y10), (harg15.unread Y15), (harg16.unread Y16), (harg17.unread Y17), (harg18.unread Y18), (harg19.unread Y19), (harg20.unread Y20), (harg21.unread Y21)⟩).trans (wp_mono _ _ _ fun _ => ?_))
  · exact (BI.sep_mono (owns_at c arg1 harg1 Y1) (BI.sep_mono (owns_at c arg2 harg2 Y2) (BI.sep_mono (owns_at c arg3 harg3 Y3) (BI.sep_mono (owns_at c arg4 harg4 Y4) (BI.sep_mono (owns_at c arg5 harg5 Y5) (BI.sep_mono (owns_at c arg6 harg6 Y6) (BI.sep_mono (owns_at c arg7 harg7 Y7) (BI.sep_mono (owns_at c arg8 harg8 Y8) (BI.sep_mono (owns_at c arg9 harg9 Y9) (BI.sep_mono (owns_at c arg10 harg10 Y10) (BI.sep_mono (owns_at c arg11 harg11 Y11) (BI.sep_mono (owns_at c arg12 harg12 Y12) (BI.sep_mono (owns_at c arg13 harg13 Y13) (BI.sep_mono (owns_at c arg14 harg14 Y14) (BI.sep_mono (owns_at c arg15 harg15 Y15) (BI.sep_mono (owns_at c arg16 harg16 Y16) (BI.sep_mono (owns_at c arg17 harg17 Y17) (BI.sep_mono (owns_at c arg18 harg18 Y18) (BI.sep_mono (owns_at c arg19 harg19 Y19) (BI.sep_mono (owns_at c arg20 harg20 Y20) (owns_at c arg21 harg21 Y21)))))))))))))))))))))
  · exact (BI.sep_mono (at_owns c arg1 _ _ (harg1.read_unread Y1)) (BI.sep_mono (at_owns c arg2 _ _ (harg2.read_unread Y2)) (BI.sep_mono (at_owns c arg3 _ _ (harg3.read_unread Y3)) (BI.sep_mono (at_owns c arg4 _ _ (harg4.read_unread Y4)) (BI.sep_mono (at_owns c arg5 _ _ (harg5.read_unread Y5)) (BI.sep_mono (at_owns c arg6 _ _ (harg6.read_unread Y6)) (BI.sep_mono (at_owns c arg7 _ _ (harg7.read_unread Y7)) (BI.sep_mono (at_owns c arg8 _ _ (harg8.read_unread Y8)) (BI.sep_mono (at_owns c arg9 _ _ rfl) (BI.sep_mono (at_owns c arg10 _ _ rfl) (BI.sep_mono (at_owns c arg11 _ _ rfl) (BI.sep_mono (at_owns c arg12 _ _ rfl) (BI.sep_mono (at_owns c arg13 _ _ rfl) (BI.sep_mono (at_owns c arg14 _ _ rfl) (BI.sep_mono (at_owns c arg15 _ _ rfl) (BI.sep_mono (at_owns c arg16 _ _ rfl) (BI.sep_mono (at_owns c arg17 _ _ rfl) (BI.sep_mono (at_owns c arg18 _ _ rfl) (BI.sep_mono (at_owns c arg19 _ _ rfl) (BI.sep_mono (at_owns c arg20 _ _ rfl) (at_owns c arg21 _ _ rfl)))))))))))))))))))))

end Own

end Cert.Kernel.Hand
-- ==== Proof.Bits.Quiet.lean ====
/- The frame: the launch ends with its inputs unchanged and its counters at zero. Nothing is said of what it leaves in its outputs. -/
module
public import proofs.«01_k».proof.Proof.Bits.Own
public import Idealize.ShloMosaic.Lib.Claim

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's data for the frame: the arrays as the region finds them, and nothing asked of what the body leaves. -/
def quiet (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at a grid point is the body. -/
theorem defs₀_row (t : Fin cfg0.N) :
    defs₀ (F := F) .tc cfg0.body (cfg0.bodyArgs t (cfg0.slots t)) = bodyAt0 t := by
  unfold defs₀; rw [Defs.onTc_tc]

/-- A resource under a condition that asks nothing. -/
theorem keep (R : sProp 𝕄) : R ⊢ iprop(⌜True⌝ ∗ R) := by
  iintro H
  isplitr; · ipureintro; trivial
  iexact H

set_option maxHeartbeats 4000000 in
/-- The body at a grid point, from any contents to some contents. -/
theorem quiet_body (c : Dev nD) (t : Fin cfg0.N) (Y0 : Vec F (cfg0.win 0).block (cfg0.win 0).elt) (Y1 : Vec F (cfg0.win 1).block (cfg0.win 1).elt) (Y2 : Vec F (cfg0.win 2).block (cfg0.win 2).elt) (Y3 : Vec F (cfg0.win 3).block (cfg0.win 3).elt) (Y4 : Vec F (cfg0.win 4).block (cfg0.win 4).elt) (Y5 : Vec F (cfg0.win 5).block (cfg0.win 5).elt) (Y6 : Vec F (cfg0.win 6).block (cfg0.win 6).elt) (Y7 : Vec F (cfg0.win 7).block (cfg0.win 7).elt) (Y8 : Vec F (cfg0.win 8).block (cfg0.win 8).elt) (Y9 : Vec F (cfg0.win 9).block (cfg0.win 9).elt) (Y10 : Vec F (cfg0.win 10).block (cfg0.win 10).elt) (Y11 : Vec F (cfg0.win 11).block (cfg0.win 11).elt) (Y12 : Vec F (cfg0.win 12).block (cfg0.win 12).elt) (Y13 : Vec F (cfg0.win 13).block (cfg0.win 13).elt) :
    (iprop(Pipeline.ΦA spec0 c ∗ (quiet m c).owesAt () t.castSucc
      ∗ owns (c : Thread nD τ) (ms0_0 t) fullShare Y0 ∗ owns (c : Thread nD τ) (ms0_1 t) fullShare Y1 ∗ owns (c : Thread nD τ) (ms0_2 t) fullShare Y2 ∗ owns (c : Thread nD τ) (ms0_3 t) fullShare Y3 ∗ owns (c : Thread nD τ) (ms0_4 t) fullShare Y4 ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13) : sProp 𝕄)
    ⊢ wp frame (wpE (defs₀ (F := F)) Variants.none c none) Set.univ (bodyAt0 t) (fun _ => iprop(Pipeline.ΦA spec0 c ∗ (quiet m c).owesAt () t.succ
      ∗ (∃ X, ⌜True⌝ ∗ owns (c : Thread nD τ) (ms0_0 t) fullShare X) ∗ (∃ X, ⌜True⌝ ∗ owns (c : Thread nD τ) (ms0_1 t) fullShare X) ∗ (∃ X, ⌜True⌝ ∗ owns (c : Thread nD τ) (ms0_2 t) fullShare X) ∗ (∃ X, ⌜True⌝ ∗ owns (c : Thread nD τ) (ms0_3 t) fullShare X) ∗ (∃ X, ⌜True⌝ ∗ owns (c : Thread nD τ) (ms0_4 t) fullShare X) ∗ (∃ X, ⌜True⌝ ∗ owns (c : Thread nD τ) (ms0_5 t) fullShare X) ∗ (∃ X, ⌜True⌝ ∗ owns (c : Thread nD τ) (ms0_6 t) fullShare X) ∗ (∃ X, ⌜True⌝ ∗ owns (c : Thread nD τ) (ms0_7 t) fullShare X) ∗ (∃ X, ⌜True⌝ ∗ owns (c : Thread nD τ) (ms0_8 t) fullShare X) ∗ (∃ X, ⌜True⌝ ∗ owns (c : Thread nD τ) (ms0_9 t) fullShare X) ∗ (∃ X, ⌜True⌝ ∗ owns (c : Thread nD τ) (ms0_10 t) fullShare X) ∗ (∃ X, ⌜True⌝ ∗ owns (c : Thread nD τ) (ms0_11 t) fullShare X) ∗ (∃ X, ⌜True⌝ ∗ owns (c : Thread nD τ) (ms0_12 t) fullShare X) ∗ (∃ X, ⌜True⌝ ∗ owns (c : Thread nD τ) (ms0_13 t) fullShare X))) := by
  rw [show (quiet m c).owesAt () t.succ = (quiet m c).owesAt () t.castSucc from rfl, PhiA0_eq]
  unfold bodyAt0
  iintro ⟨⟨⟨⟨%Z0, S0⟩, ⟨%Z1, S1⟩, ⟨%Z2, S2⟩, ⟨%Z3, S3⟩, ⟨%Z4, S4⟩, ⟨%Z5, S5⟩, ⟨%Z6, S6⟩⟩, Hg⟩, Ho, H0, H1, H2, H3, H4, H5, H6, H7, H8, H9, H10, H11, H12, H13⟩
  iapply (wp_wand_r frame (wpE (defs₀ (F := F)) Variants.none (c : Thread nD τ) none) Set.univ)
  isplitl [H0 H1 H2 H3 H4 H5 H6 H7 H8 H9 H10 H11 H12 H13 S0 S1 S2 S3 S4 S5 S6]
  · iapply (body_owns (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) Y0 Y1 Y2 Y3 Y4 Y5 Y6 Y7 Y8 Y9 Y10 Y11 Y12 Y13 Z0 Z1 Z2 Z3 Z4 Z5 Z6 c Variants.none none Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S4]; · iexact S4
    isplitl [S5]; · iexact S5
    iexact S6
  · iintro %y ⟨H0, H1, H2, H3, H4, H5, H6, H7, H8, H9, H10, H11, H12, H13, S0, S1, S2, S3, S4, S5, S6⟩
    isplitl [S0 S1 S2 S3 S4 S5 S6 Hg]
    · isplitl [S0 S1 S2 S3 S4 S5 S6]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        iexists _; iexact S6
      · iexact Hg
    isplitl [Ho]; · iexact Ho
    isplitl [H0]; · iexists _; iapply (keep _); iexact H0
    isplitl [H1]; · iexists _; iapply (keep _); iexact H1
    isplitl [H2]; · iexists _; iapply (keep _); iexact H2
    isplitl [H3]; · iexists _; iapply (keep _); iexact H3
    isplitl [H4]; · iexists _; iapply (keep _); iexact H4
    isplitl [H5]; · iexists _; iapply (keep _); iexact H5
    isplitl [H6]; · iexists _; iapply (keep _); iexact H6
    isplitl [H7]; · iexists _; iapply (keep _); iexact H7
    isplitl [H8]; · iexists _; iapply (keep _); iexact H8
    isplitl [H9]; · iexists _; iapply (keep _); iexact H9
    isplitl [H10]; · iexists _; iapply (keep _); iexact H10
    isplitl [H11]; · iexists _; iapply (keep _); iexact H11
    isplitl [H12]; · iexists _; iapply (keep _); iexact H12
    iexists _; iapply (keep _); iexact H13

/-- The same as the pipeline asks it. -/
theorem quiet_obligation (c : Dev nD) : (quiet (F := F) m c).BodyObligation (defs₀ (F := F)) Variants.none () Set.univ := fun t Y _ => by
  rw [bigSep_W0, bigSep_W0, defs₀_row]
  exact triple_restated (quiet_body m c t (Y 0) (Y 1) (Y 2) (Y 3) (Y 4) (Y 5) (Y 6) (Y 7) (Y 8) (Y 9) (Y 10) (Y 11) (Y 12) (Y 13)) rfl .rfl fun _ => .rfl

set_option backward.isDefEq.respectTransparency.types false in
/-- The launch, and every semaphore counter at zero at its end. -/
theorem quiet_run : θ_run defs (onTc (τ := τ) (main (F := F))) (s₀ m ρ)
    (fun r => Pipeline.RDat.FramePost (cfgs 0) (quiet m) (V m) r ∧ r.2.sem = fun _ => 0) :=
  Pipeline.RDat.θ_run_frame_track cfgs (0 : Fin 1) launch0 defs₀ Variants.none (quiet m) m ρ main
    (hbody := quiet_obligation m) (hshare := fun c w => by unfold Pipeline.RDat.share; exact ite_self _)
    (howed := fun _ _ => rfl) (V := V m) (hmain := hmain m Variants.none) (hA := fun _ _ => rfl) (hin := fun _ => .rfl) (hout := fun _ => .rfl)
    (Q' := _) (hQ' := fun _ h => h)

/-- The frame: the argument arrays end unchanged, and the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (quiet m) (fun _ _ => rfl) ((θ_run defs _ _).mono (fun _ h => h.1) (quiet_run m ρ)))
    ((θ_run defs _ _).mono (fun _ h => h.2) (quiet_run m ρ))

end Cert.Kernel.Hand
-- ==== Proof.Spec.lean ====
/- What the two programs compute, as mathematics over the extended reals: the backward pass of a layer normalisation with dropout and
   residual, and the row-scaled quantisation of its masked gradient. Rows and columns are natural numbers. -/
module

public import Idealize.ShloMosaic.Lib.Pointwise

@[expose] public section

noncomputable section

namespace Cert.LnBwd

open Idealize.ShloMosaic

/-- The arguments, row by row and column by column: the incoming gradient's codes `d` and its row scales `s`, the activations `h` with
    their row means `m` and reciprocal deviations `r`, the residual gradient `res`, the mask bytes `msk` and the gain `w`. -/
structure Data where
  d : ℕ → ℕ → EReal
  h : ℕ → ℕ → EReal
  res : ℕ → ℕ → EReal
  msk : ℕ → ℕ → BitVec 8
  s : ℕ → EReal
  m : ℕ → EReal
  r : ℕ → EReal
  w : ℕ → EReal

namespace Data

variable (D : Data)

/-- The data whose row `R` is row `a + R`. -/
def shift (a : ℕ) : Data where
  d R := D.d (a + R)
  h R := D.h (a + R)
  res R := D.res (a + R)
  msk R := D.msk (a + R)
  s R := D.s (a + R)
  m R := D.m (a + R)
  r R := D.r (a + R)
  w := D.w

/-- The incoming gradient. -/
def dy (R c : ℕ) : EReal := D.d R c * D.s R
/-- The normalised activation. -/
def xh (R c : ℕ) : EReal := (D.h R c - D.m R) * D.r R
/-- Their product. -/
def pr (R c : ℕ) : EReal := D.dy R c * D.xh R c
/-- The row mean of the gradient times the gain. -/
def m1 (R : ℕ) : EReal := (∑ c ∈ Finset.range 8192, D.dy R c * D.w c) * Ideal.ofBits .f32 0x39000000#32
/-- The row mean of the gradient times the activation times the gain. -/
def m2 (R : ℕ) : EReal := (∑ c ∈ Finset.range 8192, D.pr R c * D.w c) * Ideal.ofBits .f32 0x39000000#32
/-- The gradient of the input. -/
def dh (R c : ℕ) : EReal := D.r R * (D.dy R c * D.w c - D.m1 R - D.xh R c * D.m2 R) + D.res R c
/-- Whether the mask keeps an element. -/
def keep (R c : ℕ) : Bool := (D.msk R (c / 8)).getLsbD (c % 8)
/-- The gradient through the dropout. -/
def da (R c : ℕ) : EReal := if D.keep R c then D.dh R c * Ideal.ofBits .f32 0x3F8E38E4#32 else 0
/-- Its absolute value. -/
def mag (R c : ℕ) : EReal := max (D.da R c) (-(D.da R c))
/-- The row's largest, over the largest code. -/
def y (R : ℕ) : EReal := (Finset.range 8192).sup (D.mag R) * Ideal.ofBits .f32 0x37924925#32

end Data

/-- A power of two. -/
def p2 (k : ℤ) : EReal := (((2 : ℝ) ^ k : ℝ) : EReal)

/-- How many of the powers `2 ^ (-126)` to `2 ^ 112` are at most `y`. -/
def cnt (y : EReal) (n : ℕ) : ℕ := by classical exact ((Finset.range n).filter fun k : ℕ => p2 ((k : ℤ) - 126) ≤ y).card

/-- The scale: one for a row too small, else the least power of two above `y`, at most `2 ^ 113`. -/
def scaleOf (y : EReal) : EReal := if cnt y 239 = 0 then 1 else p2 ((cnt y 239 : ℤ) - 126)
/-- Its reciprocal. -/
def invOf (y : EReal) : EReal := if cnt y 239 = 0 then 1 else p2 (126 - (cnt y 239 : ℤ))

/-- A value scaled and clipped to the codes' range. -/
def clip (v : EReal) : EReal := min (Ideal.ofBits .f32 0x47600000#32) (max (Ideal.ofBits .f32 0xC7600000#32) v)

namespace Data

variable (D : Data)

/-- The code of an element, with its row's scale taken away. -/
def code (R c : ℕ) : EReal := clip (D.da R c * invOf (D.y R))
/-- A row's scale. -/
def scale (R : ℕ) : EReal := scaleOf (D.y R)

end Data

end Cert.LnBwd

end
-- ==== Proof.Args.lean ====
/- The data of the two programs, read off the argument arrays. -/
module

public import proofs.«01_k».proof.Proof.Spec

@[expose] public section

noncomputable section

namespace Cert.LnBwd

open Idealize.ShloMosaic

/-- An array of rows and columns, at natural numbers. -/
def el3 {α : Type} (z : α) {N M : ℕ} (x : (⟨3, ![1, N, M]⟩ : Shape).Idx → α) (R c : ℕ) : α :=
  if h : R < N ∧ c < M then x (ix3 (0 : Fin 1) ⟨R, h.1⟩ ⟨c, h.2⟩) else z
/-- An array of rows, at a natural number. -/
def el2 {N : ℕ} (x : (⟨2, ![1, N]⟩ : Shape).Idx → EReal) (R : ℕ) : EReal := if h : R < N then x (ix2 (0 : Fin 1) ⟨R, h⟩) else 0
/-- A vector, at a natural number. -/
def el1 {N : ℕ} (x : (⟨1, ![N]⟩ : Shape).Idx → EReal) (c : ℕ) : EReal := if h : c < N then x (ix1 ⟨c, h⟩) else 0

theorem el3_mk {α : Type} (z : α) {N M : ℕ} (x : (⟨3, ![1, N, M]⟩ : Shape).Idx → α) {R c : ℕ} (hR : R < N) (hc : c < M) (k : (⟨3, ![1, N, M]⟩ : Shape).Idx)
    (h1 : (k 1).val = R) (h2 : (k 2).val = c) : x k = el3 z x R c := by
  unfold el3
  rw [dif_pos ⟨hR, hc⟩]
  congr 1
  rw [eq_ix3 k]
  congr 1
  · apply Subsingleton.elim
  · exact Fin.ext h1
  · exact Fin.ext h2

theorem el2_mk {N : ℕ} (x : (⟨2, ![1, N]⟩ : Shape).Idx → EReal) {R : ℕ} (hR : R < N) (k : (⟨2, ![1, N]⟩ : Shape).Idx)
    (h1 : (k 1).val = R) : x k = el2 x R := by
  unfold el2
  rw [dif_pos hR]
  congr 1
  rw [eq_ix2 k]
  congr 1
  · apply Subsingleton.elim
  · exact Fin.ext h1

theorem el1_mk {N : ℕ} (x : (⟨1, ![N]⟩ : Shape).Idx → EReal) {c : ℕ} (hc : c < N) (k : (⟨1, ![N]⟩ : Shape).Idx)
    (h0 : (k 0).val = c) : x k = el1 x c := by
  unfold el1
  rw [dif_pos hc]
  congr 1
  funext a
  match a with
  | ⟨0, _⟩ => exact Fin.ext h0

/-- The data of eight argument arrays. -/
def Data.of (d : (⟨3, ![1, 2048, 8192]⟩ : Shape).Idx → EReal) (s : (⟨2, ![1, 2048]⟩ : Shape).Idx → EReal) (res : (⟨3, ![1, 2048, 8192]⟩ : Shape).Idx → EReal)
    (msk : (⟨3, ![1, 2048, 1024]⟩ : Shape).Idx → BitVec 8) (h : (⟨3, ![1, 2048, 8192]⟩ : Shape).Idx → EReal) (m r : (⟨2, ![1, 2048]⟩ : Shape).Idx → EReal)
    (w : (⟨1, ![8192]⟩ : Shape).Idx → EReal) : Data where
  d := el3 0 d
  h := el3 0 h
  res := el3 0 res
  msk := el3 0#8 msk
  s := el2 s
  m := el2 m
  r := el2 r
  w := el1 w

/-- A result of rows and columns. -/
def outRows (f : ℕ → ℕ → EReal) : (⟨2, ![2048, 8192]⟩ : Shape).Idx → EReal := fun i => f (i 0).val (i 1).val
/-- A result of rows, laid out in blocks of 128. -/
def outRow (f : ℕ → EReal) : (⟨2, ![16, 128]⟩ : Shape).Idx → EReal := fun i => f (128 * (i 0).val + (i 1).val)
/-- A result summed over the rows. -/
def outSum (f : ℕ → ℕ → EReal) : (⟨2, ![1, 8192]⟩ : Shape).Idx → EReal := fun i => ∑ R ∈ Finset.range 2048, f R (i 1).val

end Cert.LnBwd

end
-- ==== Proof.Pay.lean ====
/- The kernel's computed values at one element, over the extended reals.

   Blocks are read as functions of a row and a column (`IsArr`). -/
module

public import proofs.«01_k».proof.Proof.Gen.KernelIdeal.Skeleton
public import Idealize.ShloMosaic.Lib.Pointwise
public import Idealize.ShloMosaic.Lib.BitcastFour
public import Idealize.ShloMosaic.Lib.Updates.Memory

@[expose] public section

set_option maxRecDepth 16384

noncomputable section

namespace Cert.KernelIdeal.Hand

open Idealize.ShloMosaic Cert.KernelIdeal Cert.KernelIdeal.Gen
open Idealize.ShloMosaic.Updates (Arr IsArr)

/-- Contents read as an array, at a place. -/
theorem arr_at {β : Type} {R C : ℕ} {X : (⟨2, ![R, C]⟩ : Shape).Idx → β} {A : Arr β} (h : IsArr X A) (a : Fin R) (b : Fin C) :
    X (ix2 a b) = A (a.val, b.val) := h (ix2 a b)

/-- Contents are an array if they agree with it at every place. -/
theorem isArr_of {β : Type} {R C : ℕ} {X : (⟨2, ![R, C]⟩ : Shape).Idx → β} {A : Arr β} (h : ∀ a b, X (ix2 a b) = A (a.val, b.val)) : IsArr X A :=
  fun ι => by rw [eq_ix2 ι]; exact h _ _

/-- The dequantised gradient. -/
theorem arr_pay7 {sq : FVec Ideal S32x128 .f32} {v : Vec Ideal S32x128 .fp8e5m2} {A S : Arr EReal} (hv : IsArr v A) (hs : IsArr sq S) :
    IsArr (k0_pay7 sq v) (fun p => A p * S p) := isArr_of fun a b => by
  pointwise [k0_pay7]
  rw [arr_at hv, arr_at hs]

/-- The normalised activation. -/
theorem arr_pay8 {mq rq : FVec Ideal S32x128 .f32} {v : Vec Ideal S32x128 .bf16} {A M R : Arr EReal} (hv : IsArr v A) (hm : IsArr mq M)
    (hr : IsArr rq R) : IsArr (k0_pay8 mq rq v) (fun p => (A p - M p) * R p) := isArr_of fun a b => by
  pointwise [k0_pay8]
  rw [arr_at hv, arr_at hm, arr_at hr]

theorem arr_pay10 {sq mq rq : FVec Ideal S32x128 .f32} {v : Vec Ideal S32x128 .fp8e5m2} {w : Vec Ideal S32x128 .bf16} {A B : Arr EReal}
    (h7 : IsArr (k0_pay7 sq v) A) (h8 : IsArr (k0_pay8 mq rq w) B) : IsArr (k0_pay10 sq mq rq v w) (fun p => A p * B p) := isArr_of fun a b => by
  rw [← arr_at h7, ← arr_at h8]; rfl

theorem arr_pay11 {sq s : FVec Ideal S32x128 .f32} {v : Vec Ideal S32x128 .fp8e5m2} {w : Vec Ideal S1x128 .f32} {A B C : Arr EReal}
    (h7 : IsArr (k0_pay7 sq v) A) (hs : IsArr s B) (hw : IsArr w C) :
    IsArr (k0_pay11 sq s v w) (fun p => B p + A p * C (0, p.2)) := isArr_of fun a b => by
  have h := arr_at h7 a b
  have hw' : w (ix2 0 b) = C (0, b.val) := arr_at hw 0 b
  generalize hK : k0_pay7 sq v = K at h
  pointwise [k0_pay11, k0_pay9]
  rw [hK, h, arr_at hs, hw']

theorem arr_pay12 {sq mq rq s : FVec Ideal S32x128 .f32} {v : Vec Ideal S32x128 .fp8e5m2} {u : Vec Ideal S32x128 .bf16} {w : Vec Ideal S1x128 .f32} {A B C : Arr EReal}
    (h10 : IsArr (k0_pay10 sq mq rq v u) A) (hs : IsArr s B) (hw : IsArr w C) :
    IsArr (k0_pay12 sq mq rq s v u w) (fun p => B p + A p * C (0, p.2)) := isArr_of fun a b => by
  have h := arr_at h10 a b
  have hw' : w (ix2 0 b) = C (0, b.val) := arr_at hw 0 b
  generalize hK : k0_pay10 sq mq rq v u = K at h
  pointwise [k0_pay12, k0_pay9]
  rw [hK, h, arr_at hs, hw']

/-- Four eight-row slices of a tile, added. -/
def fold4 (A : Arr EReal) : Arr EReal := fun p => A (p.1, p.2) + A (8 + p.1, p.2) + A (16 + p.1, p.2) + A (24 + p.1, p.2)

theorem arr_pay13 {sq mq rq : FVec Ideal S32x128 .f32} {v : Vec Ideal S32x128 .fp8e5m2} {w : Vec Ideal S32x128 .bf16} {x : Vec Ideal S8x128 .f32}
    {A B : Arr EReal} (h10 : IsArr (k0_pay10 sq mq rq v w) A) (hx : IsArr x B) :
    IsArr (k0_pay13 sq mq rq v w x) (fun p => B p + fold4 A p) := isArr_of fun a b => by
  generalize hK : k0_pay10 sq mq rq v w = K at h10
  pointwise [k0_pay13]
  simp only [hK, arr_at h10, arr_at hx, fold4]

theorem arr_pay14 {sq : FVec Ideal S32x128 .f32} {v : Vec Ideal S32x128 .fp8e5m2} {x : Vec Ideal S8x128 .f32}
    {A B : Arr EReal} (h7 : IsArr (k0_pay7 sq v) A) (hx : IsArr x B) :
    IsArr (k0_pay66 (k0_pay14 sq v x)) (fun p => B p + fold4 A p) := isArr_of fun a b => by
  generalize hK : k0_pay7 sq v = K at h7
  pointwise [k0_pay14, k0_pay66]
  simp only [hK, arr_at h7, arr_at hx, fold4]

theorem arr_pay67 {x : FVec Ideal S32x128 .f32} {A : Arr EReal} (h : IsArr x A) : IsArr (k0_pay67 x) A := isArr_of fun a b => by
  pointwise [k0_pay67]; exact arr_at h a b

theorem arr_pay68 {x : FVec Ideal S32x128 .f32} {A : Arr EReal} (h : IsArr x A) : IsArr (k0_pay68 x) A := isArr_of fun a b => by
  pointwise [k0_pay68]; exact arr_at h a b

theorem arr_pay75 {x : FVec Ideal S32x128 .f32} {A : Arr EReal} (h : IsArr x A) : IsArr (k0_pay75 x) A := isArr_of fun a b => by
  pointwise [k0_pay75]; exact arr_at h a b

theorem arr_pay65 : IsArr (k0_pay65 (F := Ideal)) (fun _ => (0 : EReal)) := isArr_of fun a b => by
  pointwise [k0_pay65]

theorem arr_pay72 : IsArr (k0_pay72 (F := Ideal)) (fun _ => (0 : EReal)) := isArr_of fun a b => by
  pointwise [k0_pay72]

/-- The input gradient before rounding. -/
theorem arr_pay15 {rq m1 m2 : FVec Ideal S32x128 .f32} {w : Vec Ideal S1x128 .f32} {y x : Vec Ideal S32x128 .f32} {r : Vec Ideal S32x128 .bf16}
    {R M N W Y X Z : Arr EReal} (hr : IsArr rq R) (h1 : IsArr m1 M) (h2 : IsArr m2 N) (hw : IsArr w W) (hy : IsArr y Y) (hx : IsArr x X) (hz : IsArr r Z) :
    IsArr (k0_pay15 rq m1 m2 w y x r) (fun p => R p * (Y p * W (0, p.2) - M p - X p * N p) + Z p) := isArr_of fun a b => by
  have hw' : w (ix2 0 b) = W (0, b.val) := arr_at hw 0 b
  pointwise [k0_pay15]
  rw [arr_at hr, arr_at h1, arr_at h2, hw', arr_at hy, arr_at hx, arr_at hz]

theorem arr_pay16 {rq m1 m2 : FVec Ideal S32x128 .f32} {w : Vec Ideal S1x128 .f32} {y x : Vec Ideal S32x128 .f32} {r : Vec Ideal S32x128 .bf16}
    {A : Arr EReal} (h : IsArr (k0_pay15 rq m1 m2 w y x r) A) : IsArr (k0_pay16 rq m1 m2 w y x r) A := isArr_of fun a b => by
  rw [← arr_at h]; rfl

/-- The row sums over a tile's lanes, scaled. -/
theorem arr_pay69 {x : FVec Ideal S32x128 .f32} {A : Arr EReal} (h : IsArr x A) :
    IsArr (k0_pay69 x) (fun p => (∑ l : Fin 128, A (p.1, l.val)) * Ideal.ofBits .f32 0x39000000#32) := isArr_of fun a b => by
  pointwise [k0_pay69]
  simp only [arr_at h]

theorem arr_pay71 {x : FVec Ideal S32x128 .f32} {A : Arr EReal} (h : IsArr x A) :
    IsArr (k0_pay71 (k0_pay70 x)) (fun p => (∑ l : Fin 128, A (p.1, l.val)) * Ideal.ofBits .f32 0x39000000#32) := isArr_of fun a b => by
  pointwise [k0_pay71, k0_pay70]
  simp only [arr_at h]

theorem arr_pay74 {x y : FVec Ideal S32x128 .f32} {A B : Arr EReal} (hx : IsArr x A) (hy : IsArr y B) :
    IsArr (k0_pay74 x y) (fun p => max (A p) (max (B p) (-(B p)))) := isArr_of fun a b => by
  pointwise [k0_pay74]
  simp only [arr_at hx, arr_at hy, Ideal.absf_def]

/-- Eight partial sums added to the partial sums held. -/
theorem arr_pay73 {v21 : IVec S8x128 32} {v26 : IVec S32x128 32} {t : BitVec 32} {g : FVec Ideal S32x128 .f32} {b : Vec Ideal S32x128 .i8}
    {x : Vec Ideal S8x128 .f32} {A B : Arr EReal} (h17 : IsArr (k0_pay17 v21 v26 t g b) A) (hx : IsArr x B) :
    IsArr (k0_pay73 (k0_pay18 v21 v26 t g b x)) (fun p => B p + fold4 A p) := isArr_of fun a c => by
  generalize hK : k0_pay17 v21 v26 t g b = K at h17
  pointwise [k0_pay73, k0_pay18]
  simp only [hK, arr_at h17, arr_at hx, fold4]

/-- The eight partial sums of a column, added up. -/
theorem arr_pay4 {x : Vec Ideal S8x8192 .f32} {A : Arr EReal} (h : IsArr x A) : IsArr (k0_pay4 x) (fun p => ∑ s : Fin 8, A (s.val, p.2)) :=
  isArr_of fun a b => by
  pointwise [k0_pay4]
  simp only [arr_at h]

theorem arr_pay55 : IsArr (k0_pay55 (F := Ideal)) (fun _ => (0 : EReal)) := isArr_of fun a b => by
  pointwise [k0_pay55]

/-- A row of a block, as the first row of a tile whose columns it fills. -/
theorem arr_pay3 {x : Vec Ideal S128x128 .f32} {A : Arr EReal} (h : IsArr x A) : IsArr (k0_pay3 x) (fun p => A (p.2, 0)) := isArr_of fun a b => by
  have := arr_at h b 0
  have ha : a = 0 := Fin.fin_one_eq_zero a
  subst ha
  pointwise [k0_pay3]
  exact this

theorem arr_pay58 {x : Vec Ideal S1x128 .f32} {A : Arr EReal} (h : IsArr x A) : IsArr (k0_pay58 x) (fun p => A (0, p.1)) := isArr_of fun a b => by
  have := arr_at h 0 a
  pointwise [k0_pay58]
  exact this

/-- A group's rows of a block. -/
theorem arr_pay81 {x : FVec Ideal S128x128 .f32} {A : Arr EReal} (h : IsArr x A) : IsArr (k0_pay81 x) (fun p => A (32 + p.1, p.2)) := isArr_of fun a b => by
  pointwise [k0_pay81]
  exact arr_at h _ _

theorem arr_pay99 {x : FVec Ideal S128x128 .f32} {A : Arr EReal} (h : IsArr x A) : IsArr (k0_pay99 x) (fun p => A (64 + p.1, p.2)) := isArr_of fun a b => by
  pointwise [k0_pay99]
  exact arr_at h _ _

theorem arr_pay118 {x : FVec Ideal S128x128 .f32} {A : Arr EReal} (h : IsArr x A) : IsArr (k0_pay118 x) (fun p => A (96 + p.1, p.2)) := isArr_of fun a b => by
  pointwise [k0_pay118]
  exact arr_at h _ _

theorem arr_pay62 {x : Vec Ideal S1x128 .f32} {A : Arr EReal} (h : IsArr x A) : IsArr (k0_pay62 x) (fun p => A (0, 0 + p.1)) := isArr_of fun a b => by
  have := arr_at (arr_pay58 h) (⟨0 + a.val, by omega⟩ : Fin 128) ⟨b.val, by omega⟩
  unfold k0_pay62
  generalize k0_pay58 x = y at this ⊢
  pointwise []
  simpa using this

end Cert.KernelIdeal.Hand

end
-- ==== Proof.Mask.lean ====
/- The dropout mask: the bit of a column is bit `c % 8` of byte `c / 8` of its row. -/
module

public import proofs.«01_k».proof.Proof.Pay
public import Idealize.ShloMosaic.Lib.Scf

@[expose] public section

set_option maxRecDepth 16384

noncomputable section

namespace Cert.KernelIdeal.Hand

open Idealize.ShloMosaic Cert.KernelIdeal Cert.KernelIdeal.Gen
open Idealize.ShloMosaic.Updates (Arr IsArr)

/-- Bytes read as words, moved along their lanes, and read as bytes again: the bytes moved along their lanes. -/
theorem bytes_gather (x : S32x128.Idx → BitVec 8) (idx : IVec S8x128 32) (σ : Fin 128 → Fin 128)
    (hσ : ∀ a l, (idx (ix2 a l)).toNat = (σ l).val) (r : Fin 32) (l : Fin 128) :
    bitcast S32x128 8 (dynamicGather 1 (bitcast S8x128 32 x bitcasts_S32x128_w8_S8x128_w32) idx) bitcasts_S8x128_w32_S32x128_w8 (ix2 r l)
      = x (ix2 r (σ l)) := by
  have hr := r.isLt
  apply BitVec.eq_of_getLsbD_eq
  intro q hq
  rw [bitcast_getLsbD _ _ _ q hq (by decide)]
  have hrow : Shape.row (s := S32x128) (ix2 r l) = r.val := rfl
  have hsrc : (bitcasts_S8x128_w32_S32x128_w8).srcIdx (ix2 r l) ((Shape.row (s := S32x128) (ix2 r l) * 8 + q) / 32)
      (fun a ha => (Nat.div_lt_iff_lt_mul (by decide)).2 ((bitcasts_S8x128_w32_S32x128_w8).pos_lt (ix2 r l) q hq a ha))
      = ix2 (⟨r.val / 4, by omega⟩ : Fin 8) l := by
    funext c
    match c with
    | ⟨0, _⟩ => exact Fin.ext (((bitcasts_S8x128_w32_S32x128_w8).srcIdx_row _ _ _ ⟨0, Nat.zero_lt_two⟩ rfl).trans (by rw [hrow]; show (r.val * 8 + q) / 32 = r.val / 4; omega))
    | ⟨1, _⟩ => exact Fin.ext ((bitcasts_S8x128_w32_S32x128_w8).srcIdx_other _ _ _ ⟨1, Nat.one_lt_two⟩ (by show ¬ 1 + 2 = 2; omega))
  rw [hsrc, dynamicGather_apply, hrow]
  have hi : (fun b : Fin 2 => if b = 1 then (⟨(idx (ix2 (⟨r.val / 4, by omega⟩ : Fin 8) l)).toNat % S8x128.size b, Nat.mod_lt _ (Fin.pos ((ix2 (⟨r.val / 4, by omega⟩ : Fin 8) l : S8x128.Idx) b))⟩ : Fin (S8x128.size b)) else (ix2 (⟨r.val / 4, by omega⟩ : Fin 8) l : S8x128.Idx) b)
      = (ValueIdx.ix2 (⟨r.val / 4, by omega⟩ : Fin 8) (σ l) : S8x128.Idx) := by
    funext b
    match b with
    | ⟨0, _⟩ => rfl
    | ⟨1, _⟩ => exact Fin.ext (by
        show (idx (ix2 (⟨r.val / 4, by omega⟩ : Fin 8) l)).toNat % 128 = (σ l).val
        rw [hσ]; exact Nat.mod_eq_of_lt (σ l).isLt)
  refine (congrArg (fun z => BitVec.getLsbD (bitcast S8x128 32 x bitcasts_S32x128_w8_S8x128_w32 z) ((r.val * 8 + q) % 32)) hi).trans ?_
  refine (bitcast_8_32_getLsbD_ix2 x bitcasts_S32x128_w8_S8x128_w32 _ (σ l) _ (by omega) r ?_).trans ?_
  · show r.val = 4 * (r.val / 4) + ((r.val * 8 + q) % 32) / 8; omega
  · have e : (r.val * 8 + q) % 32 % 8 = q := by omega
    rw [e]
    exact congrArg (fun z => (x z).getLsbD q) (by funext c; match c with | ⟨0, _⟩ => rfl | ⟨1, _⟩ => rfl)

/-- One bit of a byte, tested by the mask's operations. -/
theorem bit_test (b : BitVec 8) (i : ℕ) (hi : i < 8) :
    IntOp.cmpi .ne (IntOp.andi (b.setWidth 32) (1#32 <<< i)) 0#32 = if b.getLsbD i then 1#1 else 0#1 := by
  have : IntOp.andi (b.setWidth 32) (1#32 <<< i) = if b.getLsbD i then 1#32 <<< i else 0#32 := by
    have h : (1#32 : BitVec 32) <<< i = BitVec.twoPow 32 i := by rw [BitVec.twoPow]
    show (b.setWidth 32) &&& (1#32 <<< i) = _
    rw [h, BitVec.and_twoPow, BitVec.getLsbD_setWidth]
    simp [show i < 32 by omega]
  rw [this]
  by_cases hb : b.getLsbD i
  · simp only [hb, if_true]
    interval_cases i <;> decide
  · simp only [hb, Bool.false_eq_true, if_false]; decide

theorem lane_shift : ∀ l : Fin 128, IntOp.shrui .vector (BitVec.ofNat 32 l.val) 3#32 = BitVec.ofNat 32 (l.val / 8) := by decide
theorem lane_bit : ∀ l : Fin 128, IntOp.shli .vector 1#32 (IntOp.andi (BitVec.ofNat 32 l.val) 7#32) = (1#32 : BitVec 32) <<< (l.val % 8) := by decide

/-- The remainder of a tile's number by eight, as the kernel computes it. -/
abbrev rem8 (w : BitVec 32) : BitVec 32 :=
  Scalar.select
    (Scalar.andi
      (Scalar.xori (Scalar.cmpi .slt (Scalar.remsi w (Scalar.select (Scalar.cmpi .eq 8#32 0#32) 1#32 8#32)) 0#32)
        (Scalar.cmpi .slt (Scalar.select (Scalar.cmpi .eq 8#32 0#32) 1#32 8#32) 0#32))
      (Scalar.cmpi .ne (Scalar.remsi w (Scalar.select (Scalar.cmpi .eq 8#32 0#32) 1#32 8#32)) 0#32))
    (Scalar.addi (Scalar.remsi w (Scalar.select (Scalar.cmpi .eq 8#32 0#32) 1#32 8#32)) (Scalar.select (Scalar.cmpi .eq 8#32 0#32) 1#32 8#32))
    (Scalar.remsi w (Scalar.select (Scalar.cmpi .eq 8#32 0#32) 1#32 8#32))

theorem tile_word : ∀ t : Fin 64, Scalar.muli 16#32 (rem8 (BitVec.ofNat 32 t.val)) = BitVec.ofNat 32 (16 * (t.val % 8)) := by decide

theorem lane_word : ∀ n : Fin 128, (Scalar.select (IntOp.cmpi .slt (BitVec.ofNat 32 n.val) 0#32) (IntOp.addi (BitVec.ofNat 32 n.val) 128#32)
    (BitVec.ofNat 32 n.val)).toNat = n.val := by decide

/-- The masked gradient: the gradient scaled where the mask's bit is set, and zero elsewhere. -/
theorem arr_pay17 {g : FVec Ideal S32x128 .f32} {b : Vec Ideal S32x128 .i8} {G : Arr EReal} {B : Arr (BitVec 8)} (t : Fin 64)
    (hg : IsArr g G) (hb : IsArr (β := BitVec 8) b B) :
    IsArr (k0_pay17 (iota .tc S8x128 32 [1] iota_S8x128_d1_w32) k0_pay61 (BitVec.ofNat 32 t.val) g b)
      (fun p => if (B (p.1, 16 * (t.val % 8) + p.2 / 8)).getLsbD (p.2 % 8) then G p * Ideal.ofBits .f32 0x3F8E38E4#32 else 0) := isArr_of fun a c => by
  have hc := c.isLt
  pointwise [k0_pay17, k0_pay61]
  rw [bytes_gather b _ (fun l => ⟨16 * (t.val % 8) + l.val / 8, by have := l.isLt; omega⟩) ?_ a c]
  · rw [lane_bit c, bit_test _ _ (Nat.mod_lt _ (by decide)), arr_at hb, arr_at hg]
    by_cases h : (B (a.val, 16 * (t.val % 8) + c.val / 8)).getLsbD (c.val % 8)
    · simp only [h, if_true]; rfl
    · simp only [h]; rfl
  · intro a l
    have hl := l.isLt
    pointwise
    rw [lane_shift l, tile_word t]
    have e : IntOp.addi (BitVec.ofNat 32 (l.val / 8)) (BitVec.ofNat 32 (16 * (t.val % 8))) = BitVec.ofNat 32 (16 * (t.val % 8) + l.val / 8) := by
      show BitVec.ofNat 32 (l.val / 8) + BitVec.ofNat 32 (16 * (t.val % 8)) = _
      rw [← BitVec.ofNat_add, Nat.add_comm]
    rw [e]
    exact lane_word ⟨16 * (t.val % 8) + l.val / 8, by omega⟩

end Cert.KernelIdeal.Hand

end
-- ==== Proof.Passes.lean ====
/- What the passes of a row group leave, element by element. -/
module

public import proofs.«01_k».proof.Proof.Spec
public import proofs.«01_k».proof.Proof.Mask
public import proofs.«01_k».proof.Proof.Trips

@[expose] public section

set_option maxRecDepth 16384

noncomputable section

namespace Cert.KernelIdeal.Hand

open Idealize.ShloMosaic Cert.KernelIdeal Cert.KernelIdeal.Gen Cert.LnBwd
open Idealize.ShloMosaic.Updates (Arr IsArr isArr_load isArr_writes_cons storeAt_hit storeAt_miss loadAt)

/-- A block whose rows `r0` to `r0 + H - 1` have been written up to tile `j`: `G` there, `A` elsewhere. -/
def part {β : Type} (r0 H j : ℕ) (G A : Arr β) : Arr β := fun p => if (r0 ≤ p.1 ∧ p.1 < r0 + H) ∧ p.2 < 128 * j then G p else A p

theorem part_zero {β : Type} (r0 H : ℕ) (G A : Arr β) : part r0 H 0 G A = A := by
  funext p; unfold part; rw [if_neg (by omega)]

theorem part_here {β : Type} (r0 H j : ℕ) (G A : Arr β) (a b : ℕ) : part r0 H j G A (r0 + a, 128 * j + b) = A (r0 + a, 128 * j + b) := by
  unfold part; rw [if_neg (by simp only []; omega)]

/-- A tile's store carries the written part on by a tile. -/
theorem part_step {sig : RefSig} {κ : Kind} {sp : Space} {R C H : ℕ} {e : EltTy} {Val : EltTy → Type} {v : View sig κ sp (⟨2, ![R, C]⟩ : Shape) e} {f : v.ty.Contents Val}
    {G A : Arr (Val e)} (r0 j : ℕ) (hA : IsArr (v.read Val f) (part r0 H j G A)) {off : Fin 2 → ℕ} (ho : off = ![r0, 128 * j])
    (inb : ∀ a, off a + (⟨2, ![H, 128]⟩ : Shape).size a ≤ (⟨2, ![R, C]⟩ : Shape).size a) {pay : (⟨2, ![H, 128]⟩ : Shape).Idx → Val e}
    (hW : IsArr pay (fun q => G (r0 + q.1, 128 * j + q.2))) :
    IsArr (v.read Val (v.writes Val f [⟨Rect.unit (s := (⟨2, ![R, C]⟩ : Shape)) off (⟨2, ![H, 128]⟩ : Shape).size inb, pay⟩])) (part r0 H (j + 1) G A) :=
  (isArr_writes_cons (L := []) hA (o := (r0, 128 * j)) ho inb hW).congr fun a b ha hb => by
    by_cases h : (r0 ≤ a ∧ a < r0 + H) ∧ (128 * j ≤ b ∧ b < 128 * j + 128)
    · rw [storeAt_hit (p := (a, b)) ⟨h, trivial⟩]
      obtain ⟨⟨h1, h2⟩, h3, h4⟩ := h
      show G (r0 + (a - r0), 128 * j + (b - 128 * j)) = _
      unfold part
      rw [if_pos ⟨⟨h1, h2⟩, by show b < 128 * (j + 1); omega⟩, Nat.add_sub_cancel' h1, Nat.add_sub_cancel' h3]
    · rw [storeAt_miss (p := (a, b)) fun x => h x.1]
      unfold part
      by_cases h' : (r0 ≤ a ∧ a < r0 + H) ∧ b < 128 * j
      · rw [if_pos h', if_pos ⟨h'.1, by show b < 128 * (j + 1); omega⟩]
      · rw [if_neg h', if_neg fun x : (r0 ≤ a ∧ a < r0 + H) ∧ b < 128 * (j + 1) => by omega]

/-- Where a row group's trips go, in closed form. -/
structure Geo.At {n : ℕ} (g : Geo n) (r0 : ℕ) : Prop where
  tile : ∀ k, g.tile k = ![r0, 128 * k.val]
  row : ∀ k, g.row k = ![0, 128 * k.val]
  acc : ∀ k, g.acc k = ![0, 128 * k.val]
  scr : ∀ k, g.scr k = ![0, 128 * k.val]
  msk : ∀ k, g.msk k = ![r0, 128 * (k.val / 8)]

variable {n : ℕ} (g : Geo n)
  (arg1 : Memref sig .tc .vmem S128x8192 .fp8e5m2) (arg2 : Memref sig .tc .vmem S128x8192 .bf16) (arg3 : Memref sig .tc .vmem S128x1024 .i8)
  (arg4 : Memref sig .tc .vmem S128x8192 .bf16) (arg8 : Memref sig .tc .vmem S1x8192 .f32) (arg9 : Memref sig .tc .vmem S128x8192 .bf16)
  (arg10 : Memref sig .tc .vmem S128x8192 .fp8e5m2) (arg15 : Memref sig .tc .vmem S32x8192 .f32)
  (arg16 : Memref sig .tc .vmem S32x8192 .f32) (arg17 : Memref sig .tc .vmem S32x8192 .f32) (arg19 : Memref sig .tc .vmem S8x8192 .f32)
  (arg20 : Memref sig .tc .vmem S8x8192 .f32) (arg21 : Memref sig .tc .vmem S8x8192 .f32)
  (D : Data) (r0 : ℕ) (hg : g.At r0)
  {X1 : Con Ideal arg1} (h1 : IsArr (β := EReal) (arg1.view.read (Elt Ideal) X1) (fun p => D.d p.1 p.2))
  {X2 : Con Ideal arg2} (h2 : IsArr (β := EReal) (arg2.view.read (Elt Ideal) X2) (fun p => D.res p.1 p.2))
  {X3 : Con Ideal arg3} (h3 : IsArr (β := BitVec 8) (arg3.view.read (Elt Ideal) X3) (fun p => D.msk p.1 p.2))
  {X4 : Con Ideal arg4} (h4 : IsArr (β := EReal) (arg4.view.read (Elt Ideal) X4) (fun p => D.h p.1 p.2))
  {X8 : Con Ideal arg8} (h8 : IsArr (β := EReal) (arg8.view.read (Elt Ideal) X8) (fun p => D.w p.2))
  {sq mq rq : FVec Ideal S32x128 .f32} (hs : IsArr (β := EReal) sq (fun p => D.s (r0 + p.1))) (hm : IsArr (β := EReal) mq (fun p => D.m (r0 + p.1)))
  (hr : IsArr (β := EReal) rq (fun p => D.r (r0 + p.1)))

include hg h1 h4 h8 hs hm hr in
/-- The first pass before trip `j`. -/
theorem st1_vals (s : St1 Ideal arg15 arg16 arg19 arg20) {A15 A16 A19 A20 : Arr EReal}
    (i1 : IsArr (β := EReal) s.acc.1 (fun _ => 0)) (i2 : IsArr (β := EReal) s.acc.2 (fun _ => 0))
    (i15 : IsArr (β := EReal) (arg15.view.read (Elt Ideal) s.f15) A15) (i16 : IsArr (β := EReal) (arg16.view.read (Elt Ideal) s.f16) A16)
    (i19 : IsArr (β := EReal) (arg19.view.read (Elt Ideal) s.f19) A19) (i20 : IsArr (β := EReal) (arg20.view.read (Elt Ideal) s.f20) A20) :
    ∀ j, j ≤ n →
      IsArr (β := EReal) (st1 g arg1 arg4 arg8 arg15 arg16 arg19 arg20 sq mq rq X1 X4 X8 s j).acc.1
        (fun p => ∑ k ∈ Finset.range j, D.dy (r0 + p.1) (128 * k + p.2) * D.w (128 * k + p.2))
      ∧ IsArr (β := EReal) (st1 g arg1 arg4 arg8 arg15 arg16 arg19 arg20 sq mq rq X1 X4 X8 s j).acc.2
        (fun p => ∑ k ∈ Finset.range j, D.pr (r0 + p.1) (128 * k + p.2) * D.w (128 * k + p.2))
      ∧ IsArr (β := EReal) (arg15.view.read (Elt Ideal) (st1 g arg1 arg4 arg8 arg15 arg16 arg19 arg20 sq mq rq X1 X4 X8 s j).f15)
        (part 0 32 j (fun p => D.dy (r0 + p.1) p.2) A15)
      ∧ IsArr (β := EReal) (arg16.view.read (Elt Ideal) (st1 g arg1 arg4 arg8 arg15 arg16 arg19 arg20 sq mq rq X1 X4 X8 s j).f16)
        (part 0 32 j (fun p => D.xh (r0 + p.1) p.2) A16)
      ∧ IsArr (β := EReal) (arg19.view.read (Elt Ideal) (st1 g arg1 arg4 arg8 arg15 arg16 arg19 arg20 sq mq rq X1 X4 X8 s j).f19)
        (part 0 8 j (fun p => A19 p + fold4 (fun q => D.pr (r0 + q.1) q.2) p) A19)
      ∧ IsArr (β := EReal) (arg20.view.read (Elt Ideal) (st1 g arg1 arg4 arg8 arg15 arg16 arg19 arg20 sq mq rq X1 X4 X8 s j).f20)
        (part 0 8 j (fun p => A20 p + fold4 (fun q => D.dy (r0 + q.1) q.2) p) A20) := by
  intro j
  induction j with
  | zero =>
    intro _
    simp only [part_zero, Finset.range_zero, Finset.sum_empty]
    exact ⟨i1, i2, i15, i16, i19, i20⟩
  | succ j ih =>
    intro hj
    obtain ⟨e1, e2, e15, e16, e19, e20⟩ := ih (by omega)
    have hst := st1_succ (F := Ideal) g arg1 arg4 arg8 arg15 arg16 arg19 arg20 sq mq rq X1 X4 X8 s ⟨j, by omega⟩
    rw [hst]
    clear hst
    generalize st1 g arg1 arg4 arg8 arg15 arg16 arg19 arg20 sq mq rq X1 X4 X8 s j = T at e1 e2 e15 e16 e19 e20
    have l1 := isArr_load (h := 32) (w := 128) h1 (o := (r0, 128 * j)) (hg.tile ⟨j, by omega⟩) (g.tile_inb ⟨j, by omega⟩)
    have l4 := isArr_load (h := 32) (w := 128) h4 (o := (r0, 128 * j)) (hg.tile ⟨j, by omega⟩) (g.tile_inb ⟨j, by omega⟩)
    have l8 := isArr_load (h := 1) (w := 128) h8 (o := (0, 128 * j)) (hg.row ⟨j, by omega⟩) (g.row_inb ⟨j, by omega⟩)
    have l19 := isArr_load (h := 8) (w := 128) e19 (o := (0, 128 * j)) (hg.acc ⟨j, by omega⟩) (g.acc_inb ⟨j, by omega⟩)
    have l20 := isArr_load (h := 8) (w := 128) e20 (o := (0, 128 * j)) (hg.acc ⟨j, by omega⟩) (g.acc_inb ⟨j, by omega⟩)
    have p7 : IsArr (β := EReal) _ (fun p => D.dy (r0 + p.1) (128 * j + p.2)) := arr_pay7 l1 hs
    have p8 : IsArr (β := EReal) _ (fun p => D.xh (r0 + p.1) (128 * j + p.2)) := arr_pay8 l4 hm hr
    have p10 : IsArr (β := EReal) _ (fun p => D.pr (r0 + p.1) (128 * j + p.2)) := arr_pay10 p7 p8
    refine ⟨?_, ?_, ?_, ?_, ?_, ?_⟩
    · refine (arr_pay11 p7 e1 l8).congr fun a b _ _ => ?_
      simp only [Finset.sum_range_succ]; rfl
    · refine (arr_pay12 p10 e2 l8).congr fun a b _ _ => ?_
      simp only [Finset.sum_range_succ]; rfl
    · refine part_step 0 j e15 (hg.scr ⟨j, by omega⟩) (g.scr_inb ⟨j, by omega⟩) ((arr_pay67 p7).congr fun a b _ _ => ?_)
      simp only [Nat.zero_add]
    · refine part_step 0 j e16 (hg.scr ⟨j, by omega⟩) (g.scr_inb ⟨j, by omega⟩) ((arr_pay68 p8).congr fun a b _ _ => ?_)
      simp only [Nat.zero_add]
    · refine part_step 0 j e19 (hg.acc ⟨j, by omega⟩) (g.acc_inb ⟨j, by omega⟩) ((arr_pay13 p10 l19).congr fun a b _ _ => ?_)
      have := part_here 0 8 j (fun p => A19 p + fold4 (fun q => D.pr (r0 + q.1) q.2) p) A19 a b
      simp only [loadAt, fold4, Nat.zero_add] at this ⊢
      rw [this]
    · refine part_step 0 j e20 (hg.acc ⟨j, by omega⟩) (g.acc_inb ⟨j, by omega⟩) ((arr_pay14 p7 l20).congr fun a b _ _ => ?_)
      have := part_here 0 8 j (fun p => A20 p + fold4 (fun q => D.dy (r0 + q.1) q.2) p) A20 a b
      simp only [loadAt, fold4, Nat.zero_add] at this ⊢
      rw [this]

include hg h2 h3 h8 hr in
/-- The second pass before trip `j`. -/
theorem st2_vals (hn : n = 64) {m1 m2 : FVec Ideal S32x128 .f32} (hm1 : IsArr (β := EReal) m1 (fun p => D.m1 (r0 + p.1)))
    (hm2 : IsArr (β := EReal) m2 (fun p => D.m2 (r0 + p.1))) {t : Fin n → BitVec 32} (ht : ∀ k, t k = BitVec.ofNat 32 k.val)
    {X15 : Con Ideal arg15} (h15 : IsArr (β := EReal) (arg15.view.read (Elt Ideal) X15) (fun p => D.dy (r0 + p.1) p.2))
    {X16 : Con Ideal arg16} (h16 : IsArr (β := EReal) (arg16.view.read (Elt Ideal) X16) (fun p => D.xh (r0 + p.1) p.2))
    (s : St2 Ideal arg9 arg17 arg21) {A9 A17 A21 : Arr EReal}
    (ia : IsArr (β := EReal) s.acc (fun _ => 0)) (i9 : IsArr (β := EReal) (arg9.view.read (Elt Ideal) s.f9) A9)
    (i17 : IsArr (β := EReal) (arg17.view.read (Elt Ideal) s.f17) A17) (i21 : IsArr (β := EReal) (arg21.view.read (Elt Ideal) s.f21) A21) :
    ∀ j, j ≤ n →
      IsArr (β := EReal) (st2 g arg2 arg3 arg8 arg9 arg15 arg16 arg17 arg21 (iota .tc S8x128 32 [1] iota_S8x128_d1_w32) k0_pay61 rq m1 m2 t X2 X3 X8 X15 X16 s j).acc
        (fun p => max 0 ((Finset.range j).sup fun k => D.mag (r0 + p.1) (128 * k + p.2)))
      ∧ IsArr (β := EReal) (arg9.view.read (Elt Ideal) (st2 g arg2 arg3 arg8 arg9 arg15 arg16 arg17 arg21 (iota .tc S8x128 32 [1] iota_S8x128_d1_w32) k0_pay61 rq m1 m2 t X2 X3 X8 X15 X16 s j).f9)
        (part r0 32 j (fun p => D.dh p.1 p.2) A9)
      ∧ IsArr (β := EReal) (arg17.view.read (Elt Ideal) (st2 g arg2 arg3 arg8 arg9 arg15 arg16 arg17 arg21 (iota .tc S8x128 32 [1] iota_S8x128_d1_w32) k0_pay61 rq m1 m2 t X2 X3 X8 X15 X16 s j).f17)
        (part 0 32 j (fun p => D.da (r0 + p.1) p.2) A17)
      ∧ IsArr (β := EReal) (arg21.view.read (Elt Ideal) (st2 g arg2 arg3 arg8 arg9 arg15 arg16 arg17 arg21 (iota .tc S8x128 32 [1] iota_S8x128_d1_w32) k0_pay61 rq m1 m2 t X2 X3 X8 X15 X16 s j).f21)
        (part 0 8 j (fun p => A21 p + fold4 (fun q => D.da (r0 + q.1) q.2) p) A21) := by
  intro j
  induction j with
  | zero =>
    intro _
    simp only [part_zero, Finset.range_zero, Finset.sup_empty]
    refine ⟨ia.congr fun a b _ _ => ?_, i9, i17, i21⟩
    exact (max_eq_left bot_le).symm
  | succ j ih =>
    intro hj
    obtain ⟨e1, e9, e17, e21⟩ := ih (by omega)
    have hst := st2_succ (F := Ideal) g arg2 arg3 arg8 arg9 arg15 arg16 arg17 arg21 (iota .tc S8x128 32 [1] iota_S8x128_d1_w32) k0_pay61 rq m1 m2 t X2 X3 X8 X15 X16 s ⟨j, by omega⟩
    rw [hst]
    clear hst
    generalize st2 g arg2 arg3 arg8 arg9 arg15 arg16 arg17 arg21 (iota .tc S8x128 32 [1] iota_S8x128_d1_w32) k0_pay61 rq m1 m2 t X2 X3 X8 X15 X16 s j = T at e1 e9 e17 e21
    have l2 := isArr_load (h := 32) (w := 128) h2 (o := (r0, 128 * j)) (hg.tile ⟨j, by omega⟩) (g.tile_inb ⟨j, by omega⟩)
    have l3 := isArr_load (h := 32) (w := 128) h3 (o := (r0, 128 * (j / 8))) (hg.msk ⟨j, by omega⟩) (g.msk_inb ⟨j, by omega⟩)
    have l8 := isArr_load (h := 1) (w := 128) h8 (o := (0, 128 * j)) (hg.row ⟨j, by omega⟩) (g.row_inb ⟨j, by omega⟩)
    have l15 := isArr_load (h := 32) (w := 128) h15 (o := (0, 128 * j)) (hg.scr ⟨j, by omega⟩) (g.scr_inb ⟨j, by omega⟩)
    have l16 := isArr_load (h := 32) (w := 128) h16 (o := (0, 128 * j)) (hg.scr ⟨j, by omega⟩) (g.scr_inb ⟨j, by omega⟩)
    have l21 := isArr_load (h := 8) (w := 128) e21 (o := (0, 128 * j)) (hg.acc ⟨j, by omega⟩) (g.acc_inb ⟨j, by omega⟩)
    have p15 : IsArr (β := EReal) (grad2 (F := Ideal) g arg2 arg8 arg15 arg16 rq m1 m2 X2 X8 X15 X16 ⟨j, by omega⟩) (fun p => D.dh (r0 + p.1) (128 * j + p.2)) :=
      (arr_pay15 hr hm1 hm2 l8 l15 l16 l2).congr fun a b _ _ => by simp only [loadAt, Nat.zero_add]; rfl
    have p17 : IsArr (β := EReal) (masked2 (F := Ideal) g arg2 arg3 arg8 arg15 arg16 (iota .tc S8x128 32 [1] iota_S8x128_d1_w32) k0_pay61 rq m1 m2 t X2 X3 X8 X15 X16 ⟨j, by omega⟩)
        (fun p => D.da (r0 + p.1) (128 * j + p.2)) := by
      unfold masked2
      rw [ht]
      refine (arr_pay17 ⟨j, by omega⟩ p15 l3).congr fun a b _ hb => ?_
      have e1 : 128 * (j / 8) + (16 * (j % 8) + b / 8) = (128 * j + b) / 8 := by omega
      have e2 : b % 8 = (128 * j + b) % 8 := by omega
      simp only [loadAt, Data.da, Data.keep, e1, e2]
      exact if_congr Iff.rfl rfl rfl
    refine ⟨?_, ?_, ?_, ?_⟩
    · refine (arr_pay74 e1 p17).congr fun a b _ _ => ?_
      simp only [Finset.range_add_one, Finset.sup_insert]
      rw [max_assoc]
      exact congrArg (max (0 : EReal)) (max_comm _ _)
    · exact part_step r0 j e9 (hg.tile ⟨j, by omega⟩) (g.tile_inb ⟨j, by omega⟩) (arr_pay16 p15)
    · refine part_step 0 j e17 (hg.scr ⟨j, by omega⟩) (g.scr_inb ⟨j, by omega⟩) ((arr_pay75 p17).congr fun a b _ _ => ?_)
      simp only [Nat.zero_add]
    · refine part_step 0 j e21 (hg.acc ⟨j, by omega⟩) (g.acc_inb ⟨j, by omega⟩) ((arr_pay73 p17 l21).congr fun a b _ _ => ?_)
      have := part_here 0 8 j (fun p => A21 p + fold4 (fun q => D.da (r0 + q.1) q.2) p) A21 a b
      simp only [loadAt, fold4, Nat.zero_add] at this ⊢
      rw [this]

include hg in
/-- The third pass before trip `j`. -/
theorem st4_vals {P : Vec Ideal S32x128 .f32 → FVec Ideal S32x128 .fp8e5m2} {Q : ℕ → EReal → EReal}
    (hP : ∀ x A, IsArr (β := EReal) x A → IsArr (β := EReal) (P x) (fun p => Q p.1 (A p)))
    {X17 : Con Ideal arg17} {G : Arr EReal} (h17 : IsArr (β := EReal) (arg17.view.read (Elt Ideal) X17) G)
    (f : Con Ideal arg10) {A10 : Arr EReal} (i10 : IsArr (β := EReal) (arg10.view.read (Elt Ideal) f) A10) :
    ∀ j, j ≤ n → IsArr (β := EReal) (arg10.view.read (Elt Ideal) (st4 g arg10 arg17 P X17 f j))
      (part r0 32 j (fun p => Q (p.1 - r0) (G (p.1 - r0, p.2))) A10) := by
  intro j
  induction j with
  | zero => intro _; rw [part_zero]; exact i10
  | succ j ih =>
    intro hj
    have e := ih (by omega)
    have hst := st4_succ (F := Ideal) g arg10 arg17 P X17 f ⟨j, by omega⟩
    rw [hst]
    have l17 := isArr_load (h := 32) (w := 128) h17 (o := (0, 128 * j)) (hg.scr ⟨j, by omega⟩) (g.scr_inb ⟨j, by omega⟩)
    refine part_step r0 j e (hg.tile ⟨j, by omega⟩) (g.tile_inb ⟨j, by omega⟩) ((hP _ _ l17).congr fun a b _ _ => ?_)
    simp only [loadAt, Nat.zero_add, Nat.add_sub_cancel_left]

end Cert.KernelIdeal.Hand

end
-- ==== Proof.Quant.lean ====
/- The quantiser's values: a row's exponent counted from the powers of two at most its magnitude, its scale and its codes. -/
module

public import proofs.«01_k».proof.Proof.Spec
public import proofs.«01_k».proof.Proof.Pay
public import proofs.«01_k».proof.Proof.Trips
public import proofs.«01_k».proof.Proof.Body

@[expose] public section

set_option maxRecDepth 16384

noncomputable section

namespace Cert.KernelIdeal.Hand

open Idealize.ShloMosaic Cert.KernelIdeal Cert.KernelIdeal.Gen Cert.LnBwd
open Idealize.ShloMosaic.Updates (Arr IsArr)

/-- The bit pattern of exponent field `k` is a power of two. -/
theorem bits_pow (k : ℕ) (h0 : 0 < k) (h1 : k < 255) : Ideal.ofBits .f32 (BitVec.ofNat 32 k <<< 23) = p2 ((k : ℤ) - 127) := by
  have ex : ((BitVec.ofNat 32 k <<< 23).extractLsb' 23 8).toNat = k := by
    rw [BitVec.extractLsb'_toNat, BitVec.toNat_shiftLeft, BitVec.toNat_ofNat, Nat.shiftLeft_eq, Nat.shiftRight_eq_div_pow]; omega
  have fr : ((BitVec.ofNat 32 k <<< 23).extractLsb' 0 23).toNat = 0 := by
    rw [BitVec.extractLsb'_toNat, BitVec.toNat_shiftLeft, BitVec.toNat_ofNat, Nat.shiftLeft_eq, Nat.shiftRight_eq_div_pow]; omega
  have ng : ((BitVec.ofNat 32 k <<< 23).extractLsb' (8 + 23) 1 == 1#1) = false := by
    rw [beq_eq_false_iff_ne]
    intro h
    have := congrArg BitVec.toNat h
    rw [BitVec.extractLsb'_toNat, BitVec.toNat_shiftLeft, BitVec.toNat_ofNat, Nat.shiftLeft_eq, Nat.shiftRight_eq_div_pow] at this
    simp at this; omega
  have hof : ∀ b : BitVec 32, Ideal.ofBits .f32 b = Ideal.ieee 8 23 b := fun _ => rfl
  rw [hof]
  generalize BitVec.ofNat 32 k <<< 23 = b at ex fr ng ⊢
  unfold Ideal.ieee p2
  simp only [ex, fr, ng]
  rw [if_neg (by omega), if_neg (by omega)]
  congr 1
  have : ((2 : ℝ) ^ ((k : ℤ) - 127)) = (2 : ℝ) ^ (23 : ℤ) * (2 : ℝ) ^ ((k : ℤ) - (2 ^ (8 - 1) - 1) - 23) := by
    rw [← zpow_add₀ (by norm_num)]; congr 1; norm_num
  rw [this]; norm_num

/-- The row's magnitude over the largest code: the largest of its lanes, rescaled. -/
def top (A : Arr EReal) (a : ℕ) : EReal := ((Finset.range 128).sup fun l => A (a, l)) * Ideal.ofBits .f32 0x37924925#32

theorem cnt_succ (y : EReal) (k : ℕ) : cnt y (k + 1) = cnt y k + if p2 ((k : ℤ) - 126) ≤ y then 1 else 0 := by
  classical
  unfold cnt
  rw [Finset.range_add_one, Finset.filter_insert]
  split
  · rw [Finset.card_insert_of_notMem (by simp)]
  · rfl

theorem cnt_le (y : EReal) (k : ℕ) : cnt y k ≤ k := by
  induction k with
  | zero => simp [cnt]
  | succ k ih => rw [cnt_succ]; split <;> omega

theorem sup_fold (f : Fin 128 → EReal) : Finset.fold max (Ideal.ofBits .f32 4286578688#32) f Finset.univ = Finset.univ.sup f := by
  have : Ideal.ofBits .f32 4286578688#32 = ⊥ := by
    show Ideal.ieee 8 23 4286578688#32 = ⊥
    unfold Ideal.ieee; rw [if_pos (by decide), if_pos (by decide), if_pos (by decide)]
  rw [this]; rfl

theorem sup_lanes (f : ℕ → EReal) (n : ℕ) : (Finset.univ.sup fun l : Fin n => f l.val) = (Finset.range n).sup f := by
  apply le_antisymm
  · exact Finset.sup_le fun l _ => Finset.le_sup (f := f) (Finset.mem_range.2 l.isLt)
  · exact Finset.sup_le fun l hl => Finset.le_sup (f := fun l : Fin n => f l.val) (Finset.mem_univ ⟨l, Finset.mem_range.1 hl⟩)

/-- One more power compared. -/
theorem arr_pay77 {v x A} (h : IsArr (β := EReal) v A) (k : Fin 239) (hx : IsArr (β := BitVec 32) x (fun p => BitVec.ofNat 32 (cnt (top A p.1) k.val))) :
    IsArr (β := BitVec 32) (k0_pay77 (F := Ideal) v k x) (fun p => BitVec.ofNat 32 (cnt (top A p.1) (k.val + 1))) := by
  refine isArr_of fun a b => ?_
  pointwise [k0_pay77, arr_at h, arr_at hx]
  have e : Scalar.shli (Scf.iv 1#32 1#32 k.val) 23#32 = BitVec.ofNat 32 (k.val + 1) <<< 23 := by
    clear hx; revert k; decide
  rw [e, bits_pow _ (by omega) (by omega), sup_fold, sup_lanes (fun l => A (a.val, l)), cnt_succ]
  have e' : (((k.val + 1 : ℕ) : ℤ) - 127) = (k.val : ℤ) - 126 := by push_cast; ring
  rw [e']
  show _ + _ = _
  unfold top
  split
  · rw [BitVec.ofNat_add]
  · simp

/-- A fold over the trips, by induction on them. -/
theorem foldl_finRange {σ : Type} {P : ℕ → σ → Prop} : ∀ {n : ℕ} (g : Fin n → σ → σ) (x : σ), P 0 x → (∀ (k : Fin n) x, P k.val x → P (k.val + 1) (g k x)) →
    P n ((List.finRange n).foldl (fun acc k => g k acc) x)
  | 0, _, _, h0, _ => by simpa using h0
  | n + 1, g, x, h0, hs => by
    rw [List.finRange_succ_last, List.foldl_append, List.foldl_map]
    exact hs (Fin.last n) _ (foldl_finRange (fun k => g k.castSucc) x h0 fun k x hx => hs k.castSucc x hx)

/-- The count, all powers compared. -/
theorem arr_expo {v A} (h : IsArr (β := EReal) v A) :
    IsArr (β := BitVec 32) (expo (F := Ideal) v) (fun p => BitVec.ofNat 32 (cnt (top A p.1) 239)) := by
  unfold expo
  rw [Scf.fold_eq]
  refine foldl_finRange (P := fun j x => IsArr (β := BitVec 32) x (fun p => BitVec.ofNat 32 (cnt (top A p.1) j))) _ _ ?_ fun k x hx => arr_pay77 h k hx
  refine isArr_of fun a b => ?_
  pointwise [k0_pay76]
  simp [cnt]

/-- The exponent field kept, from the count. -/
theorem field (n : ℕ) (h : n ≤ 239) : Scalar.select (IntOp.cmpi CmpIPredicate.eq (BitVec.ofNat 32 n) 0#32) (127#32) (IntOp.addi (BitVec.ofNat 32 n) 1#32)
    = BitVec.ofNat 32 (if n = 0 then 127 else n + 1) := by
  have : ∀ n : Fin 240, Scalar.select (IntOp.cmpi CmpIPredicate.eq (BitVec.ofNat 32 n.val) 0#32) (127#32) (IntOp.addi (BitVec.ofNat 32 n.val) 1#32)
    = BitVec.ofNat 32 (if n.val = 0 then 127 else n.val + 1) := by decide
  exact this ⟨n, by omega⟩

theorem shl23 (x : BitVec 32) : IntOp.shli ArithUnit.vector x 23#32 = x <<< 23 := by
  unfold IntOp.shli; simp

theorem sub254 (n : ℕ) (h : n ≤ 254) : IntOp.subi (254#32) (BitVec.ofNat 32 n) = BitVec.ofNat 32 (254 - n) := by
  have : ∀ n : Fin 255, IntOp.subi (254#32) (BitVec.ofNat 32 n.val) = BitVec.ofNat 32 (254 - n.val) := by decide
  exact this ⟨n, by omega⟩

theorem p2_zero : p2 0 = 1 := by unfold p2; norm_num

/-- The scales. -/
theorem arr_pay79 {x} {y : ℕ → EReal} (h : IsArr (β := BitVec 32) x (fun p => BitVec.ofNat 32 (cnt (y p.1) 239))) :
    IsArr (β := EReal) (k0_pay79 (F := Ideal) x) (fun p => scaleOf (y p.1)) := by
  refine isArr_of fun a b => ?_
  pointwise [k0_pay79, k0_pay78, arr_at h]
  have hc := cnt_le (y a.val) 239
  rw [field _ hc, shl23, bits_pow _ (by split <;> omega) (by split <;> omega)]
  unfold scaleOf
  split
  · exact p2_zero
  · congr 1; push_cast; ring

/-- The codes. -/
theorem arr_pay80 {x v A} {y : ℕ → EReal} (hv : IsArr (β := EReal) v A) (h : IsArr (β := BitVec 32) x (fun p => BitVec.ofNat 32 (cnt (y p.1) 239))) :
    IsArr (β := EReal) (k0_pay80 (F := Ideal) x v) (fun p => clip (A p * invOf (y p.1))) := by
  refine isArr_of fun a b => ?_
  pointwise [k0_pay80, k0_pay78, arr_at h, arr_at hv]
  have hc := cnt_le (y a.val) 239
  rw [field _ hc, sub254 _ (by split <;> omega), shl23, bits_pow _ (by split <;> omega) (by split <;> omega)]
  unfold clip invOf
  congr 3
  split
  · exact p2_zero
  · congr 1; omega

end Cert.KernelIdeal.Hand

end
-- ==== Proof.Group.lean ====
/- What a row group leaves, element by element. -/
module

public import proofs.«01_k».proof.Proof.Passes
public import proofs.«01_k».proof.Proof.Quant
public import proofs.«01_k».proof.Proof.Body

@[expose] public section

set_option maxRecDepth 16384

noncomputable section

namespace Cert.KernelIdeal.Hand

open Idealize.ShloMosaic Cert.KernelIdeal Cert.KernelIdeal.Gen Cert.LnBwd
open Idealize.ShloMosaic.Updates (Arr IsArr isArr_load isArr_writes_cons storeAt_hit storeAt_miss loadAt)

/-- Whatever a block holds is some array. -/
theorem exists_isArr {β : Type} [Inhabited β] {R C : ℕ} (X : (⟨2, ![R, C]⟩ : Shape).Idx → β) : ∃ A : Arr β, IsArr X A := by
  classical
  refine ⟨fun p => if h : p.1 < R ∧ p.2 < C then X (ix2 ⟨p.1, h.1⟩ ⟨p.2, h.2⟩) else default, isArr_of fun a b => ?_⟩
  rw [dif_pos ⟨a.isLt, b.isLt⟩]

/-- The columns' sum, lane by lane. -/
theorem lane_sum (f : ℕ → EReal) : ∑ l : Fin 128, ∑ k ∈ Finset.range 64, f (128 * k + l.val) = ∑ c ∈ Finset.range 8192, f c := by
  have : ∀ m, ∑ k ∈ Finset.range m, ∑ l ∈ Finset.range 128, f (128 * k + l) = ∑ c ∈ Finset.range (128 * m), f c := by
    intro m
    induction m with
    | zero => simp
    | succ m ih => rw [Finset.sum_range_succ, ih, Nat.mul_succ, Finset.sum_range_add]
  rw [Finset.sum_comm, ← this 64]
  exact Finset.sum_congr rfl fun k _ => (Finset.sum_range (fun l => f (128 * k + l))).symm

/-- The columns' maximum, lane by lane. -/
theorem lane_sup (f : ℕ → EReal) (hf : ∀ c, 0 ≤ f c) :
    ((Finset.range 128).sup fun l => max 0 ((Finset.range 64).sup fun k => f (128 * k + l))) = (Finset.range 8192).sup f := by
  apply le_antisymm
  · refine Finset.sup_le fun l hl => max_le ?_ (Finset.sup_le fun k hk => ?_)
    · exact (hf 0).trans (Finset.le_sup (f := f) (by simp))
    · rw [Finset.mem_range] at hl hk
      exact Finset.le_sup (f := f) (Finset.mem_range.2 (by omega))
  · refine Finset.sup_le fun c hc => ?_
    rw [Finset.mem_range] at hc
    have h1 : f c ≤ (Finset.range 64).sup fun k => f (128 * k + c % 128) := by
      have := Finset.le_sup (f := fun k => f (128 * k + c % 128)) (s := Finset.range 64) (b := c / 128) (Finset.mem_range.2 (by omega))
      simpa [Nat.div_add_mod] using this
    refine (h1.trans (le_max_right 0 _)).trans ?_
    exact Finset.le_sup (f := fun l => max 0 ((Finset.range 64).sup fun k => f (128 * k + l))) (Finset.mem_range.2 (by omega))

theorem mag_nonneg (D : Data) (R c : ℕ) : 0 ≤ D.mag R c := by
  unfold Data.mag
  rcases le_total 0 (D.da R c) with h | h
  · exact h.trans (le_max_left _ _)
  · exact (EReal.neg_nonneg.2 h).trans (le_max_right _ _)

/-- An array with a group's rows replaced. -/
def rows {β : Type} (r0 : ℕ) (G A : Arr β) : Arr β := fun p => if r0 ≤ p.1 ∧ p.1 < r0 + 32 then G p else A p

theorem word_eq {n : ℕ} (k : Fin n) : word k = BitVec.ofNat 32 k.val := by
  unfold word Scf.iv; simp

variable (g : Geo 64)
  (arg1 : Memref sig .tc .vmem S128x8192 .fp8e5m2) (arg2 : Memref sig .tc .vmem S128x8192 .bf16) (arg3 : Memref sig .tc .vmem S128x1024 .i8)
  (arg4 : Memref sig .tc .vmem S128x8192 .bf16) (arg8 : Memref sig .tc .vmem S1x8192 .f32) (arg9 : Memref sig .tc .vmem S128x8192 .bf16)
  (arg10 : Memref sig .tc .vmem S128x8192 .fp8e5m2) (arg15 : Memref sig .tc .vmem S32x8192 .f32)
  (arg16 : Memref sig .tc .vmem S32x8192 .f32) (arg17 : Memref sig .tc .vmem S32x8192 .f32) (arg18 : Memref sig .tc .vmem S128x128 .f32)
  (arg19 : Memref sig .tc .vmem S8x8192 .f32)
  (arg20 : Memref sig .tc .vmem S8x8192 .f32) (arg21 : Memref sig .tc .vmem S8x8192 .f32)
  (D : Data)

/-- The arrays a state's outputs and partial sums hold. -/
structure GSt.Holds (s : GSt Ideal arg9 arg10 arg15 arg16 arg17 arg18 arg19 arg20 arg21) (A9 A10 A18 A19 A20 A21 : Arr EReal) : Prop where
  i9 : IsArr (β := EReal) (arg9.view.read (Elt Ideal) s.f9) A9
  i10 : IsArr (β := EReal) (arg10.view.read (Elt Ideal) s.f10) A10
  i18 : IsArr (β := EReal) (arg18.view.read (Elt Ideal) s.f18) A18
  i19 : IsArr (β := EReal) (arg19.view.read (Elt Ideal) s.f19) A19
  i20 : IsArr (β := EReal) (arg20.view.read (Elt Ideal) s.f20) A20
  i21 : IsArr (β := EReal) (arg21.view.read (Elt Ideal) s.f21) A21

theorem part_full {β : Type} {H : ℕ} (G A : Arr β) (a b : ℕ) (ha : a < H) (hb : b < 8192) : part 0 H 64 G A (a, b) = G (a, b) := by
  unfold part; rw [if_pos (by simp only []; omega)]

theorem part_rows {β : Type} (r0 : ℕ) (G A : Arr β) (a b : ℕ) (hb : b < 8192) : part r0 32 64 G A (a, b) = rows r0 G A (a, b) := by
  unfold part rows; simp only [show b < 128 * 64 by omega, and_true]

/-- A row group: its rows of the two outputs and of the scales written, its partial sums added. -/
theorem grp_vals (r0 : ℕ) (hg : g.At r0)
    {X1 : Con Ideal arg1} (h1 : IsArr (β := EReal) (arg1.view.read (Elt Ideal) X1) (fun p => D.d p.1 p.2))
    {X2 : Con Ideal arg2} (h2 : IsArr (β := EReal) (arg2.view.read (Elt Ideal) X2) (fun p => D.res p.1 p.2))
    {X3 : Con Ideal arg3} (h3 : IsArr (β := BitVec 8) (arg3.view.read (Elt Ideal) X3) (fun p => D.msk p.1 p.2))
    {X4 : Con Ideal arg4} (h4 : IsArr (β := EReal) (arg4.view.read (Elt Ideal) X4) (fun p => D.h p.1 p.2))
    {X8 : Con Ideal arg8} (h8 : IsArr (β := EReal) (arg8.view.read (Elt Ideal) X8) (fun p => D.w p.2))
    {o : Fin 2 → ℕ} (ho : ∀ a, o a + S32x128.size a ≤ S128x128.size a) (ho' : o = ![r0, 0])
    {sq mq rq : FVec Ideal S32x128 .f32} (hs : IsArr (β := EReal) sq (fun p => D.s (r0 + p.1))) (hm : IsArr (β := EReal) mq (fun p => D.m (r0 + p.1)))
    (hr : IsArr (β := EReal) rq (fun p => D.r (r0 + p.1)))
    (s : GSt Ideal arg9 arg10 arg15 arg16 arg17 arg18 arg19 arg20 arg21) {A9 A10 A18 A19 A20 A21 : Arr EReal}
    (hS : s.Holds arg9 arg10 arg15 arg16 arg17 arg18 arg19 arg20 arg21 A9 A10 A18 A19 A20 A21) :
    (grp arg1 arg2 arg3 arg4 arg8 arg9 arg10 arg15 arg16 arg17 arg18 arg19 arg20 arg21 X1 X2 X3 X4 X8 g o ho sq mq rq s).Holds
      arg9 arg10 arg15 arg16 arg17 arg18 arg19 arg20 arg21
      (rows r0 (fun p => D.dh p.1 p.2) A9) (rows r0 (fun p => D.code p.1 p.2) A10) (rows r0 (fun p => D.scale p.1) A18)
      (fun p => A19 p + fold4 (fun q => D.pr (r0 + q.1) q.2) p) (fun p => A20 p + fold4 (fun q => D.dy (r0 + q.1) q.2) p)
      (fun p => A21 p + fold4 (fun q => D.da (r0 + q.1) q.2) p) := by
  obtain ⟨A15, i15⟩ := exists_isArr (β := EReal) (R := 32) (C := 8192) (arg15.view.read (Elt Ideal) s.f15)
  obtain ⟨A16, i16⟩ := exists_isArr (β := EReal) (R := 32) (C := 8192) (arg16.view.read (Elt Ideal) s.f16)
  obtain ⟨A17, i17⟩ := exists_isArr (β := EReal) (R := 32) (C := 8192) (arg17.view.read (Elt Ideal) s.f17)
  unfold grp
  generalize hP1 : pass1 g arg1 arg4 arg8 arg9 arg10 arg15 arg16 arg17 arg18 arg19 arg20 arg21 sq mq rq X1 X4 X8 s = P1
  obtain ⟨a1, a2, a15, a16, a19, a20⟩ := st1_vals g arg1 arg4 arg8 arg15 arg16 arg19 arg20 D r0 hg h1 h4 h8 hs hm hr
    ⟨(k0_pay65, k0_pay65), s.f15, s.f16, s.f19, s.f20⟩ arr_pay65 arr_pay65 i15 i16 hS.i19 hS.i20 64 le_rfl
  unfold pass1 at hP1
  rw [hP1] at a1 a2 a15 a16 a19 a20
  clear hP1
  generalize hP2 : pass2 g arg2 arg3 arg8 arg9 arg10 arg15 arg16 arg17 arg18 arg19 arg20 arg21 rq X2 X3 X8 P1 s = P2
  have m1 : IsArr (β := EReal) (k0_pay69 P1.acc.1) (fun p => D.m1 (r0 + p.1)) := (arr_pay69 a1).congr fun a b _ _ => by
    unfold Data.m1; rw [← lane_sum]
  have m2 : IsArr (β := EReal) (k0_pay71 (k0_pay70 P1.acc.2)) (fun p => D.m2 (r0 + p.1)) := (arr_pay71 a2).congr fun a b _ _ => by
    unfold Data.m2; rw [← lane_sum]
  have b15 : IsArr (β := EReal) (arg15.view.read (Elt Ideal) P1.f15) (fun p => D.dy (r0 + p.1) p.2) := a15.congr fun a b ha hb => part_full _ _ a b ha hb
  have b16 : IsArr (β := EReal) (arg16.view.read (Elt Ideal) P1.f16) (fun p => D.xh (r0 + p.1) p.2) := a16.congr fun a b ha hb => part_full _ _ a b ha hb
  obtain ⟨c1, c9, c17, c21⟩ := st2_vals g arg2 arg3 arg8 arg9 arg15 arg16 arg17 arg21 D r0 hg h2 h3 h8 hr rfl m1 m2 (t := word) (fun k => word_eq k) b15 b16
    ⟨k0_pay72, s.f9, s.f17, s.f21⟩ arr_pay72 hS.i9 i17 hS.i21 64 le_rfl
  unfold pass2 at hP2
  rw [hP2] at c1 c9 c17 c21
  clear hP2
  have b17 : IsArr (β := EReal) (arg17.view.read (Elt Ideal) P2.f17) (fun p => D.da (r0 + p.1) p.2) := c17.congr fun a b ha hb => part_full _ _ a b ha hb
  have ex : IsArr (β := BitVec 32) (expo (F := Ideal) P2.acc) (fun p => BitVec.ofNat 32 (cnt (D.y (r0 + p.1)) 239)) := (arr_expo c1).congr fun a b _ _ => by
    unfold top Data.y
    rw [← lane_sup _ (fun c => mag_nonneg D (r0 + a) c)]
  refine ⟨c9.congr fun a b ha hb => part_rows r0 _ _ a b hb, ?_, ?_, a19.congr fun a b ha hb => part_full _ _ a b ha hb,
    a20.congr fun a b ha hb => part_full _ _ a b ha hb, c21.congr fun a b ha hb => part_full _ _ a b ha hb⟩
  · refine (st4_vals g arg10 arg17 r0 hg (P := k0_pay80 (expo P2.acc)) (Q := fun a v => clip (v * invOf (D.y (r0 + a))))
      (fun x A hx => arr_pay80 (y := fun a => D.y (r0 + a)) hx ex) b17 s.f10 hS.i10 64 le_rfl).congr fun a b ha hb => ?_
    rw [part_rows r0 _ _ a b hb]
    unfold rows
    by_cases h : r0 ≤ a ∧ a < r0 + 32
    · simp only [if_pos h, Nat.add_sub_cancel' h.1]; rfl
    · simp only [if_neg h]
  · refine (isArr_writes_cons (L := []) hS.i18 (o := (r0, 0)) (h := 32) (w := 128) ho' ho (arr_pay79 (y := fun a => D.y (r0 + a)) ex)).congr fun a b ha hb => ?_
    by_cases h : r0 ≤ a ∧ a < r0 + 32
    · rw [storeAt_hit (p := (a, b)) ⟨⟨h, by simp only []; omega⟩, trivial⟩]
      unfold rows
      simp only [if_pos h, Nat.add_sub_cancel' h.1]; rfl
    · rw [storeAt_miss (p := (a, b)) fun x => h x.1.1]
      unfold rows
      simp only [if_neg h]

end Cert.KernelIdeal.Hand

end
-- ==== Proof.Point.lean ====
/- What the body leaves at a grid point, element by element. -/
module

public import proofs.«01_k».proof.Proof.Group
public import proofs.«01_k».proof.Proof.Own

@[expose] public section

set_option maxRecDepth 16384

noncomputable section

namespace Cert.KernelIdeal.Hand

open Idealize.ShloMosaic Cert.KernelIdeal Cert.KernelIdeal.Gen Cert.LnBwd
open Idealize.ShloMosaic.Updates (Arr IsArr isArr_load isArr_writes_cons isArr_writes_whole storeAt_hit storeAt_miss loadAt)

theorem at0 : geo0.At 0 := ⟨k0_off2_eq, k0_off3_eq, k0_off4_eq, k0_off5_eq, by decide +kernel⟩
theorem at1 : geo1.At 32 := ⟨k0_off13_eq, k0_off14_eq, k0_off15_eq, k0_off16_eq, by decide +kernel⟩
theorem at2 : geo2.At 64 := ⟨k0_off24_eq, k0_off25_eq, k0_off26_eq, k0_off27_eq, by decide +kernel⟩
theorem at3 : geo3.At 96 := ⟨k0_off35_eq, k0_off36_eq, k0_off37_eq, k0_off38_eq, by decide +kernel⟩

/-- A block's contribution to the partial sums, group after group. -/
def step (f : ℕ → ℕ → EReal) (A : Arr EReal) : Arr EReal := fun p =>
  A p + fold4 (fun q => f (0 + q.1) q.2) p + fold4 (fun q => f (32 + q.1) q.2) p + fold4 (fun q => f (64 + q.1) q.2) p + fold4 (fun q => f (96 + q.1) q.2) p

theorem four_rows (G A : Arr EReal) (a b : ℕ) (ha : a < 128) : rows 96 G (rows 64 G (rows 32 G (rows 0 G A))) (a, b) = G (a, b) := by
  unfold rows
  by_cases h3 : 96 ≤ a
  · rw [if_pos (by simp only []; omega)]
  rw [if_neg (by simp only []; omega)]
  by_cases h2 : 64 ≤ a
  · rw [if_pos (by simp only []; omega)]
  rw [if_neg (by simp only []; omega)]
  by_cases h1 : 32 ≤ a
  · rw [if_pos (by simp only []; omega)]
  rw [if_neg (by simp only []; omega), if_pos (by simp only []; omega)]

variable (i : grid0.Coords) (arg1 : Memref sig .tc .vmem S128x8192 .fp8e5m2) (harg1 : arg1.IsWhole) (arg2 : Memref sig .tc .vmem S128x8192 .bf16) (harg2 : arg2.IsWhole) (arg3 : Memref sig .tc .vmem S128x1024 .i8) (harg3 : arg3.IsWhole) (arg4 : Memref sig .tc .vmem S128x8192 .bf16) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S1x8192 .f32) (harg8 : arg8.IsWhole) (arg9 : Memref sig .tc .vmem S128x8192 .bf16) (harg9 : arg9.IsWhole) (arg10 : Memref sig .tc .vmem S128x8192 .fp8e5m2) (harg10 : arg10.IsWhole) (arg11 : Memref sig .tc .vmem S16x128 .f32) (harg11 : arg11.IsWhole) (arg12 : Memref sig .tc .vmem S1x8192 .f32) (harg12 : arg12.IsWhole) (arg13 : Memref sig .tc .vmem S1x8192 .f32) (harg13 : arg13.IsWhole) (arg14 : Memref sig .tc .vmem S1x8192 .f32) (harg14 : arg14.IsWhole) (arg15 : Memref sig .tc .vmem S32x8192 .f32) (harg15 : arg15.IsWhole) (arg16 : Memref sig .tc .vmem S32x8192 .f32) (harg16 : arg16.IsWhole) (arg17 : Memref sig .tc .vmem S32x8192 .f32) (harg17 : arg17.IsWhole) (arg18 : Memref sig .tc .vmem S128x128 .f32) (harg18 : arg18.IsWhole) (arg19 : Memref sig .tc .vmem S8x8192 .f32) (harg19 : arg19.IsWhole) (arg20 : Memref sig .tc .vmem S8x8192 .f32) (harg20 : arg20.IsWhole) (arg21 : Memref sig .tc .vmem S8x8192 .f32) (harg21 : arg21.IsWhole) (Y1 : Vec Ideal S128x8192 .fp8e5m2) (Y2 : Vec Ideal S128x8192 .bf16) (Y3 : Vec Ideal S128x1024 .i8) (Y4 : Vec Ideal S128x8192 .bf16) (Y5 : Vec Ideal S16x128 .f32) (Y6 : Vec Ideal S16x128 .f32) (Y7 : Vec Ideal S16x128 .f32) (Y8 : Vec Ideal S1x8192 .f32) (Y9 : Vec Ideal S128x8192 .bf16) (Y10 : Vec Ideal S128x8192 .fp8e5m2) (Y11 : Vec Ideal S16x128 .f32) (Y12 : Vec Ideal S1x8192 .f32) (Y13 : Vec Ideal S1x8192 .f32) (Y14 : Vec Ideal S1x8192 .f32) (Y15 : Vec Ideal S32x8192 .f32) (Y16 : Vec Ideal S32x8192 .f32) (Y17 : Vec Ideal S32x8192 .f32) (Y18 : Vec Ideal S128x128 .f32) (Y19 : Vec Ideal S8x8192 .f32) (Y20 : Vec Ideal S8x8192 .f32) (Y21 : Vec Ideal S8x8192 .f32)

/-- The input blocks of grid point `t` hold the rows from `128 t` on of the data, the row blocks all of them. -/
structure Inputs (D : Data) (t : ℕ) : Prop where
  h1 : IsArr (β := EReal) Y1 (fun p => D.d (128 * t + p.1) p.2)
  h2 : IsArr (β := EReal) Y2 (fun p => D.res (128 * t + p.1) p.2)
  h3 : IsArr (β := BitVec 8) Y3 (fun p => D.msk (128 * t + p.1) p.2)
  h4 : IsArr (β := EReal) Y4 (fun p => D.h (128 * t + p.1) p.2)
  h5 : IsArr (β := EReal) Y5 (fun p => D.s (128 * p.1 + p.2))
  h6 : IsArr (β := EReal) Y6 (fun p => D.m (128 * p.1 + p.2))
  h7 : IsArr (β := EReal) Y7 (fun p => D.r (128 * p.1 + p.2))
  h8 : IsArr (β := EReal) Y8 (fun p => D.w p.2)

theorem row_at {t : ℕ} (ht : (i 0).val = t) (arg : Memref sig .tc .vmem S16x128 .f32) (harg : arg.IsWhole) (Y : Vec Ideal S16x128 .f32) {f : ℕ → EReal}
    (h : IsArr (β := EReal) Y (fun p => f (128 * p.1 + p.2))) : IsArr (β := EReal) (rowAt i arg (harg.unread Y)) (fun p => f (128 * t + p.2)) := by
  have h' : IsArr (β := EReal) (arg.view.read (Elt Ideal) (harg.unread Y)) (fun p => f (128 * p.1 + p.2)) := by rw [harg.read_unread]; exact h
  refine (isArr_load (h := 1) (w := 128) h' (o := (t, 0)) (by rw [k0_off1_eq, ht]) (k0_off1_inb i)).congr fun a b ha _ => ?_
  have : a = 0 := by omega
  subst this
  simp only [loadAt, Nat.add_zero, Nat.zero_add]

/-- What the row groups leave at grid point `t`. -/
theorem ran_vals (D : Data) (t : ℕ) (ht : (i 0).val = t) (hI : Inputs Y1 Y2 Y3 Y4 Y5 Y6 Y7 Y8 D t) {A19 A20 A21 : Arr EReal}
    (i19 : ¬ cond0_0 i → IsArr (β := EReal) Y19 A19) (i20 : ¬ cond0_0 i → IsArr (β := EReal) Y20 A20) (i21 : ¬ cond0_0 i → IsArr (β := EReal) Y21 A21) :
    (ran i arg1 harg1 arg2 harg2 arg3 harg3 arg4 harg4 arg5 harg5 arg6 harg6 arg7 harg7 arg8 harg8 arg9 harg9 arg10 harg10 arg15 harg15 arg16 harg16 arg17 harg17 arg18 harg18 arg19 harg19 arg20 harg20 arg21 harg21 Y1 Y2 Y3 Y4 Y5 Y6 Y7 Y8 Y9 Y10 Y15 Y16 Y17 Y18 Y19 Y20 Y21).Holds
      arg9 arg10 arg15 arg16 arg17 arg18 arg19 arg20 arg21
      (fun p => D.dh (128 * t + p.1) p.2) (fun p => D.code (128 * t + p.1) p.2) (fun p => D.scale (128 * t + p.1))
      (step (fun R c => D.pr (128 * t + R) c) (if cond0_0 i then fun _ => 0 else A19))
      (step (fun R c => D.dy (128 * t + R) c) (if cond0_0 i then fun _ => 0 else A20))
      (step (fun R c => D.da (128 * t + R) c) (if cond0_0 i then fun _ => 0 else A21)) := by
  obtain ⟨A9, i9⟩ := exists_isArr (β := EReal) (R := 128) (C := 8192) (arg9.view.read (Elt Ideal) (harg9.unread Y9))
  obtain ⟨A10, i10⟩ := exists_isArr (β := EReal) (R := 128) (C := 8192) (arg10.view.read (Elt Ideal) (harg10.unread Y10))
  obtain ⟨A18, i18⟩ := exists_isArr (β := EReal) (R := 128) (C := 128) (arg18.view.read (Elt Ideal) (harg18.unread Y18))
  have k1 : IsArr (β := EReal) (arg1.view.read (Elt Ideal) (harg1.unread Y1)) (fun p => (D.shift (128 * t)).d p.1 p.2) := by rw [harg1.read_unread]; exact hI.h1
  have k2 : IsArr (β := EReal) (arg2.view.read (Elt Ideal) (harg2.unread Y2)) (fun p => (D.shift (128 * t)).res p.1 p.2) := by rw [harg2.read_unread]; exact hI.h2
  have k3 : IsArr (β := BitVec 8) (arg3.view.read (Elt Ideal) (harg3.unread Y3)) (fun p => (D.shift (128 * t)).msk p.1 p.2) := by rw [harg3.read_unread]; exact hI.h3
  have k4 : IsArr (β := EReal) (arg4.view.read (Elt Ideal) (harg4.unread Y4)) (fun p => (D.shift (128 * t)).h p.1 p.2) := by rw [harg4.read_unread]; exact hI.h4
  have k8 : IsArr (β := EReal) (arg8.view.read (Elt Ideal) (harg8.unread Y8)) (fun p => (D.shift (128 * t)).w p.2) := by rw [harg8.read_unread]; exact hI.h8
  have k5 := row_at i ht arg5 harg5 Y5 hI.h5
  have k6 := row_at i ht arg6 harg6 Y6 hI.h6
  have k7 := row_at i ht arg7 harg7 Y7 hI.h7
  unfold ran groups
  generalize harg1.unread Y1 = X1 at *
  generalize harg2.unread Y2 = X2 at *
  generalize harg3.unread Y3 = X3 at *
  generalize harg4.unread Y4 = X4 at *
  generalize harg8.unread Y8 = X8 at *
  generalize rowAt i arg5 (harg5.unread Y5) = R5 at *
  generalize rowAt i arg6 (harg6.unread Y6) = R6 at *
  generalize rowAt i arg7 (harg7.unread Y7) = R7 at *
  have hS : (start i arg9 arg10 arg15 arg16 arg17 arg18 arg19 arg20 arg21 ⟨(harg9.unread Y9), (harg10.unread Y10), (harg15.unread Y15), (harg16.unread Y16), (harg17.unread Y17), (harg18.unread Y18), (harg19.unread Y19), (harg20.unread Y20), (harg21.unread Y21)⟩).Holds
      arg9 arg10 arg15 arg16 arg17 arg18 arg19 arg20 arg21 A9 A10 A18 (if cond0_0 i then fun _ => 0 else A19) (if cond0_0 i then fun _ => 0 else A20) (if cond0_0 i then fun _ => 0 else A21) := by
    refine ⟨i9, i10, i18, ?_, ?_, ?_⟩
    · unfold start
      by_cases h : cond0_0 i
      · simp only [if_pos h]; exact isArr_writes_whole _ [] _ arr_pay55
      · simp only [if_neg h]; rw [harg19.read_unread]; exact i19 h
    · unfold start
      by_cases h : cond0_0 i
      · simp only [if_pos h]; exact isArr_writes_whole _ [] _ arr_pay55
      · simp only [if_neg h]; rw [harg20.read_unread]; exact i20 h
    · unfold start
      by_cases h : cond0_0 i
      · simp only [if_pos h]; exact isArr_writes_whole _ [] _ arr_pay55
      · simp only [if_neg h]; rw [harg21.read_unread]; exact i21 h
  have g0 := grp_vals geo0 arg1 arg2 arg3 arg4 arg8 arg9 arg10 arg15 arg16 arg17 arg18 arg19 arg20 arg21 (D.shift (128 * t)) 0 at0 k1 k2 k3 k4 k8
    inb_S128x128_S32x128_0_0 rfl (arr_pay62 k5) (arr_pay62 k6) (arr_pay62 k7) _ hS
  have g1 := grp_vals geo1 arg1 arg2 arg3 arg4 arg8 arg9 arg10 arg15 arg16 arg17 arg18 arg19 arg20 arg21 (D.shift (128 * t)) 32 at1 k1 k2 k3 k4 k8
    inb_S128x128_S32x128_32_0 rfl (arr_pay81 (arr_pay58 k5)) (arr_pay81 (arr_pay58 k6)) (arr_pay81 (arr_pay58 k7)) _ g0
  have g2 := grp_vals geo2 arg1 arg2 arg3 arg4 arg8 arg9 arg10 arg15 arg16 arg17 arg18 arg19 arg20 arg21 (D.shift (128 * t)) 64 at2 k1 k2 k3 k4 k8
    inb_S128x128_S32x128_64_0 rfl (arr_pay99 (arr_pay58 k5)) (arr_pay99 (arr_pay58 k6)) (arr_pay99 (arr_pay58 k7)) _ g1
  have g3 := grp_vals geo3 arg1 arg2 arg3 arg4 arg8 arg9 arg10 arg15 arg16 arg17 arg18 arg19 arg20 arg21 (D.shift (128 * t)) 96 at3 k1 k2 k3 k4 k8
    inb_S128x128_S32x128_96_0 rfl (arr_pay118 (arr_pay58 k5)) (arr_pay118 (arr_pay58 k6)) (arr_pay118 (arr_pay58 k7)) _ g2
  refine ⟨g3.i9.congr fun a b ha _ => four_rows _ _ a b ha, g3.i10.congr fun a b ha _ => four_rows _ _ a b ha, g3.i18.congr fun a b ha _ => four_rows _ _ a b ha, ?_, ?_, ?_⟩
  · exact g3.i19
  · exact g3.i20
  · exact g3.i21

/-- A row of the scales written. -/
theorem scaleRow_vals {t : ℕ} (ht : (i 0).val = t) (X18 : Con Ideal arg18) {f : ℕ → EReal} (h18 : IsArr (β := EReal) (arg18.view.read (Elt Ideal) X18) (fun p => f p.1))
    {A11 : Arr EReal} (i11 : IsArr (β := EReal) Y11 A11) :
    IsArr (β := EReal) (arg11.view.read (Elt Ideal) (scaleRow i arg11 arg18 (harg11.unread Y11) X18)) (fun p => if p.1 = t then f p.2 else A11 p) := by
  have h' : IsArr (β := EReal) (arg11.view.read (Elt Ideal) (harg11.unread Y11)) A11 := by rw [harg11.read_unread]; exact i11
  have l := isArr_load (h := 128) (w := 128) h18 (o := (0, 0)) rfl inb_S128x128_S128x128_0_0
  unfold scaleRow
  refine (isArr_writes_cons (L := []) h' (o := (t, 0)) (h := 1) (w := 128) (by rw [k0_off1_eq, ht]) (k0_off1_inb i) (arr_pay3 l)).congr fun a b ha hb => ?_
  by_cases h : a = t
  · rw [storeAt_hit (p := (a, b)) ⟨by simp only []; omega, trivial⟩]
    simp only [loadAt, if_pos h, Nat.zero_add, Nat.sub_zero]
  · rw [storeAt_miss (p := (a, b)) fun x => h (by have := x.1; simp only [] at this; omega)]
    simp only [if_neg h]

/-- The sums written at the last grid point. -/
theorem sum_vals (arg12 : Memref sig .tc .vmem S1x8192 .f32) (arg19 : Memref sig .tc .vmem S8x8192 .f32) (X12 : Con Ideal arg12) (X19 : Con Ideal arg19) {A : Arr EReal} (h : IsArr (β := EReal) (arg19.view.read (Elt Ideal) X19) A) :
    IsArr (β := EReal) (arg12.view.read (Elt Ideal) (arg12.view.writes (Elt Ideal) X12 [⟨Rect.unit (s := S1x8192) ![0, 0] S1x8192.size inb_S1x8192_S1x8192_0_0,
      k0_pay4 (View.readAt (Elt Ideal) arg19.view (Rect.unit (s := S8x8192) ![0, 0] S8x8192.size inb_S8x8192_S8x8192_0_0).toLoadRect X19)⟩])) (fun p => ∑ s : Fin 8, A (s.val, p.2)) := by
  have l := isArr_load (h := 8) (w := 8192) h (o := (0, 0)) rfl inb_S8x8192_S8x8192_0_0
  refine (isArr_writes_whole X12 [] inb_S1x8192_S1x8192_0_0 (arr_pay4 l)).congr fun a b _ _ => ?_
  simp only [loadAt, Nat.zero_add]

end Cert.KernelIdeal.Hand

end
-- ==== Proof.Entry.lean ====
/- What the kernel's input windows hold, read off the argument arrays. -/
module

public import proofs.«01_k».proof.Proof.Args
public import proofs.«01_k».proof.Proof.Point
public import Idealize.ShloMosaic.Lib.Pipeline.Value

@[expose] public section

set_option maxRecDepth 65536

noncomputable section

namespace Cert.KernelIdeal.Hand

open Idealize.ShloMosaic Idealize.ShloMosaic.TcCoe Cert.KernelIdeal Cert.KernelIdeal.Gen Cert.LnBwd
open Idealize.ShloMosaic.Updates (Arr IsArr)

variable (m : (ℓ : Loc nD τ sig) → Buf (Elt Ideal) ℓ)

/-- The data of the arguments. -/
def data (c : Dev nD) : Data :=
  Data.of (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem cast_rows {α : Type} (z : α) {M : ℕ} (x : (⟨3, ![1, 2048, M]⟩ : Shape).Idx → α) (h : (⟨3, ![1, 2048, M]⟩ : Shape).ShapeCasts ⟨2, ![2048, M]⟩) :
    IsArr (shapeCast ⟨2, ![2048, M]⟩ x h) (fun p => el3 z x p.1 p.2) := fun j => by
  refine (shapeCast_apply x h j (ix3 (0 : Fin 1) (j 0) (j 1)) ?_).trans (el3_mk z x (j 0).isLt (j 1).isLt _ rfl rfl)
  rw [Shape.rowMajor_val_three, Shape.rowMajor_val_two]
  simp

theorem cast_row (x : (⟨2, ![1, 2048]⟩ : Shape).Idx → EReal) (h : (⟨2, ![1, 2048]⟩ : Shape).ShapeCasts ⟨2, ![16, 128]⟩) :
    IsArr (shapeCast ⟨2, ![16, 128]⟩ x h) (fun p => el2 x (128 * p.1 + p.2)) := fun j => by
  have h0 : (j 0).val < 16 := (j 0).isLt
  have h1 : (j 1).val < 128 := (j 1).isLt
  refine (shapeCast_apply x h j (ix2 (0 : Fin 1) ⟨128 * (j 0).val + (j 1).val, by omega⟩) ?_).trans (el2_mk x (by omega) _ rfl)
  rw [Shape.rowMajor_val_two, Shape.rowMajor_val_two]
  simp
  omega

theorem cast_vec (x : (⟨1, ![8192]⟩ : Shape).Idx → EReal) (h : (⟨1, ![8192]⟩ : Shape).ShapeCasts ⟨2, ![1, 8192]⟩) :
    IsArr (shapeCast ⟨2, ![1, 8192]⟩ x h) (fun p => el1 x p.2) := fun j => by
  have h0 : (j 0).val < 1 := (j 0).isLt
  refine (shapeCast_apply x h j (ix1 (j 1)) ?_).trans (el1_mk x (j 1).isLt _ rfl)
  rw [Shape.rowMajor_val_one, Shape.rowMajor_val_two]
  simp
  omega

theorem V0 (c : Dev nD) : V m c main_v0 = shapeCast S2048x8192 (m ((c : Thread nD τ).loc main_arg0)) shapeCasts_S1x2048x8192_S2048x8192 := by
  show StableHlo.after hostOps0 _ (Proc.devRef .tc main_v0) = _
  after_results
  rfl
theorem V1 (c : Dev nD) : V m c main_v1 = shapeCast S2048x8192 (m ((c : Thread nD τ).loc main_arg2)) shapeCasts_S1x2048x8192_S2048x8192 := by
  show StableHlo.after hostOps0 _ (Proc.devRef .tc main_v1) = _
  after_results
  rfl
theorem V2 (c : Dev nD) : V m c main_v2 = shapeCast S2048x1024 (m ((c : Thread nD τ).loc main_arg3)) shapeCasts_S1x2048x1024_S2048x1024 := by
  show StableHlo.after hostOps0 _ (Proc.devRef .tc main_v2) = _
  after_results
  rfl
theorem V3 (c : Dev nD) : V m c main_v3 = shapeCast S2048x8192 (m ((c : Thread nD τ).loc main_arg4)) shapeCasts_S1x2048x8192_S2048x8192 := by
  show StableHlo.after hostOps0 _ (Proc.devRef .tc main_v3) = _
  after_results
  rfl
theorem V4 (c : Dev nD) : V m c main_v4 = shapeCast S16x128 (m ((c : Thread nD τ).loc main_arg1)) shapeCasts_S1x2048_S16x128 := by
  show StableHlo.after hostOps0 _ (Proc.devRef .tc main_v4) = _
  after_results
  rfl
theorem V5 (c : Dev nD) : V m c main_v5 = shapeCast S16x128 (m ((c : Thread nD τ).loc main_arg5)) shapeCasts_S1x2048_S16x128 := by
  show StableHlo.after hostOps0 _ (Proc.devRef .tc main_v5) = _
  after_results
  rfl
theorem V6 (c : Dev nD) : V m c main_v6 = shapeCast S16x128 (m ((c : Thread nD τ).loc main_arg6)) shapeCasts_S1x2048_S16x128 := by
  show StableHlo.after hostOps0 _ (Proc.devRef .tc main_v6) = _
  after_results
  rfl
theorem V7 (c : Dev nD) : V m c main_v7 = shapeCast S1x8192 (m ((c : Thread nD τ).loc main_arg7)) shapeCasts_S8192_S1x8192 := by
  show StableHlo.after hostOps0 _ (Proc.devRef .tc main_v7) = _
  after_results
  rfl

theorem idx0 : ∀ t : Fin cfg0.N, win0_0.index t 0 = t.val ∧ win0_0.index t 1 = 0 := (by decide +kernel : ∀ t : Fin grid0.N, win0_0.index t 0 = t.val ∧ win0_0.index t 1 = 0)
theorem idx1 : ∀ t : Fin cfg0.N, win0_1.index t 0 = t.val ∧ win0_1.index t 1 = 0 := (by decide +kernel : ∀ t : Fin grid0.N, win0_1.index t 0 = t.val ∧ win0_1.index t 1 = 0)
theorem idx2 : ∀ t : Fin cfg0.N, win0_2.index t 0 = t.val ∧ win0_2.index t 1 = 0 := (by decide +kernel : ∀ t : Fin grid0.N, win0_2.index t 0 = t.val ∧ win0_2.index t 1 = 0)
theorem idx3 : ∀ t : Fin cfg0.N, win0_3.index t 0 = t.val ∧ win0_3.index t 1 = 0 := (by decide +kernel : ∀ t : Fin grid0.N, win0_3.index t 0 = t.val ∧ win0_3.index t 1 = 0)
theorem idx4 : ∀ t : Fin cfg0.N, win0_4.index t 0 = 0 ∧ win0_4.index t 1 = 0 := (by decide +kernel : ∀ t : Fin grid0.N, win0_4.index t 0 = 0 ∧ win0_4.index t 1 = 0)
theorem idx5 : ∀ t : Fin cfg0.N, win0_5.index t 0 = 0 ∧ win0_5.index t 1 = 0 := (by decide +kernel : ∀ t : Fin grid0.N, win0_5.index t 0 = 0 ∧ win0_5.index t 1 = 0)
theorem idx6 : ∀ t : Fin cfg0.N, win0_6.index t 0 = 0 ∧ win0_6.index t 1 = 0 := (by decide +kernel : ∀ t : Fin grid0.N, win0_6.index t 0 = 0 ∧ win0_6.index t 1 = 0)
theorem idx7 : ∀ t : Fin cfg0.N, win0_7.index t 0 = 0 ∧ win0_7.index t 1 = 0 := (by decide +kernel : ∀ t : Fin grid0.N, win0_7.index t 0 = 0 ∧ win0_7.index t 1 = 0)

theorem blk0 (c : Dev nD) (t : Fin cfg0.N) : IsArr (β := EReal) (R := 128) (C := 8192) (iblk m c 0 t) (fun p => (data m c).d (128 * t.val + p.1) p.2) := fun j => by
  unfold iblk
  rw [View.read_apply]
  show V m c main_v0 _ = _
  rw [V0]
  refine (cast_rows (α := EReal) 0 _ _ _).trans ?_
  show el3 (α := EReal) 0 _ (win0_0.index t 0 * 128 + 1 * (j 0).val) (win0_0.index t 1 * 8192 + 1 * (j 1).val) = el3 (α := EReal) 0 _ (128 * t.val + (j 0).val) (j 1).val
  rw [(idx0 t).1, (idx0 t).2]
  congr 1 <;> omega
theorem blk1 (c : Dev nD) (t : Fin cfg0.N) : IsArr (β := EReal) (R := 128) (C := 8192) (iblk m c 1 t) (fun p => (data m c).res (128 * t.val + p.1) p.2) := fun j => by
  unfold iblk
  rw [View.read_apply]
  show V m c main_v1 _ = _
  rw [V1]
  refine (cast_rows (α := EReal) 0 _ _ _).trans ?_
  show el3 (α := EReal) 0 _ (win0_1.index t 0 * 128 + 1 * (j 0).val) (win0_1.index t 1 * 8192 + 1 * (j 1).val) = el3 (α := EReal) 0 _ (128 * t.val + (j 0).val) (j 1).val
  rw [(idx1 t).1, (idx1 t).2]
  congr 1 <;> omega
theorem blk2 (c : Dev nD) (t : Fin cfg0.N) : IsArr (β := BitVec 8) (R := 128) (C := 1024) (iblk m c 2 t) (fun p => (data m c).msk (128 * t.val + p.1) p.2) := fun j => by
  unfold iblk
  rw [View.read_apply]
  show V m c main_v2 _ = _
  rw [V2]
  refine (cast_rows 0#8 _ _ _).trans ?_
  show el3 0#8 _ (win0_2.index t 0 * 128 + 1 * (j 0).val) (win0_2.index t 1 * 1024 + 1 * (j 1).val) = el3 0#8 _ (128 * t.val + (j 0).val) (j 1).val
  rw [(idx2 t).1, (idx2 t).2]
  congr 1 <;> omega
theorem blk3 (c : Dev nD) (t : Fin cfg0.N) : IsArr (β := EReal) (R := 128) (C := 8192) (iblk m c 3 t) (fun p => (data m c).h (128 * t.val + p.1) p.2) := fun j => by
  unfold iblk
  rw [View.read_apply]
  show V m c main_v3 _ = _
  rw [V3]
  refine (cast_rows (α := EReal) 0 _ _ _).trans ?_
  show el3 (α := EReal) 0 _ (win0_3.index t 0 * 128 + 1 * (j 0).val) (win0_3.index t 1 * 8192 + 1 * (j 1).val) = el3 (α := EReal) 0 _ (128 * t.val + (j 0).val) (j 1).val
  rw [(idx3 t).1, (idx3 t).2]
  congr 1 <;> omega
theorem blk4 (c : Dev nD) (t : Fin cfg0.N) : IsArr (β := EReal) (R := 16) (C := 128) (iblk m c 4 t) (fun p => (data m c).s (128 * p.1 + p.2)) := fun j => by
  unfold iblk
  rw [View.read_apply]
  show V m c main_v4 _ = _
  rw [V4]
  refine (cast_row _ _ _).trans ?_
  show el2 _ (128 * (win0_4.index t 0 * 16 + 1 * (j 0).val) + (win0_4.index t 1 * 128 + 1 * (j 1).val)) = el2 _ (128 * (j 0).val + (j 1).val)
  rw [(idx4 t).1, (idx4 t).2]
  congr 1; omega
theorem blk5 (c : Dev nD) (t : Fin cfg0.N) : IsArr (β := EReal) (R := 16) (C := 128) (iblk m c 5 t) (fun p => (data m c).m (128 * p.1 + p.2)) := fun j => by
  unfold iblk
  rw [View.read_apply]
  show V m c main_v5 _ = _
  rw [V5]
  refine (cast_row _ _ _).trans ?_
  show el2 _ (128 * (win0_5.index t 0 * 16 + 1 * (j 0).val) + (win0_5.index t 1 * 128 + 1 * (j 1).val)) = el2 _ (128 * (j 0).val + (j 1).val)
  rw [(idx5 t).1, (idx5 t).2]
  congr 1; omega
theorem blk6 (c : Dev nD) (t : Fin cfg0.N) : IsArr (β := EReal) (R := 16) (C := 128) (iblk m c 6 t) (fun p => (data m c).r (128 * p.1 + p.2)) := fun j => by
  unfold iblk
  rw [View.read_apply]
  show V m c main_v6 _ = _
  rw [V6]
  refine (cast_row _ _ _).trans ?_
  show el2 _ (128 * (win0_6.index t 0 * 16 + 1 * (j 0).val) + (win0_6.index t 1 * 128 + 1 * (j 1).val)) = el2 _ (128 * (j 0).val + (j 1).val)
  rw [(idx6 t).1, (idx6 t).2]
  congr 1; omega
theorem blk7 (c : Dev nD) (t : Fin cfg0.N) : IsArr (β := EReal) (R := 1) (C := 8192) (iblk m c 7 t) (fun p => (data m c).w p.2) := fun j => by
  unfold iblk
  rw [View.read_apply]
  show V m c main_v7 _ = _
  rw [V7]
  refine (cast_vec _ _ _).trans ?_
  show el1 _ (win0_7.index t 1 * 8192 + 1 * (j 1).val) = el1 _ (j 1).val
  rw [(idx7 t).2]
  congr 1; omega

/-- The input blocks of a grid point. -/
theorem inputs (c : Dev nD) (t : Fin cfg0.N) :
    Inputs (iblk m c 0 t) (iblk m c 1 t) (iblk m c 2 t) (iblk m c 3 t) (iblk m c 4 t) (iblk m c 5 t) (iblk m c 6 t) (iblk m c 7 t) (data m c) t.val :=
  ⟨blk0 m c t, blk1 m c t, blk2 m c t, blk3 m c t, blk4 m c t, blk5 m c t, blk6 m c t, blk7 m c t⟩

end Cert.KernelIdeal.Hand

end
-- ==== Proof.Run.lean ====
/- The kernel's run: what the launch leaves in its outputs. -/
module

public import proofs.«01_k».proof.Proof.Entry
public import proofs.«01_k».proof.Proof.Quiet
public import Idealize.ShloMosaic.Lib.Pipeline.ArrRel
public import Idealize.ShloMosaic.Lib.Pipeline.ValueKit

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Cert.LnBwd
open Idealize.ShloMosaic.Updates (Arr IsArr)

local notation "𝕄" => MT nD τ sig Unit (Elt Ideal) ℕ (UR sig nD τ) ℕ

/-- The partial sums after grid point `t`. -/
def tot (f : ℕ → ℕ → EReal) : ℕ → Arr EReal
  | 0 => step (fun R c => f (128 * 0 + R) c) fun _ => 0
  | t + 1 => step (fun R c => f (128 * (t + 1) + R) c) (tot f t)

theorem tot_step (f : ℕ → ℕ → EReal) (t : ℕ) {p : Prop} [Decidable p] (hp : p ↔ t = 0) :
    step (fun R c => f (128 * t + R) c) (if p then fun _ => 0 else tot f (t - 1)) = tot f t := by
  cases t with
  | zero => rw [if_pos (hp.mpr rfl)]; rfl
  | succ t => rw [if_neg fun h => Nat.succ_ne_zero _ (hp.mp h)]; rfl

theorem tot_apply (f : ℕ → ℕ → EReal) (s c : ℕ) : ∀ t : ℕ, tot f t (s, c) = ∑ k ∈ Finset.range (16 * (t + 1)), f (k * 8 + s) c := by
  have key : ∀ (t : ℕ) (A : Arr EReal), step (fun R c => f (128 * t + R) c) A (s, c) = A (s, c) + ∑ k ∈ Finset.range 16, f ((16 * t + k) * 8 + s) c := by
    intro t A
    have e : ∀ a k : ℕ, a + s = 8 * k + s → f (128 * t + (a + s)) c = f ((16 * t + k) * 8 + s) c := fun a k h => by congr 1; omega
    unfold step fold4
    simp only [Finset.sum_range_succ, Finset.sum_range_zero, zero_add, add_assoc]
    have n : ∀ a k : ℕ, a = 8 * k → 128 * t + (a + s) = (16 * t + k) * 8 + s := fun a k h => by omega
    rw [show 128 * t + s = (16 * t + 0) * 8 + s by omega, n 8 1 rfl, n 16 2 rfl, n 24 3 rfl, n 32 4 rfl, n 64 8 rfl, n 96 12 rfl,
      show 128 * t + (32 + (8 + s)) = (16 * t + 5) * 8 + s by omega, show 128 * t + (32 + (16 + s)) = (16 * t + 6) * 8 + s by omega,
      show 128 * t + (32 + (24 + s)) = (16 * t + 7) * 8 + s by omega, show 128 * t + (64 + (8 + s)) = (16 * t + 9) * 8 + s by omega,
      show 128 * t + (64 + (16 + s)) = (16 * t + 10) * 8 + s by omega, show 128 * t + (64 + (24 + s)) = (16 * t + 11) * 8 + s by omega,
      show 128 * t + (96 + (8 + s)) = (16 * t + 13) * 8 + s by omega, show 128 * t + (96 + (16 + s)) = (16 * t + 14) * 8 + s by omega,
      show 128 * t + (96 + (24 + s)) = (16 * t + 15) * 8 + s by omega]
  intro t
  induction t with
  | zero =>
    refine (key 0 _).trans ?_
    simp only [Nat.mul_zero, Nat.zero_add, zero_add, Nat.mul_one]
  | succ t ih =>
    refine (key (t + 1) _).trans ?_
    rw [ih, show 16 * (t + 1 + 1) = 16 * (t + 1) + 16 by omega, Finset.sum_range_add]

/-- The eight partial sums together are the sum over the rows. -/
theorem tot_sum (f : ℕ → ℕ → EReal) (c : ℕ) : (∑ s : Fin 8, tot f 15 (s.val, c)) = ∑ R ∈ Finset.range 2048, f R c := by
  rw [Fin.sum_univ_eq_sum_range (fun s => tot f 15 (s, c)) 8]
  simp only [tot_apply]
  rw [Finset.sum_comm, ← Finset.sum_range_mul_split 256 8 fun R => f R c]

variable (m : (ℓ : Loc nD τ sig) → Buf (Elt Ideal) ℓ) (ρ : Dev nD → PrngReg)

/-- What the body leaves in a window's buffer: its inputs as found; its rows of the two row-by-row outputs; the scales with its own row
    written; at the last point, the three sums. -/
def valAfter (c : Dev nD) (t : Fin cfg0.N) : (w : Fin 14) → (Y X : Vec Ideal (cfg0.win w).block (cfg0.win w).elt) → Prop
  | 0, Y, X => X = Y
  | 1, Y, X => X = Y
  | 2, Y, X => X = Y
  | 3, Y, X => X = Y
  | 4, Y, X => X = Y
  | 5, Y, X => X = Y
  | 6, Y, X => X = Y
  | 7, Y, X => X = Y
  | 8, _, X => IsArr (β := EReal) (R := 128) (C := 8192) X fun p => (data m c).dh (128 * t.val + p.1) p.2
  | 9, _, X => IsArr (β := EReal) (R := 128) (C := 8192) X fun p => (data m c).code (128 * t.val + p.1) p.2
  | 10, Y, X => ∀ A : Arr EReal, IsArr (β := EReal) (R := 16) (C := 128) Y A → IsArr (β := EReal) (R := 16) (C := 128) X fun p => if p.1 = t.val then (data m c).scale (128 * t.val + p.2) else A p
  | 11, _, X => t.val = 15 → IsArr (β := EReal) (R := 1) (C := 8192) X fun p => ∑ s : Fin 8, tot (data m c).pr 15 (s.val, p.2)
  | 12, _, X => t.val = 15 → IsArr (β := EReal) (R := 1) (C := 8192) X fun p => ∑ s : Fin 8, tot (data m c).dy 15 (s.val, p.2)
  | 13, _, X => t.val = 15 → IsArr (β := EReal) (R := 1) (C := 8192) X fun p => ∑ s : Fin 8, tot (data m c).da 15 (s.val, p.2)

/-- What is held between grid points: the scratch, its partial sums those of the points before, and the random register. -/
def held (c : Dev nD) (n : ℕ) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, ⌜0 < n → IsArr (β := EReal) (R := 8) (C := 8192) d (tot (data m c).pr (n - 1))⌝ ∗ owns (c : Thread nD τ) scM0_4 fullShare d) ∗ (∃ d, ⌜0 < n → IsArr (β := EReal) (R := 8) (C := 8192) d (tot (data m c).dy (n - 1))⌝ ∗ owns (c : Thread nD τ) scM0_5 fullShare d) ∗ (∃ d, ⌜0 < n → IsArr (β := EReal) (R := 8) (C := 8192) d (tot (data m c).da (n - 1))⌝ ∗ owns (c : Thread nD τ) scM0_6 fullShare d)) ∗ (∃ r, prngReg c r))

/-- The pipeline's data for the values. -/
def val (c : Dev nD) : Pipeline.RDat τ (Elt Ideal) Unit ℕ (UR sig nD τ) ℕ cfg0 c where
  A w := V m c (Pipeline.arrRef spec0 w)
  after w t Y X := valAfter m c t w Y X
  Φ t := held m c t.val
  q _ := fullShare
  owed _ := 0

/-- A resource beside a fact. -/
theorem withFact {P : Prop} (h : P) (R : sProp 𝕄) : R ⊢ iprop(⌜P⌝ ∗ R) := by
  iintro H
  isplitr; · ipureintro; exact h
  iexact H

/-- A sums' output at the last point. -/
theorem sum_out (i : grid0.Coords) {arg12 : Memref sig .tc .vmem S1x8192 .f32} (X12 : Con Ideal arg12) {arg19 : Memref sig .tc .vmem S8x8192 .f32} (X19 : Con Ideal arg19) {A : Arr EReal}
    (h : IsArr (β := EReal) (arg19.view.read (Elt Ideal) X19) A) (hc : cond0_1 i) :
    IsArr (β := EReal) (arg12.view.read (Elt Ideal) (if cond0_1 i then arg12.view.writes (Elt Ideal) X12 [⟨Rect.unit (s := S1x8192) ![0, 0] S1x8192.size inb_S1x8192_S1x8192_0_0,
      k0_pay4 (View.readAt (Elt Ideal) arg19.view (Rect.unit (s := S8x8192) ![0, 0] S8x8192.size inb_S8x8192_S8x8192_0_0).toLoadRect X19)⟩] else X12)) (fun p => ∑ s : Fin 8, A (s.val, p.2)) := by
  rw [if_pos hc]
  exact sum_vals arg12 arg19 X12 X19 h

set_option maxHeartbeats 4000000 in
/-- The body at a grid point, with its values. -/
theorem val_body (c : Dev nD) (t : Fin cfg0.N) (Y0 : Vec Ideal (cfg0.win 0).block (cfg0.win 0).elt) (Y1 : Vec Ideal (cfg0.win 1).block (cfg0.win 1).elt) (Y2 : Vec Ideal (cfg0.win 2).block (cfg0.win 2).elt) (Y3 : Vec Ideal (cfg0.win 3).block (cfg0.win 3).elt) (Y4 : Vec Ideal (cfg0.win 4).block (cfg0.win 4).elt) (Y5 : Vec Ideal (cfg0.win 5).block (cfg0.win 5).elt) (Y6 : Vec Ideal (cfg0.win 6).block (cfg0.win 6).elt) (Y7 : Vec Ideal (cfg0.win 7).block (cfg0.win 7).elt) (Y8 : Vec Ideal (cfg0.win 8).block (cfg0.win 8).elt) (Y9 : Vec Ideal (cfg0.win 9).block (cfg0.win 9).elt) (Y10 : Vec Ideal (cfg0.win 10).block (cfg0.win 10).elt) (Y11 : Vec Ideal (cfg0.win 11).block (cfg0.win 11).elt) (Y12 : Vec Ideal (cfg0.win 12).block (cfg0.win 12).elt) (Y13 : Vec Ideal (cfg0.win 13).block (cfg0.win 13).elt)
    (hI : Inputs Y0 Y1 Y2 Y3 Y4 Y5 Y6 Y7 (data m c) t.val) :
    (iprop(held m c t.val ∗ (val m c).owesAt () t.castSucc
      ∗ owns (c : Thread nD τ) (ms0_0 t) fullShare Y0 ∗ owns (c : Thread nD τ) (ms0_1 t) fullShare Y1 ∗ owns (c : Thread nD τ) (ms0_2 t) fullShare Y2 ∗ owns (c : Thread nD τ) (ms0_3 t) fullShare Y3 ∗ owns (c : Thread nD τ) (ms0_4 t) fullShare Y4 ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13) : sProp 𝕄)
    ⊢ wp frame (wpE (defs₀ (F := Ideal)) Variants.none c none) Set.univ (bodyAt0 t) (fun _ => iprop(held m c (t.val + 1) ∗ (val m c).owesAt () t.succ
      ∗ (∃ X, ⌜valAfter m c t 0 Y0 X⌝ ∗ owns (c : Thread nD τ) (ms0_0 t) fullShare X) ∗ (∃ X, ⌜valAfter m c t 1 Y1 X⌝ ∗ owns (c : Thread nD τ) (ms0_1 t) fullShare X) ∗ (∃ X, ⌜valAfter m c t 2 Y2 X⌝ ∗ owns (c : Thread nD τ) (ms0_2 t) fullShare X) ∗ (∃ X, ⌜valAfter m c t 3 Y3 X⌝ ∗ owns (c : Thread nD τ) (ms0_3 t) fullShare X) ∗ (∃ X, ⌜valAfter m c t 4 Y4 X⌝ ∗ owns (c : Thread nD τ) (ms0_4 t) fullShare X) ∗ (∃ X, ⌜valAfter m c t 5 Y5 X⌝ ∗ owns (c : Thread nD τ) (ms0_5 t) fullShare X) ∗ (∃ X, ⌜valAfter m c t 6 Y6 X⌝ ∗ owns (c : Thread nD τ) (ms0_6 t) fullShare X) ∗ (∃ X, ⌜valAfter m c t 7 Y7 X⌝ ∗ owns (c : Thread nD τ) (ms0_7 t) fullShare X) ∗ (∃ X, ⌜valAfter m c t 8 Y8 X⌝ ∗ owns (c : Thread nD τ) (ms0_8 t) fullShare X) ∗ (∃ X, ⌜valAfter m c t 9 Y9 X⌝ ∗ owns (c : Thread nD τ) (ms0_9 t) fullShare X) ∗ (∃ X, ⌜valAfter m c t 10 Y10 X⌝ ∗ owns (c : Thread nD τ) (ms0_10 t) fullShare X) ∗ (∃ X, ⌜valAfter m c t 11 Y11 X⌝ ∗ owns (c : Thread nD τ) (ms0_11 t) fullShare X) ∗ (∃ X, ⌜valAfter m c t 12 Y12 X⌝ ∗ owns (c : Thread nD τ) (ms0_12 t) fullShare X) ∗ (∃ X, ⌜valAfter m c t 13 Y13 X⌝ ∗ owns (c : Thread nD τ) (ms0_13 t) fullShare X))) := by
  have ht16 : t.val < 16 := Nat.lt_of_lt_of_eq t.isLt N_0
  have hc0 : cond0_0 (grid0.coords t) ↔ t.val = 0 := (hcond0_0 t).trans (by omega)
  have hi : (grid0.coords t 0).val = t.val := by
    have e0 : (grid0.coords t 0).val = t.val / 1 % 16 := Pipeline.Grid.coords_val t 0 (by decide) rfl
    omega
  rw [show (val m c).owesAt () t.succ = (val m c).owesAt () t.castSucc from rfl]
  unfold bodyAt0 held
  iintro ⟨⟨⟨⟨%Z0, S0⟩, ⟨%Z1, S1⟩, ⟨%Z2, S2⟩, ⟨%Z3, S3⟩, ⟨%Z4, %hZ4, S4⟩, ⟨%Z5, %hZ5, S5⟩, ⟨%Z6, %hZ6, S6⟩⟩, Hg⟩, Ho, H0, H1, H2, H3, H4, H5, H6, H7, H8, H9, H10, H11, H12, H13⟩
  have hv := ran_vals (grid0.coords t) _ (hs0_0 t) _ (hs0_1 t) _ (hs0_2 t) _ (hs0_3 t) _ (hs0_4 t) _ (hs0_5 t) _ (hs0_6 t) _ (hs0_7 t) _ (hs0_8 t) _ (hs0_9 t) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) Y0 Y1 Y2 Y3 Y4 Y5 Y6 Y7 Y8 Y9 Z0 Z1 Z2 Z3 Z4 Z5 Z6 (data m c) t.val hi hI
    (A19 := tot (data m c).pr (t.val - 1)) (A20 := tot (data m c).dy (t.val - 1)) (A21 := tot (data m c).da (t.val - 1))
    (fun h => hZ4 (Nat.pos_of_ne_zero fun e => h (hc0.mpr e))) (fun h => hZ5 (Nat.pos_of_ne_zero fun e => h (hc0.mpr e))) (fun h => hZ6 (Nat.pos_of_ne_zero fun e => h (hc0.mpr e)))
  rw [tot_step _ _ hc0, tot_step _ _ hc0, tot_step _ _ hc0] at hv
  iapply (wp_wand_r frame (wpE (defs₀ (F := Ideal)) Variants.none (c : Thread nD τ) none) Set.univ)
  isplitl [H0 H1 H2 H3 H4 H5 H6 H7 H8 H9 H10 H11 H12 H13 S0 S1 S2 S3 S4 S5 S6]
  · iapply (body_owns (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) Y0 Y1 Y2 Y3 Y4 Y5 Y6 Y7 Y8 Y9 Y10 Y11 Y12 Y13 Z0 Z1 Z2 Z3 Z4 Z5 Z6 c Variants.none none Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S4]; · iexact S4
    isplitl [S5]; · iexact S5
    iexact S6
  · iintro %y ⟨H0, H1, H2, H3, H4, H5, H6, H7, H8, H9, H10, H11, H12, H13, S0, S1, S2, S3, S4, S5, S6⟩
    isplitl [S0 S1 S2 S3 S4 S5 S6 Hg]
    · isplitl [S0 S1 S2 S3 S4 S5 S6]
      · isplitl [S0]; · iexists _; iexact S0
        isplitl [S1]; · iexists _; iexact S1
        isplitl [S2]; · iexists _; iexact S2
        isplitl [S3]; · iexists _; iexact S3
        isplitl [S4]; · iexists _; iapply (withFact (fun _ => hv.i19) _); iexact S4
        isplitl [S5]; · iexists _; iapply (withFact (fun _ => hv.i20) _); iexact S5
        iexists _; iapply (withFact (fun _ => hv.i21) _); iexact S6
      · iexact Hg
    isplitl [Ho]; · iexact Ho
    isplitl [H0]; · iexists _; iapply (withFact (show valAfter m c t 0 Y0 Y0 from rfl) _); iexact H0
    isplitl [H1]; · iexists _; iapply (withFact (show valAfter m c t 1 Y1 Y1 from rfl) _); iexact H1
    isplitl [H2]; · iexists _; iapply (withFact (show valAfter m c t 2 Y2 Y2 from rfl) _); iexact H2
    isplitl [H3]; · iexists _; iapply (withFact (show valAfter m c t 3 Y3 Y3 from rfl) _); iexact H3
    isplitl [H4]; · iexists _; iapply (withFact (show valAfter m c t 4 Y4 Y4 from rfl) _); iexact H4
    isplitl [H5]; · iexists _; iapply (withFact (show valAfter m c t 5 Y5 Y5 from rfl) _); iexact H5
    isplitl [H6]; · iexists _; iapply (withFact (show valAfter m c t 6 Y6 Y6 from rfl) _); iexact H6
    isplitl [H7]; · iexists _; iapply (withFact (show valAfter m c t 7 Y7 Y7 from rfl) _); iexact H7
    isplitl [H8]; · iexists _; iapply (withFact (show valAfter m c t 8 Y8 _ from hv.i9) _); iexact H8
    isplitl [H9]; · iexists _; iapply (withFact (show valAfter m c t 9 Y9 _ from hv.i10) _); iexact H9
    isplitl [H10]; · iexists _; iapply (withFact (show valAfter m c t 10 Y10 _ from fun A hA => scaleRow_vals (i := grid0.coords t) (arg11 := ms0_10 t) (harg11 := hs0_10 t) (arg18 := scM0_3) (Y11 := Y10) hi _ (f := fun a => (data m c).scale (128 * t.val + a)) hv.i18 hA) _); iexact H10
    isplitl [H11]; · iexists _; iapply (withFact (show valAfter m c t 11 Y11 _ from fun h15 => h15 ▸ sum_out (grid0.coords t) _ _ hv.i19 ((hcond0_1 t).mpr (by omega))) _); iexact H11
    isplitl [H12]; · iexists _; iapply (withFact (show valAfter m c t 12 Y12 _ from fun h15 => h15 ▸ sum_out (grid0.coords t) _ _ hv.i20 ((hcond0_1 t).mpr (by omega))) _); iexact H12
    iexists _; iapply (withFact (show valAfter m c t 13 Y13 _ from fun h15 => h15 ▸ sum_out (grid0.coords t) _ _ hv.i21 ((hcond0_1 t).mpr (by omega))) _); iexact H13

end Cert.KernelIdeal.Hand

end
-- ==== Proof.Result.lean ====
/- The kernel's results: each output array, element by element. -/
module

public import proofs.«01_k».proof.Proof.Run

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Cert.LnBwd
open Idealize.ShloMosaic.Updates (Arr IsArr)

local notation "𝕄" => MT nD τ sig Unit (Elt Ideal) ℕ (UR sig nD τ) ℕ

variable (m : (ℓ : Loc nD τ sig) → Buf (Elt Ideal) ℓ) (ρ : Dev nD → PrngReg)

/-- The body's triple as the pipeline asks it: an input window holds its block wherever the body is handed it. -/
theorem val_obligation (c : Dev nD) : (val m c).BodyObligation (defs₀ (F := Ideal)) Variants.none () Set.univ := fun t Y hY => by
  have e0 : Y 0 = iblk m c 0 t := by
    obtain ⟨d, hd⟩ := (val m c).finds_in_eq_fetched 0 rfl (fun _ _ _ => rfl) (fun _ _ _ h => h) t (Y 0) (hY 0)
    exact hd.trans rfl
  have e1 : Y 1 = iblk m c 1 t := by
    obtain ⟨d, hd⟩ := (val m c).finds_in_eq_fetched 1 rfl (fun _ _ _ => rfl) (fun _ _ _ h => h) t (Y 1) (hY 1)
    exact hd.trans rfl
  have e2 : Y 2 = iblk m c 2 t := by
    obtain ⟨d, hd⟩ := (val m c).finds_in_eq_fetched 2 rfl (fun _ _ _ => rfl) (fun _ _ _ h => h) t (Y 2) (hY 2)
    exact hd.trans rfl
  have e3 : Y 3 = iblk m c 3 t := by
    obtain ⟨d, hd⟩ := (val m c).finds_in_eq_fetched 3 rfl (fun _ _ _ => rfl) (fun _ _ _ h => h) t (Y 3) (hY 3)
    exact hd.trans rfl
  have e4 : Y 4 = iblk m c 4 t := by
    obtain ⟨d, hd⟩ := (val m c).finds_in_eq_fetched 4 rfl (fun _ _ _ => rfl) (fun _ _ _ h => h) t (Y 4) (hY 4)
    exact hd.trans rfl
  have e5 : Y 5 = iblk m c 5 t := by
    obtain ⟨d, hd⟩ := (val m c).finds_in_eq_fetched 5 rfl (fun _ _ _ => rfl) (fun _ _ _ h => h) t (Y 5) (hY 5)
    exact hd.trans rfl
  have e6 : Y 6 = iblk m c 6 t := by
    obtain ⟨d, hd⟩ := (val m c).finds_in_eq_fetched 6 rfl (fun _ _ _ => rfl) (fun _ _ _ h => h) t (Y 6) (hY 6)
    exact hd.trans rfl
  have e7 : Y 7 = iblk m c 7 t := by
    obtain ⟨d, hd⟩ := (val m c).finds_in_eq_fetched 7 rfl (fun _ _ _ => rfl) (fun _ _ _ h => h) t (Y 7) (hY 7)
    exact hd.trans rfl
  have hI : Inputs (Y 0) (Y 1) (Y 2) (Y 3) (Y 4) (Y 5) (Y 6) (Y 7) (data m c) t.val := by
    rw [e0, e1, e2, e3, e4, e5, e6, e7]; exact inputs m c t
  rw [bigSep_W0, bigSep_W0, defs₀_row]
  exact triple_restated (val_body m c t (Y 0) (Y 1) (Y 2) (Y 3) (Y 4) (Y 5) (Y 6) (Y 7) (Y 8) (Y 9) (Y 10) (Y 11) (Y 12) (Y 13) hI) rfl .rfl fun _ => .rfl

theorem held_in (c : Dev nD) : (Pipeline.ΦA spec0 c : sProp 𝕄) ⊢ held m c 0 := by
  rw [PhiA0_eq]
  unfold held
  iintro ⟨⟨S0, S1, S2, S3, ⟨%Z4, S4⟩, ⟨%Z5, S5⟩, ⟨%Z6, S6⟩⟩, Hg⟩
  isplitl [S0 S1 S2 S3 S4 S5 S6]
  · isplitl [S0]; · iexact S0
    isplitl [S1]; · iexact S1
    isplitl [S2]; · iexact S2
    isplitl [S3]; · iexact S3
    isplitl [S4]; · iexists _; iapply (withFact (fun h => absurd h (Nat.lt_irrefl 0)) _); iexact S4
    isplitl [S5]; · iexists _; iapply (withFact (fun h => absurd h (Nat.lt_irrefl 0)) _); iexact S5
    iexists _; iapply (withFact (fun h => absurd h (Nat.lt_irrefl 0)) _); iexact S6
  · iexact Hg

theorem held_out (c : Dev nD) (n : ℕ) : held m c n ⊢ (Pipeline.ΦA spec0 c : sProp 𝕄) := by
  rw [PhiA0_eq]
  unfold held
  iintro ⟨⟨S0, S1, S2, S3, ⟨%Z4, %h4, S4⟩, ⟨%Z5, %h5, S5⟩, ⟨%Z6, %h6, S6⟩⟩, Hg⟩
  isplitl [S0 S1 S2 S3 S4 S5 S6]
  · isplitl [S0]; · iexact S0
    isplitl [S1]; · iexact S1
    isplitl [S2]; · iexact S2
    isplitl [S3]; · iexact S3
    isplitl [S4]; · iexists _; iexact S4
    isplitl [S5]; · iexists _; iexact S5
    iexists _; iexact S6
  · iexact Hg

set_option backward.isDefEq.respectTransparency.types false in
/-- The launch, with its values. -/
theorem val_run : θ_run defs (onTc (τ := τ) (main (F := Ideal))) (s₀ m ρ)
    (fun r => Pipeline.RDat.FramePost (cfgs 0) (val m) (V m) r ∧ r.2.sem = fun _ => 0) :=
  Pipeline.RDat.θ_run_frame_track cfgs (0 : Fin 1) launch0 defs₀ Variants.none (val m) m ρ main
    (hbody := val_obligation m) (hshare := fun c w => by unfold Pipeline.RDat.share; exact ite_self _)
    (howed := fun _ _ => rfl) (V := V m) (hmain := hmain m Variants.none) (hA := fun _ _ => rfl) (hin := fun c => held_in m c) (hout := fun c => held_out m c _)
    (Q' := _) (hQ' := fun _ h => h)

/-- The scales' buffer after a grid point holds the scales of every row so far. -/
theorem scales_at (c : Dev nD) : ∀ (n : ℕ) (t : Fin cfg0.N), t.val = n → ∀ X, (val m c).Leaves 10 t X →
    ∃ A : Arr EReal, IsArr (β := EReal) (R := 16) (C := 128) X A ∧ ∀ u b, u ≤ n → A (u, b) = (data m c).scale (128 * u + b) := by
  intro n
  induction n with
  | zero =>
    intro t ht X ⟨Y, hY, hX⟩
    obtain ⟨B, hB⟩ := exists_isArr (β := EReal) (R := 16) (C := 128) Y
    refine ⟨_, (show valAfter m c t 10 Y X from hX) B hB, fun u b hu => ?_⟩
    have e : u = t.val := by omega
    show (if u = t.val then _ else _) = _
    rw [if_pos e, e]
  | succ n ih =>
    intro t ht X ⟨Y, hY, hX⟩
    have ht16 : t.val < 16 := Nat.lt_of_lt_of_eq t.isLt N_0
    obtain ⟨B, hB, hBv⟩ : ∃ A : Arr EReal, IsArr (β := EReal) (R := 16) (C := 128) Y A ∧ ∀ u b, u ≤ n → A (u, b) = (data m c).scale (128 * u + b) := by
      rcases ((val m c).finds_of_pos ((cfg0.win 10).fetch_out rfl t) (by omega) Y).mp hY with hf | hl
      · have := (flush0_10 _).mp hf
        simp only [] at this
        omega
      · exact ih ⟨t.val - 1, _⟩ (by simp only []; omega) Y hl
    refine ⟨_, (show valAfter m c t 10 Y X from hX) B hB, fun u b hu => ?_⟩
    show (if u = t.val then _ else _) = _
    by_cases e : u = t.val
    · rw [if_pos e, e]
    · rw [if_neg e]; exact hBv u b (by omega)

theorem idx8 : ∀ t : Fin cfg0.N, win0_8.index t 0 = t.val ∧ win0_8.index t 1 = 0 := (by decide +kernel : ∀ t : Fin grid0.N, win0_8.index t 0 = t.val ∧ win0_8.index t 1 = 0)
theorem idx9 : ∀ t : Fin cfg0.N, win0_9.index t 0 = t.val ∧ win0_9.index t 1 = 0 := (by decide +kernel : ∀ t : Fin grid0.N, win0_9.index t 0 = t.val ∧ win0_9.index t 1 = 0)

section Final

variable (c : Dev nD) (after : (w : Fin cfg0.W) → Fin cfg0.N → (cfg0.win w).block.Idx → Elt Ideal (cfg0.win w).elt)
  (hL : ∀ (w : Fin cfg0.W) (u : Fin cfg0.N), (cfg0.win w).flush u = true → (val m c).Leaves w u (after w u))

include hL

theorem final8 : ((val m c).withAfter after).arrAt 8 cfg0.N = outRows (data m c).dh := by
  funext i
  refine ((val m c).withAfter after).arrAt_forall_of_covers 8 (fun i v => v = outRows (data m c).dh i) (by decide +kernel) (fun t hf y => ?_) i
  obtain ⟨Y, _, hX⟩ := hL 8 t hf
  refine ((show valAfter m c t 8 Y _ from hX) y).trans ?_
  show (data m c).dh (128 * t.val + (y 0).val) (y 1).val = (data m c).dh (win0_8.index t 0 * 128 + 1 * (y 0).val) (win0_8.index t 1 * 8192 + 1 * (y 1).val)
  rw [(idx8 t).1, (idx8 t).2]
  congr 1 <;> omega

theorem final9 : ((val m c).withAfter after).arrAt 9 cfg0.N = outRows (data m c).code := by
  funext i
  refine ((val m c).withAfter after).arrAt_forall_of_covers 9 (fun i v => v = outRows (data m c).code i) (by decide +kernel) (fun t hf y => ?_) i
  obtain ⟨Y, _, hX⟩ := hL 9 t hf
  refine ((show valAfter m c t 9 Y _ from hX) y).trans ?_
  show (data m c).code (128 * t.val + (y 0).val) (y 1).val = (data m c).code (win0_9.index t 0 * 128 + 1 * (y 0).val) (win0_9.index t 1 * 8192 + 1 * (y 1).val)
  rw [(idx9 t).1, (idx9 t).2]
  congr 1 <;> omega

theorem final10 : ((val m c).withAfter after).arrAt 10 cfg0.N = outRow (data m c).scale := by
  refine ((val m c).withAfter after).arrAt_eq_of_after_last 10 t0_15 (by decide +kernel) _ fun j => ?_
  obtain ⟨A, hA, hAv⟩ := scales_at m c 15 t0_15 rfl _ (hL 10 t0_15 ((flush0_10 t0_15).mpr rfl))
  have h0 : (j 0).val < 16 := (j 0).isLt
  exact (hA _).trans (hAv (j 0).val (j 1).val (by omega))

theorem final11 : ((val m c).withAfter after).arrAt 11 cfg0.N = outSum (data m c).pr := by
  refine ((val m c).withAfter after).arrAt_eq_of_after_last 11 t0_15 (by decide +kernel) _ fun j => ?_
  obtain ⟨Y, _, hX⟩ := hL 11 t0_15 ((flush0_11 t0_15).mpr rfl)
  exact ((show valAfter m c t0_15 11 Y _ from hX) rfl _).trans (tot_sum _ _)

theorem final12 : ((val m c).withAfter after).arrAt 12 cfg0.N = outSum (data m c).dy := by
  refine ((val m c).withAfter after).arrAt_eq_of_after_last 12 t0_15 (by decide +kernel) _ fun j => ?_
  obtain ⟨Y, _, hX⟩ := hL 12 t0_15 ((flush0_12 t0_15).mpr rfl)
  exact ((show valAfter m c t0_15 12 Y _ from hX) rfl _).trans (tot_sum _ _)

theorem final13 : ((val m c).withAfter after).arrAt 13 cfg0.N = outSum (data m c).da := by
  refine ((val m c).withAfter after).arrAt_eq_of_after_last 13 t0_15 (by decide +kernel) _ fun j => ?_
  obtain ⟨Y, _, hX⟩ := hL 13 t0_15 ((flush0_13 t0_15).mpr rfl)
  exact ((show valAfter m c t0_15 13 Y _ from hX) rfl _).trans (tot_sum _ _)

end Final

/-- The kernel's run: its six results, and its arguments unchanged. -/
theorem run_values : θ_run defs (onTc (τ := τ) (main (F := Ideal))) ⟨m, fun _ => 0, ρ⟩ (fun r => ∀ c : Dev nD,
      r.2.mem ((c.tc : Thread nD τ).loc main_v8_0) = outRows (data m c).dh
      ∧ r.2.mem ((c.tc : Thread nD τ).loc main_v8_1) = outRows (data m c).code
      ∧ r.2.mem ((c.tc : Thread nD τ).loc main_v8_2) = outRow (data m c).scale
      ∧ r.2.mem ((c.tc : Thread nD τ).loc main_v8_3) = outSum (data m c).pr
      ∧ r.2.mem ((c.tc : Thread nD τ).loc main_v8_4) = outSum (data m c).dy
      ∧ r.2.mem ((c.tc : Thread nD τ).loc main_v8_5) = outSum (data m c).da
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (θ_run_and ((θ_run defs _ _).mono (fun _ h => h.1) (val_run m ρ)) (quiescent (F := Ideal) m ρ))
  obtain ⟨after, hL, hA⟩ := h.1.exists_exact c
  exact ⟨(hA 8).trans (final8 m c after hL), (hA 9).trans (final9 m c after hL), (hA 10).trans (final10 m c after hL), (hA 11).trans (final11 m c after hL),
    (hA 12).trans (final12 m c after hL), (hA 13).trans (final13 m c after hL), h.2.1 c⟩

end Cert.KernelIdeal.Hand

end
-- ==== Proof.RefPay.lean ====
/- The reference's vectors, element by element. -/
module

public import proofs.«01_k».proof.Proof.Quant
public import proofs.«01_k».proof.Proof.Gen.ReferenceIdeal.Value
public import Idealize.ShloMosaic.Lib.Pipeline.ValueKit

@[expose] public section

set_option maxRecDepth 65536

noncomputable section

namespace Cert.ReferenceIdeal.Hand

open Idealize.ShloMosaic Cert.ReferenceIdeal Cert.ReferenceIdeal.Gen Cert.LnBwd

/-- A block of rows and columns, its rows in sixteen groups of 128. -/
def Is3 {β : Type} {C : ℕ} (X : (⟨3, ![16, 128, C]⟩ : Shape).Idx → β) (A : ℕ → ℕ → β) : Prop :=
  ∀ (a : Fin 16) (b : Fin 128) (c : Fin C), X (ix3 a b c) = A (128 * a.val + b.val) c.val
/-- A block of rows, in sixteen groups of 128. -/
def Is2 {β : Type} (X : (⟨2, ![16, 128]⟩ : Shape).Idx → β) (A : ℕ → β) : Prop :=
  ∀ (a : Fin 16) (b : Fin 128), X (ix2 a b) = A (128 * a.val + b.val)

variable {D : Data} {x0 : Vec Ideal S16x128x8192 .fp8e5m2} {x1 x5 x6 : Vec Ideal S16x128 .f32} {x2 x4 : Vec Ideal S16x128x8192 .bf16}
  {x3 : Vec Ideal S16x128x8192 .i32} {x7 : Vec Ideal S1x1x8192 .f32}

theorem pay3 (h0 : Is3 (β := EReal) x0 D.d) (h1 : Is2 (β := EReal) x1 D.s) : Is3 (β := EReal) (k0_pay3 x0 x1) D.dy := fun a b c => by
  have e0 := h0 a b c
  have e1 := h1 a b
  pointwise [k0_pay3]
  rw [e0, e1]; rfl

theorem pay5 (h4 : Is3 (β := EReal) x4 D.h) (h5 : Is2 (β := EReal) x5 D.m) (h6 : Is2 (β := EReal) x6 D.r) : Is3 (β := EReal) (k0_pay5 x6 x4 x5) D.xh := fun a b c => by
  have e4 := h4 a b c
  have e5 := h5 a b
  have e6 := h6 a b
  pointwise [k0_pay5, k0_pay4]
  rw [e4, e5, e6]; rfl

/-- Over 8192 is times its reciprocal. -/
theorem div_8192 (x : EReal) : Ideal.div x (Ideal.ofBits .f32 1174405120#32) = x * Ideal.ofBits .f32 0x39000000#32 := by
  have e1 : (1174405120#32 : BitVec 32) = BitVec.ofNat 32 140 <<< 23 := by decide
  have e2 : (0x39000000#32 : BitVec 32) = BitVec.ofNat 32 114 <<< 23 := by decide
  rw [e1, e2, Cert.KernelIdeal.Hand.bits_pow _ (by omega) (by omega), Cert.KernelIdeal.Hand.bits_pow _ (by omega) (by omega)]
  have h : ((2 : ℝ) ^ (((140 : ℕ) : ℤ) - 127)) ≠ 0 := by positivity
  unfold Ideal.div p2
  rw [if_neg (by exact_mod_cast h), ← EReal.coe_inv, ← zpow_neg]
  norm_num

theorem pay6 (h3 : Is3 (β := EReal) (k0_pay3 x0 x1) D.dy) (h5 : Is3 (β := EReal) (k0_pay5 x6 x4 x5) D.xh) (h6 : Is2 (β := EReal) x6 D.r)
    (h7 : ∀ c : Fin 8192, x7 (ix3 0 0 c) = D.w c.val) :
    Is3 (β := EReal) (k0_pay6 x0 x1 x6 x4 x5 x7) (fun R c => D.r R * (D.dy R c * D.w c - D.m1 R - D.xh R c * D.m2 R)) := fun a b c => by
  have e6 := h6 a b
  generalize hK3 : k0_pay3 x0 x1 = K3 at h3
  generalize hK5 : k0_pay5 x6 x4 x5 = K5 at h5
  pointwise [k0_pay6, k0_pay4]
  rw [hK3, hK5, e6, div_8192, div_8192]
  have s1 : (∑ x : Fin 8192, K3 (ix3 a b x) * x7 (ix3 0 0 x)) = ∑ c ∈ Finset.range 8192, D.dy (128 * a.val + b.val) c * D.w c := by
    rw [← Fin.sum_univ_eq_sum_range (fun c => D.dy (128 * a.val + b.val) c * D.w c) 8192]
    exact Finset.sum_congr rfl fun x _ => by rw [h3 a b x, h7 x]
  have s2 : (∑ x : Fin 8192, K3 (ix3 a b x) * x7 (ix3 0 0 x) * K5 (ix3 a b x)) = ∑ c ∈ Finset.range 8192, D.pr (128 * a.val + b.val) c * D.w c := by
    rw [← Fin.sum_univ_eq_sum_range (fun c => D.pr (128 * a.val + b.val) c * D.w c) 8192]
    exact Finset.sum_congr rfl fun x _ => by rw [h3 a b x, h7 x, h5 a b x, mul_right_comm]; rfl
  rw [s1, s2, h3 a b c, h5 a b c, h7 c]
  rfl

/-- A sum over the groups and their rows. -/
theorem reduce_rows {v : FVec Ideal S16x128x8192 .f32} {A : ℕ → ℕ → EReal} (hv : Is3 (β := EReal) v A) (h : S16x128x8192.Reduces [0, 1] S8192) (c : Fin 8192) :
    Ideal.reduceAdd h v (ix1 c) = ∑ R ∈ Finset.range 2048, A R c.val := by
  have hf : ∀ i : S16x128x8192.Idx, h.drop i = ix1 c ↔ ∃ k : Fin 16 × Fin 128, ix3 k.1 k.2 c = i := fun i => by
    constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, by decide⟩)).symm
    · rintro ⟨k, rfl⟩
      funext b
      apply Fin.ext
      match b with
      | ⟨0, _⟩ => rfl
  refine (Finset.sum_filter_eq_sum_of_fiber _ (fun k : Fin 16 × Fin 128 => ix3 k.1 k.2 c) (fun _ _ e => Prod.ext (congrFun e 0) (congrFun e 1)) hf v).trans ?_
  rw [Fintype.sum_prod_type, Finset.sum_range_mul_split 16 128 fun R => A R c.val]
  simp only [Nat.mul_comm _ 128]
  rw [← Fin.sum_univ_eq_sum_range (fun a => ∑ b ∈ Finset.range 128, A (128 * a + b) c.val) 16]
  refine Finset.sum_congr rfl fun a _ => ?_
  rw [← Fin.sum_univ_eq_sum_range (fun b => A (128 * a.val + b) c.val) 128]
  exact Finset.sum_congr rfl fun b _ => hv a b c

theorem pay10 {v w : FVec Ideal S16x128x8192 .f32} {A B : ℕ → ℕ → EReal} (hv : Is3 (β := EReal) v A) (hw : Is3 (β := EReal) w B) (c : Fin 8192) :
    k0_pay10 v w (ix2 0 c) = ∑ R ∈ Finset.range 2048, A R c.val * B R c.val := by
  pointwise [k0_pay10]
  exact reduce_rows (A := fun R c => A R c * B R c) (fun a b c => by have e1 := hv a b c; have e2 := hw a b c; pointwise []; rw [e1, e2]) _ c

theorem pay11 {v : FVec Ideal S16x128x8192 .f32} {A : ℕ → ℕ → EReal} (hv : Is3 (β := EReal) v A) (c : Fin 8192) :
    k0_pay11 v (ix2 0 c) = ∑ R ∈ Finset.range 2048, A R c.val := by
  pointwise [k0_pay11]
  exact reduce_rows hv _ c

variable {x40 : FVec Ideal S16x128x8192 .f32}

theorem pay7 {A B : ℕ → ℕ → EReal} (h40 : Is3 (β := EReal) x40 A) (h2 : Is3 (β := EReal) x2 B) : Is3 (β := EReal) (k0_pay7 x40 x2) (fun R c => A R c + B R c) := fun a b c => by
  have e1 := h40 a b c
  have e2 := h2 a b c
  pointwise [k0_pay7]
  rw [e1, e2]

theorem pay9 (h7 : Is3 (β := EReal) (k0_pay7 x40 x2) D.dh) (h3 : Is3 (β := BitVec 32) x3 (fun R c => if D.keep R c then 1#32 else 0#32)) :
    Is3 (β := EReal) (k0_pay9 x40 x2 x3) D.da := fun a b c => by
  have e3 := h3 a b c
  generalize hK : k0_pay7 x40 x2 = K at h7
  have e7 := h7 a b c
  pointwise [k0_pay9]
  rw [hK, e7, e3]
  show Scalar.select (IntOp.cmpi CmpIPredicate.ne (if D.keep (128 * a.val + b.val) c.val then 1#32 else 0#32) 0#32) _ _ = if D.keep (128 * a.val + b.val) c.val then _ else _
  cases D.keep (128 * a.val + b.val) c.val <;> rfl

/-- A row's largest. -/
theorem max_last {N : ℕ} (x : FVec Ideal ⟨3, ![16, 128, N]⟩ .f32) (h : (⟨3, ![16, 128, N]⟩ : Shape).Reduces [2] ⟨2, ![16, 128]⟩) (hφ : FKind.Formats .f32)
    (hacc : (0xFF800000#32 : BitVec 32) = FKind.maximumf.neutral .f32 hφ) (a : Fin 16) (b : Fin 128) {A : ℕ → ℕ → EReal} (hx : Is3 (β := EReal) x A) :
    multiReduction .maximumf [2] ⟨2, ![16, 128]⟩ x 0xFF800000#32 h hφ hacc (ix2 a b) = (Finset.range N).sup (A (128 * a.val + b.val)) := by
  rw [Ideal.multiReduction_maximumf_single, ← Cert.KernelIdeal.Hand.sup_lanes]
  have hb : (FloatOps.ofBits (F := Ideal) .f32 0xFF800000#32 : EReal) = ⊥ := by
    show Ideal.ieee 8 23 4286578688#32 = ⊥
    unfold Ideal.ieee; rw [if_pos (by decide), if_pos (by decide), if_pos (by decide)]
  rw [hb]
  refine congrArg (fun f : Fin N → EReal => Finset.fold max ⊥ f Finset.univ) (funext fun k => ?_)
  refine Eq.trans (congrArg x ?_) (hx a b k)
  funext d
  match d with
  | ⟨0, _⟩ => rfl
  | ⟨1, _⟩ => rfl
  | ⟨2, _⟩ => rfl

theorem pay12 (h9 : Is3 (β := EReal) (k0_pay9 x40 x2 x3) D.da) (c : Fin 8192) :
    k0_pay12 x40 x2 x3 (ix2 0 c) = ∑ R ∈ Finset.range 2048, D.da R c.val := by
  generalize hK : k0_pay9 x40 x2 x3 = K at h9
  pointwise [k0_pay12]
  rw [hK]
  exact reduce_rows h9 _ c

theorem p2_le {a b : ℤ} (h : a ≤ b) : p2 a ≤ p2 b := by
  unfold p2
  exact EReal.coe_le_coe_iff.mpr (zpow_le_zpow_right₀ (by norm_num) h)

/-- The powers at most `y` are the first ones. -/
theorem cnt_iff (y : EReal) (n : ℕ) : ∀ k < n, (p2 ((k : ℤ) - 126) ≤ y ↔ k < cnt y n) := by
  induction n with
  | zero => intro k h; omega
  | succ n ih =>
    intro k hk
    rw [Cert.KernelIdeal.Hand.cnt_succ]
    have hle := Cert.KernelIdeal.Hand.cnt_le y n
    by_cases hn : p2 ((n : ℤ) - 126) ≤ y
    · rw [if_pos hn]
      have hfull : n ≤ cnt y n := by
        rcases Nat.eq_zero_or_pos n with h0 | h0
        · omega
        · have := (ih (n - 1) (by omega)).mp ((p2_le (by omega)).trans hn)
          omega
      exact ⟨fun _ => by omega, fun _ => (p2_le (by omega)).trans hn⟩
    · rw [if_neg hn]
      rcases Nat.lt_succ_iff_lt_or_eq.mp hk with h | h
      · exact ih k h
      · subst h
        exact ⟨fun h => absurd h hn, fun h => by omega⟩

/-- The least power above `y`, at most `2 ^ 113`. -/
theorem least_power (y : EReal) (P : Fin 256 → EReal) (hP : ∀ k, P k = p2 ((k.val : ℤ) - 126)) :
    (if y < p2 (-126) then 1 else Finset.fold min ⊤ (fun k => if y < P k then P k else p2 113) Finset.univ) = scaleOf y := by
  have hc := cnt_iff y 239
  have hle := Cert.KernelIdeal.Hand.cnt_le y 239
  unfold scaleOf
  have h0 : y < p2 (-126) ↔ cnt y 239 = 0 := by
    have := hc 0 (by omega)
    rw [show (((0 : ℕ) : ℤ) - 126) = -126 by norm_num] at this
    rw [← not_le, this]; omega
  by_cases hy : cnt y 239 = 0
  · rw [if_pos (h0.mpr hy), if_pos hy]
  · rw [if_neg (fun h => hy (h0.mp h)), if_neg hy]
    generalize hn : cnt y 239 = n at hc hle hy
    show Finset.univ.inf (fun k => if y < P k then P k else p2 113) = _
    apply le_antisymm
    · rcases Nat.lt_or_ge n 239 with h | h
      · refine (Finset.inf_le (Finset.mem_univ ⟨n, by omega⟩)).trans ?_
        have : y < p2 ((n : ℤ) - 126) := by rw [← not_le, hc n h]; omega
        rw [hP, if_pos this]
      · refine (Finset.inf_le (Finset.mem_univ 0)).trans ?_
        have hk : p2 (((0 : Fin 256).val : ℤ) - 126) ≤ y := (hc 0 (by omega)).mpr (by omega)
        rw [hP, if_neg (not_lt.mpr hk)]
        exact p2_le (by omega)
    · refine Finset.le_inf fun k _ => ?_
      rw [hP]
      split
      · rename_i hk
        refine p2_le ?_
        by_contra hlt
        have hkn : k.val < n := by omega
        exact absurd ((hc k.val (by omega)).mpr hkn) (not_le.mpr hk)
      · exact p2_le (by omega)

theorem word_power (k : Fin 256) : (FloatOps.exp2 (F := Ideal) (φ := .f32) (FloatOps.sitofp .f32 (IntOp.subi (BitVec.ofNat 32 k.val) 126#32)) : EReal) = p2 ((k.val : ℤ) - 126) := by
  have e : (IntOp.subi (BitVec.ofNat 32 k.val) 126#32).toInt = (k.val : ℤ) - 126 := by revert k; decide
  show Ideal.exp2 ((((IntOp.subi (BitVec.ofNat 32 k.val) 126#32).toInt : ℝ)) : EReal) = _
  rw [e, Ideal.exp2_coe]
  unfold p2
  congr 1
  exact Real.rpow_intCast 2 _

theorem pow_113 : Ideal.ofBits .f32 2013265920#32 = p2 113 := by
  have e : (2013265920#32 : BitVec 32) = BitVec.ofNat 32 240 <<< 23 := by decide
  rw [e, Cert.KernelIdeal.Hand.bits_pow _ (by omega) (by omega)]; rfl

theorem pow_m126 : Ideal.ofBits .f32 8388608#32 = p2 (-126) := by
  have e : (8388608#32 : BitVec 32) = BitVec.ofNat 32 1 <<< 23 := by decide
  rw [e, Cert.KernelIdeal.Hand.bits_pow _ (by omega) (by omega)]; rfl

theorem inf_top : Ideal.ofBits .f32 2139095040#32 = ⊤ := by
  show Ideal.ieee 8 23 2139095040#32 = ⊤
  unfold Ideal.ieee; rw [if_pos (by decide), if_pos (by decide), if_neg (by decide)]

theorem inv_scale (y : EReal) : Ideal.div 1 (scaleOf y) = invOf y := by
  unfold scaleOf invOf
  split
  · rw [show (1 : EReal) = ((1 : ℝ) : EReal) from rfl, Ideal.div_coe one_ne_zero]; norm_num
  · unfold p2
    rw [Ideal.div_coe (by positivity), one_mul, one_div, ← zpow_neg]
    congr 2; omega

theorem pay1 {y : FVec Ideal S16x128 .f32} {A : ℕ → EReal} (hy : Is2 (β := EReal) y A) :
    Is2 (β := EReal) (k0_pay1 y (iota .tc S16x128x256 32 [2] iota_S16x128x256_d2_w32) 126#32) (fun R => scaleOf (A R)) := fun a b => by
  have e := hy a b
  pointwise [k0_pay1]
  rw [e, pow_m126, inf_top, pow_113]
  exact least_power _ _ word_power

/-- A block's rows, laid out one after another. -/
theorem flat {β : Type} {X : S16x128x8192.Idx → β} {A : ℕ → ℕ → β} (hX : Is3 X A) (h : S16x128x8192.ShapeCasts S2048x8192) (j : S2048x8192.Idx) :
    shapeCast S2048x8192 X h j = A (j 0).val (j 1).val := by
  have h0 : (j 0).val < 2048 := (j 0).isLt
  refine (shapeCast_apply X h j (ix3 ⟨(j 0).val / 128, by omega⟩ ⟨(j 0).val % 128, by omega⟩ (j 1)) ?_).trans ((hX _ _ _).trans ?_)
  · rw [Shape.rowMajor_val_three, Shape.rowMajor_val_two]
    show ((j 0).val / 128 * 128 + (j 0).val % 128) * 8192 + (j 1).val = (j 0).val * 8192 + (j 1).val
    omega
  · show A (128 * ((j 0).val / 128) + (j 0).val % 128) (j 1).val = _
    congr 1; omega

theorem pay8 {A : ℕ → ℕ → EReal} (h7 : Is3 (β := EReal) (k0_pay7 x40 x2) A) (j : S2048x8192.Idx) : k0_pay8 x40 x2 j = A (j 0).val (j 1).val :=
  flat (β := EReal) h7 _ j

theorem pay2 {v : FVec Ideal S16x128x8192 .f32} {y : FVec Ideal S16x128 .f32} {z : IVec S16x128x256 32} {A : ℕ → ℕ → EReal} {S : ℕ → EReal} (hv : Is3 (β := EReal) v A)
    (h1 : Is2 (β := EReal) (k0_pay1 y z 126#32) S) (j : S2048x8192.Idx) :
    k0_pay2 v y z 126#32 j = clip (A (j 0).val (j 1).val * Ideal.div 1 (S (j 0).val)) := by
  generalize hK : k0_pay1 y z 126#32 = K at h1
  unfold k0_pay2
  refine flat (β := EReal) (A := fun R c => clip (A R c * Ideal.div 1 (S R))) (fun a b c => ?_) _ j
  have e1 := hv a b c
  have e2 := h1 a b
  pointwise []
  rw [hK, e1, e2]
  rfl

end Cert.ReferenceIdeal.Hand

end
-- ==== Proof.RefTop.lean ====
/- The magnitudes of the reference's rows. -/
module

public import proofs.«01_k».proof.Proof.RefPay
public import proofs.«01_k».proof.Proof.Gen.ReferenceIdeal.Value
public import Idealize.ShloMosaic.Lib.Pipeline.ValueKit

@[expose] public section

set_option maxRecDepth 65536

noncomputable section

namespace Cert.ReferenceIdeal.Hand

open Idealize.ShloMosaic Cert.ReferenceIdeal Cert.ReferenceIdeal.Gen Cert.LnBwd

variable {D : Data} {x2 : Vec Ideal S16x128x8192 .bf16} {x3 : Vec Ideal S16x128x8192 .i32} {x40 : FVec Ideal S16x128x8192 .f32}

theorem mag3 {K : FVec Ideal S16x128x8192 .f32} (h9 : Is3 (β := EReal) K D.da) : Is3 (β := EReal) (absf K) D.mag := fun a b c => by
    show max (K (ix3 a b c)) (-(K (ix3 a b c))) = D.mag _ _
    rw [h9 a b c]; rfl

theorem top3 {K : FVec Ideal S16x128x8192 .f32} (h9 : Is3 (β := EReal) K D.mag) (a : Fin 16) (b : Fin 128) :
   multiReduction .maximumf [2] S16x128 K 0xFF800000#32 reduces_S16x128x8192_S16x128 (.inl rfl) rfl (ix2 a b) = (Finset.range 8192).sup (D.mag (128 * a.val + b.val)) :=
  max_last K _ _ _ a b h9

theorem times {M : FVec Ideal S16x128 .f32} {z : EReal} {i : S16x128.Idx} (h : M i = z) (w : BitVec 32) :
    mulf M (broadcast S16x128 (Scalar.ofBits .f32 w)) i = z * Ideal.ofBits .f32 w := by
  subst h; rfl

theorem y_eq (R : ℕ) : D.y R = (Finset.range 8192).sup (D.mag R) * Ideal.ofBits .f32 0x37924925#32 := by
  unfold Data.y; rfl

theorem pay13 (h9 : Is3 (β := EReal) (k0_pay9 x40 x2 x3) D.da) : Is2 (β := EReal) (k0_pay13 x40 x2 x3) D.y := fun a b => by
  rw [y_eq]
  unfold k0_pay13
  exact times (top3 (mag3 h9) a b) _

end Cert.ReferenceIdeal.Hand

end
-- ==== Proof.Ref.lean ====
/- The reference's results, element by element. -/
module

public import proofs.«01_k».proof.Proof.RefTop
public import proofs.«01_k».proof.Proof.Entry

@[expose] public section

set_option maxRecDepth 65536

noncomputable section

namespace Cert.ReferenceIdeal.Hand

open Idealize.ShloMosaic Idealize.ShloMosaic.TcCoe Cert.ReferenceIdeal Cert.ReferenceIdeal.Gen Cert.LnBwd

variable (m : (ℓ : Loc nD τ sig) → Buf (Elt Ideal) ℓ) (ρ : Dev nD → PrngReg)

/-- The data of the arguments. -/
def data (c : Dev nD) : Data :=
  Data.of (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem cast_groups {α : Type} (z : α) (x : (⟨3, ![1, 2048, 8192]⟩ : Shape).Idx → α) (h : (⟨3, ![1, 2048, 8192]⟩ : Shape).ShapeCasts ⟨3, ![16, 128, 8192]⟩) :
    Is3 (shapeCast ⟨3, ![16, 128, 8192]⟩ x h) (el3 z x) := fun a b c => by
  refine (shapeCast_apply x h (ix3 a b c) (ix3 (0 : Fin 1) ⟨128 * a.val + b.val, by omega⟩ c) ?_).trans (el3_mk z x (by omega) c.isLt _ rfl rfl)
  rw [Shape.rowMajor_val_three, Shape.rowMajor_val_three]
  show (0 * 2048 + (128 * a.val + b.val)) * 8192 + c.val = (a.val * 128 + b.val) * 8192 + c.val
  omega

theorem cast_gain (x : (⟨1, ![8192]⟩ : Shape).Idx → EReal) (h : (⟨1, ![8192]⟩ : Shape).ShapeCasts ⟨3, ![1, 1, 8192]⟩) (c : Fin 8192) :
    shapeCast ⟨3, ![1, 1, 8192]⟩ x h (ix3 0 0 c) = el1 x c.val := by
  refine (shapeCast_apply x h (ix3 0 0 c) (ix1 c) ?_).trans (el1_mk x c.isLt _ rfl)
  rw [Shape.rowMajor_val_one, Shape.rowMajor_val_three]
  show c.val = (0 * 1 + 0) * 8192 + c.val
  omega

/-- The mask's bits, one to a word. -/
def bits (x : S1x2048x1024.Idx → BitVec 8) : IVec S1x2048x1024x8 32 :=
  andi (Host.shrsi
      (broadcastInDim S1x2048x1024x8 ![0, 1, 2, 3] bcast_S1x2048x1024x1_S1x2048x1024x8_0_1_2_3 (broadcastInDim S1x2048x1024x1 ![0, 1, 2] bcast_S1x2048x1024_S1x2048x1024x1_0_1_2 (extui 32 x natLt_8_32)))
      (broadcastInDim S1x2048x1024x8 ![0, 1, 2, 3] bcast_S1x1x1x8_S1x2048x1024x8_0_1_2_3 (broadcastInDim S1x1x1x8 ![3] bcast_S8_S1x1x1x8_3 (iotaInDim S8 32 0))))
    (broadcastInDim S1x2048x1024x8 ![] bcast_S_S1x2048x1024x8 (constantI S_ 32 1#32))

theorem one_bit (b : BitVec 8) (j : Fin 8) :
    IntOp.andi (IntOp.shrsi .host (b.setWidth 32) (BitVec.ofNat 32 j.val)) 1#32 = if b.getLsbD j.val then 1#32 else 0#32 := by
  revert b j; decide +kernel

theorem bits_at (x : S1x2048x1024.Idx → BitVec 8) (R : Fin 2048) (q : Fin 1024) (j : Fin 8) :
    bits x (ix4 0 R q j) = if (x (ix3 0 R q)).getLsbD j.val then 1#32 else 0#32 := by
  rw [← one_bit]
  pointwise [bits]

theorem V9 (c : Dev nD) : V m c main_v9 = shapeCast S16x128x8192 (m ((c : Thread nD τ).loc main_arg0)) shapeCasts_S1x2048x8192_S16x128x8192 := by
  show StableHlo.after hostOps0 _ (Proc.devRef .tc main_v9) = _
  after_results
  rfl
theorem V11 (c : Dev nD) : V m c main_v11 = shapeCast S16x128x8192 (m ((c : Thread nD τ).loc main_arg2)) shapeCasts_S1x2048x8192_S16x128x8192 := by
  show StableHlo.after hostOps0 _ (Proc.devRef .tc main_v11) = _
  after_results
  rfl
theorem V13 (c : Dev nD) : V m c main_v13 = shapeCast S16x128x8192 (m ((c : Thread nD τ).loc main_arg4)) shapeCasts_S1x2048x8192_S16x128x8192 := by
  show StableHlo.after hostOps0 _ (Proc.devRef .tc main_v13) = _
  after_results
  rfl
theorem V10 (c : Dev nD) : V m c main_v10 = shapeCast S16x128 (m ((c : Thread nD τ).loc main_arg1)) shapeCasts_S1x2048_S16x128 := by
  show StableHlo.after hostOps0 _ (Proc.devRef .tc main_v10) = _
  after_results
  rfl
theorem V14 (c : Dev nD) : V m c main_v14 = shapeCast S16x128 (m ((c : Thread nD τ).loc main_arg5)) shapeCasts_S1x2048_S16x128 := by
  show StableHlo.after hostOps0 _ (Proc.devRef .tc main_v14) = _
  after_results
  rfl
theorem V15 (c : Dev nD) : V m c main_v15 = shapeCast S16x128 (m ((c : Thread nD τ).loc main_arg6)) shapeCasts_S1x2048_S16x128 := by
  show StableHlo.after hostOps0 _ (Proc.devRef .tc main_v15) = _
  after_results
  rfl
theorem V16 (c : Dev nD) : V m c main_v16 = shapeCast S1x1x8192 (m ((c : Thread nD τ).loc main_arg7)) shapeCasts_S8192_S1x1x8192 := by
  show StableHlo.after hostOps0 _ (Proc.devRef .tc main_v16) = _
  after_results
  rfl
theorem V12 (c : Dev nD) : V m c main_v12 = shapeCast S16x128x8192 (bits (m ((c : Thread nD τ).loc main_arg3))) shapeCasts_S1x2048x1024x8_S16x128x8192 := by
  show StableHlo.after hostOps0 _ (Proc.devRef .tc main_v12) = _
  after_results
  rfl

theorem cast_bits (x : S1x2048x1024.Idx → BitVec 8) (D : Data) (hD : D.msk = el3 0#8 x) (h : S1x2048x1024x8.ShapeCasts S16x128x8192) :
    Is3 (shapeCast S16x128x8192 (bits x) h) (fun R c => if D.keep R c then 1#32 else 0#32) := fun a b c => by
  refine (shapeCast_apply _ h (ix3 a b c) (ix4 (0 : Fin 1) ⟨128 * a.val + b.val, by omega⟩ ⟨c.val / 8, by omega⟩ ⟨c.val % 8, by omega⟩) ?_).trans ?_
  · rw [Shape.rowMajor_val_four, Shape.rowMajor_val_three]
    show ((0 * 2048 + (128 * a.val + b.val)) * 1024 + c.val / 8) * 8 + c.val % 8 = (a.val * 128 + b.val) * 8192 + c.val
    omega
  · rw [bits_at, el3_mk 0#8 x (R := 128 * a.val + b.val) (c := c.val / 8) (by omega) (by omega) _ rfl rfl, ← hD]
    rfl

theorem blk0 (c : Dev nD) (t : Fin cfg0.N) : Is3 (β := EReal) (iblk m c 0 t) (data m c).d := fun a b j => by
  unfold iblk
  rw [View.read_apply]
  show V m c main_v9 _ = _
  rw [V9]
  refine Eq.trans (congrArg _ ?_) (cast_groups (α := EReal) 0 _ _ a b j)
  funext d
  match d with
  | ⟨0, _⟩ => apply Fin.ext; show 0 * 16 + 1 * a.val = a.val; omega
  | ⟨1, _⟩ => apply Fin.ext; show 0 * 128 + 1 * b.val = b.val; omega
  | ⟨2, _⟩ => apply Fin.ext; show 0 * 8192 + 1 * j.val = j.val; omega

theorem blk2 (c : Dev nD) (t : Fin cfg0.N) : Is3 (β := EReal) (iblk m c 2 t) (data m c).res := fun a b j => by
  unfold iblk
  rw [View.read_apply]
  show V m c main_v11 _ = _
  rw [V11]
  refine Eq.trans (congrArg _ ?_) (cast_groups (α := EReal) 0 _ _ a b j)
  funext d
  match d with
  | ⟨0, _⟩ => apply Fin.ext; show 0 * 16 + 1 * a.val = a.val; omega
  | ⟨1, _⟩ => apply Fin.ext; show 0 * 128 + 1 * b.val = b.val; omega
  | ⟨2, _⟩ => apply Fin.ext; show 0 * 8192 + 1 * j.val = j.val; omega

theorem blk4 (c : Dev nD) (t : Fin cfg0.N) : Is3 (β := EReal) (iblk m c 4 t) (data m c).h := fun a b j => by
  unfold iblk
  rw [View.read_apply]
  show V m c main_v13 _ = _
  rw [V13]
  refine Eq.trans (congrArg _ ?_) (cast_groups (α := EReal) 0 _ _ a b j)
  funext d
  match d with
  | ⟨0, _⟩ => apply Fin.ext; show 0 * 16 + 1 * a.val = a.val; omega
  | ⟨1, _⟩ => apply Fin.ext; show 0 * 128 + 1 * b.val = b.val; omega
  | ⟨2, _⟩ => apply Fin.ext; show 0 * 8192 + 1 * j.val = j.val; omega

theorem blk1 (c : Dev nD) (t : Fin cfg0.N) : Is2 (β := EReal) (iblk m c 1 t) (data m c).s := fun a b => by
  unfold iblk
  rw [View.read_apply]
  show V m c main_v10 _ = _
  rw [V10]
  refine Eq.trans (congrArg _ ?_) (Cert.KernelIdeal.Hand.cast_row _ _ (ix2 a b))
  funext d
  match d with
  | ⟨0, _⟩ => apply Fin.ext; show 0 * 16 + 1 * a.val = a.val; omega
  | ⟨1, _⟩ => apply Fin.ext; show 0 * 128 + 1 * b.val = b.val; omega

theorem blk5 (c : Dev nD) (t : Fin cfg0.N) : Is2 (β := EReal) (iblk m c 5 t) (data m c).m := fun a b => by
  unfold iblk
  rw [View.read_apply]
  show V m c main_v14 _ = _
  rw [V14]
  refine Eq.trans (congrArg _ ?_) (Cert.KernelIdeal.Hand.cast_row _ _ (ix2 a b))
  funext d
  match d with
  | ⟨0, _⟩ => apply Fin.ext; show 0 * 16 + 1 * a.val = a.val; omega
  | ⟨1, _⟩ => apply Fin.ext; show 0 * 128 + 1 * b.val = b.val; omega

theorem blk6 (c : Dev nD) (t : Fin cfg0.N) : Is2 (β := EReal) (iblk m c 6 t) (data m c).r := fun a b => by
  unfold iblk
  rw [View.read_apply]
  show V m c main_v15 _ = _
  rw [V15]
  refine Eq.trans (congrArg _ ?_) (Cert.KernelIdeal.Hand.cast_row _ _ (ix2 a b))
  funext d
  match d with
  | ⟨0, _⟩ => apply Fin.ext; show 0 * 16 + 1 * a.val = a.val; omega
  | ⟨1, _⟩ => apply Fin.ext; show 0 * 128 + 1 * b.val = b.val; omega

theorem blk7 (c : Dev nD) (t : Fin cfg0.N) (j : Fin 8192) : (iblk m c 7 t : Vec Ideal S1x1x8192 .f32) (ix3 0 0 j) = (data m c).w j.val := by
  unfold iblk
  rw [View.read_apply]
  show V m c main_v16 _ = _
  rw [V16]
  refine Eq.trans (congrArg _ ?_) (cast_gain _ _ j)
  funext d
  match d with
  | ⟨0, _⟩ => apply Fin.ext; show 0 * 1 + 1 * 0 = 0; omega
  | ⟨1, _⟩ => apply Fin.ext; show 0 * 1 + 1 * 0 = 0; omega
  | ⟨2, _⟩ => apply Fin.ext; show 0 * 8192 + 1 * j.val = j.val; omega

theorem blk3 (c : Dev nD) (t : Fin cfg0.N) : Is3 (β := BitVec 32) (iblk m c 3 t) (fun R j => if (data m c).keep R j then 1#32 else 0#32) := fun a b j => by
  unfold iblk
  rw [View.read_apply]
  show V m c main_v12 _ = _
  rw [V12]
  refine Eq.trans (congrArg _ ?_) (cast_bits _ (data m c) rfl _ a b j)
  funext d
  match d with
  | ⟨0, _⟩ => apply Fin.ext; show 0 * 16 + 1 * a.val = a.val; omega
  | ⟨1, _⟩ => apply Fin.ext; show 0 * 128 + 1 * b.val = b.val; omega
  | ⟨2, _⟩ => apply Fin.ext; show 0 * 8192 + 1 * j.val = j.val; omega

end Cert.ReferenceIdeal.Hand

end
-- ==== Proof.RefOut.lean ====
/- The reference's results, element by element. -/
module

public import proofs.«01_k».proof.Proof.RefTop
public import proofs.«01_k».proof.Proof.Ref

@[expose] public section

set_option maxRecDepth 65536

noncomputable section

namespace Cert.ReferenceIdeal.Hand

open Idealize.ShloMosaic Idealize.ShloMosaic.TcCoe Cert.ReferenceIdeal Cert.ReferenceIdeal.Gen Cert.LnBwd

section Loads
variable {e : EltTy}
theorem ld0 (X : Vec Ideal S16x128x8192 e) : View.ld X r0_0 = X := View.ld_unit_lit' _ _ (by decide)
theorem ld1 (X : Vec Ideal S16x128 e) : View.ld X r0_1 = X := View.ld_unit_lit' _ _ (by decide)
theorem ld2 (X : Vec Ideal S1x1x8192 e) : View.ld X r0_2 = X := View.ld_unit_lit' _ _ (by decide)
end Loads

section Blocks

variable {D : Data} {x0 : Vec Ideal S16x128x8192 .fp8e5m2} {x1 x5 x6 : Vec Ideal S16x128 .f32} {x2 x4 : Vec Ideal S16x128x8192 .bf16}
  {x3 : Vec Ideal S16x128x8192 .i32} {x7 : Vec Ideal S1x1x8192 .f32}
  (h0 : Is3 (β := EReal) x0 D.d) (h1 : Is2 (β := EReal) x1 D.s) (h2 : Is3 (β := EReal) x2 D.res)
  (h3 : Is3 (β := BitVec 32) x3 (fun R c => if D.keep R c then 1#32 else 0#32)) (h4 : Is3 (β := EReal) x4 D.h) (h5 : Is2 (β := EReal) x5 D.m)
  (h6 : Is2 (β := EReal) x6 D.r) (h7 : ∀ c : Fin 8192, x7 (ix3 0 0 c) = D.w c.val)

include h0 h1 in
theorem dy_at : Is3 (β := EReal) (k0_pay14 x0 x1 x2 x3 x4 x5 x6 x7) D.dy := by
  unfold k0_pay14
  rw [ld0, ld1]
  exact pay3 h0 h1

include h0 h1 h2 h4 h5 h6 h7 in
theorem dh_at : Is3 (β := EReal) (k0_pay7 (k0_pay15 x0 x1 x2 x3 x4 x5 x6 x7) x2) D.dh := by
  unfold k0_pay15
  rw [ld0, ld1, ld1, ld0, ld1, ld2]
  exact pay7 (pay6 (pay3 h0 h1) (pay5 h4 h5 h6) h6 h7) h2

include h0 h1 h2 h3 h4 h5 h6 h7 in
theorem da_at : Is3 (β := EReal) (k0_pay9 (k0_pay15 x0 x1 x2 x3 x4 x5 x6 x7) x2 x3) D.da :=
  pay9 (dh_at h0 h1 h2 h4 h5 h6 h7) h3

include h0 h1 h2 h3 h4 h5 h6 h7 in
theorem scale_at : Is2 (β := EReal) (k0_pay1 (k0_pay17 x0 x1 x2 x3 x4 x5 x6 x7) (k0_pay16 x0 x1 x2 x3 x4 x5 x6 x7) 126#32) D.scale := by
  unfold k0_pay17 k0_pay16
  rw [ld0, ld0]
  exact pay1 (pay13 (da_at h0 h1 h2 h3 h4 h5 h6 h7))

include h0 h1 h2 h4 h5 h6 h7 in
theorem out8_at (j : S2048x8192.Idx) : out0_8 x0 x1 x2 x3 x4 x5 x6 x7 j = D.dh (j 0).val (j 1).val := by
  unfold out0_8
  rw [View.canon_cons_unit_lit' _ _ _ (by decide), ld0]
  exact pay8 (dh_at h0 h1 h2 h4 h5 h6 h7) j

include h0 h1 h2 h3 h4 h5 h6 h7 in
theorem out9_at (j : S2048x8192.Idx) : out0_9 x0 x1 x2 x3 x4 x5 x6 x7 j = D.code (j 0).val (j 1).val := by
  unfold out0_9
  rw [View.canon_cons_unit_lit' _ _ _ (by decide), ld0, ld0]
  refine (pay2 (da_at h0 h1 h2 h3 h4 h5 h6 h7) (scale_at h0 h1 h2 h3 h4 h5 h6 h7) j).trans ?_
  unfold Data.scale
  rw [inv_scale]
  rfl

include h0 h1 h2 h3 h4 h5 h6 h7 in
theorem out10_at (a : Fin 16) (b : Fin 128) : out0_10 x0 x1 x2 x3 x4 x5 x6 x7 (ix2 a b) = D.scale (128 * a.val + b.val) := by
  unfold out0_10
  rw [View.canon_cons_unit_lit' _ _ _ (by decide)]
  exact scale_at h0 h1 h2 h3 h4 h5 h6 h7 a b

include h0 h1 h4 h5 h6 in
theorem out11_at (j : Fin 8192) : out0_11 x0 x1 x2 x3 x4 x5 x6 x7 (ix2 0 j) = ∑ R ∈ Finset.range 2048, D.pr R j.val := by
  unfold out0_11
  rw [View.canon_cons_unit_lit' _ _ _ (by decide), ld0, ld1, ld1]
  exact pay10 (dy_at h0 h1) (pay5 h4 h5 h6) j

include h0 h1 in
theorem out12_at (j : Fin 8192) : out0_12 x0 x1 x2 x3 x4 x5 x6 x7 (ix2 0 j) = ∑ R ∈ Finset.range 2048, D.dy R j.val := by
  unfold out0_12
  rw [View.canon_cons_unit_lit' _ _ _ (by decide)]
  exact pay11 (dy_at h0 h1) j

include h0 h1 h2 h3 h4 h5 h6 h7 in
theorem out13_at (j : Fin 8192) : out0_13 x0 x1 x2 x3 x4 x5 x6 x7 (ix2 0 j) = ∑ R ∈ Finset.range 2048, D.da R j.val := by
  unfold out0_13
  rw [View.canon_cons_unit_lit' _ _ _ (by decide), ld0, ld0]
  exact pay12 (da_at h0 h1 h2 h3 h4 h5 h6 h7) j

end Blocks

end Cert.ReferenceIdeal.Hand

end
-- ==== Proof.RefFinal.lean ====
/- The reference's final arrays. -/
module

public import proofs.«01_k».proof.Proof.RefOut

@[expose] public section

set_option maxRecDepth 65536

noncomputable section

namespace Cert.ReferenceIdeal.Hand

open Idealize.ShloMosaic Idealize.ShloMosaic.TcCoe Cert.ReferenceIdeal Cert.ReferenceIdeal.Gen Cert.LnBwd

variable (m : (ℓ : Loc nD τ sig) → Buf (Elt Ideal) ℓ) (ρ : Dev nD → PrngReg)

theorem eq_first (j : S1x8192.Idx) : j = ix2 0 (j 1) := by
  refine (eq_ix2 j).trans ?_
  congr 1
  exact Fin.fin_one_eq_zero _

theorem final8 (c : Dev nD) : (dats m 0 c).arrAt 8 cfg0.N = outRows (data m c).dh := by
  have hG : (dats m 0 c).after 8 t0_0 = (outRows (data m c).dh : Vec Ideal S2048x8192 .bf16) := by
    rw [after0_8]
    funext j
    exact out8_at (D := data m c) (blk0 m c t0_0) (blk1 m c t0_0) (blk2 m c t0_0) (blk4 m c t0_0) (blk5 m c t0_0) (blk6 m c t0_0) (blk7 m c t0_0) j
  refine (dats m 0 c).arrAt_eq_of_after_last 8 t0_0 (by decide +kernel) _ fun j => ?_
  rw [hG]
  rfl

theorem final9 (c : Dev nD) : (dats m 0 c).arrAt 9 cfg0.N = outRows (data m c).code := by
  have hG : (dats m 0 c).after 9 t0_0 = (outRows (data m c).code : Vec Ideal S2048x8192 .fp8e5m2) := by
    rw [after0_9]
    funext j
    exact out9_at (D := data m c) (blk0 m c t0_0) (blk1 m c t0_0) (blk2 m c t0_0) (blk3 m c t0_0) (blk4 m c t0_0) (blk5 m c t0_0) (blk6 m c t0_0) (blk7 m c t0_0) j
  refine (dats m 0 c).arrAt_eq_of_after_last 9 t0_0 (by decide +kernel) _ fun j => ?_
  rw [hG]
  rfl

theorem final10 (c : Dev nD) : (dats m 0 c).arrAt 10 cfg0.N = outRow (data m c).scale := by
  have hG : (dats m 0 c).after 10 t0_0 = (outRow (data m c).scale : Vec Ideal S16x128 .f32) := by
    rw [after0_10]
    funext j
    rw [eq_ix2 j]
    exact out10_at (D := data m c) (blk0 m c t0_0) (blk1 m c t0_0) (blk2 m c t0_0) (blk3 m c t0_0) (blk4 m c t0_0) (blk5 m c t0_0) (blk6 m c t0_0) (blk7 m c t0_0) (j 0) (j 1)
  refine (dats m 0 c).arrAt_eq_of_after_last 10 t0_0 (by decide +kernel) _ fun j => ?_
  rw [hG]
  rfl

theorem final11 (c : Dev nD) : (dats m 0 c).arrAt 11 cfg0.N = outSum (data m c).pr := by
  have hG : (dats m 0 c).after 11 t0_0 = (outSum (data m c).pr : Vec Ideal S1x8192 .f32) := by
    rw [after0_11]
    funext j
    rw [eq_first j]
    exact out11_at (D := data m c) (blk0 m c t0_0) (blk1 m c t0_0) (blk4 m c t0_0) (blk5 m c t0_0) (blk6 m c t0_0) (j 1)
  refine (dats m 0 c).arrAt_eq_of_after_last 11 t0_0 (by decide +kernel) _ fun j => ?_
  rw [hG]
  rfl

theorem final12 (c : Dev nD) : (dats m 0 c).arrAt 12 cfg0.N = outSum (data m c).dy := by
  have hG : (dats m 0 c).after 12 t0_0 = (outSum (data m c).dy : Vec Ideal S1x8192 .f32) := by
    rw [after0_12]
    funext j
    rw [eq_first j]
    exact out12_at (D := data m c) (blk0 m c t0_0) (blk1 m c t0_0) (j 1)
  refine (dats m 0 c).arrAt_eq_of_after_last 12 t0_0 (by decide +kernel) _ fun j => ?_
  rw [hG]
  rfl

theorem final13 (c : Dev nD) : (dats m 0 c).arrAt 13 cfg0.N = outSum (data m c).da := by
  have hG : (dats m 0 c).after 13 t0_0 = (outSum (data m c).da : Vec Ideal S1x8192 .f32) := by
    rw [after0_13]
    funext j
    rw [eq_first j]
    exact out13_at (D := data m c) (blk0 m c t0_0) (blk1 m c t0_0) (blk2 m c t0_0) (blk3 m c t0_0) (blk4 m c t0_0) (blk5 m c t0_0) (blk6 m c t0_0) (blk7 m c t0_0) (j 1)
  refine (dats m 0 c).arrAt_eq_of_after_last 13 t0_0 (by decide +kernel) _ fun j => ?_
  rw [hG]
  rfl

/-- The reference's run: its six results, and its arguments unchanged. -/
theorem run_values : θ_run defs (onTc (τ := τ) (main (F := Ideal))) ⟨m, fun _ => 0, ρ⟩ (fun r => ∀ c : Dev nD,
      r.2.mem ((c.tc : Thread nD τ).loc main_v17_0) = outRows (data m c).dh
      ∧ r.2.mem ((c.tc : Thread nD τ).loc main_v17_1) = outRows (data m c).code
      ∧ r.2.mem ((c.tc : Thread nD τ).loc main_v17_2) = outRow (data m c).scale
      ∧ r.2.mem ((c.tc : Thread nD τ).loc main_v17_3) = outSum (data m c).pr
      ∧ r.2.mem ((c.tc : Thread nD τ).loc main_v17_4) = outSum (data m c).dy
      ∧ r.2.mem ((c.tc : Thread nD τ).loc main_v17_5) = outSum (data m c).da
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (Cert.ReferenceIdeal.Value.run_blocks m ρ)
  have hc := h c
  rw [final8, final9, final10, final11, final12, final13] at hc
  exact hc

end Cert.ReferenceIdeal.Hand

end
-- ==== Proof.Agree.lean ====
/- The kernel and the reference agree on all six results, as extended reals. -/
module

public import proofs.«01_k».proof.Defs
public import proofs.«01_k».proof.Proof.Result
public import proofs.«01_k».proof.Proof.RefFinal

@[expose] public section

noncomputable section

namespace Cert.LnBwd

open Idealize.ShloMosaic Idealize.ShloMosaic.TcCoe Idealize.SL.Sem

theorem Data.of_congr {d d' : (⟨3, ![1, 2048, 8192]⟩ : Shape).Idx → EReal} {s s' : (⟨2, ![1, 2048]⟩ : Shape).Idx → EReal} {res res' : (⟨3, ![1, 2048, 8192]⟩ : Shape).Idx → EReal}
    {k k' : (⟨3, ![1, 2048, 1024]⟩ : Shape).Idx → BitVec 8} {h h' : (⟨3, ![1, 2048, 8192]⟩ : Shape).Idx → EReal} {m m' r r' : (⟨2, ![1, 2048]⟩ : Shape).Idx → EReal}
    {w w' : (⟨1, ![8192]⟩ : Shape).Idx → EReal} (e0 : d = d') (e1 : s = s') (e2 : res = res') (e3 : k = k') (e4 : h = h') (e5 : m = m') (e6 : r = r') (e7 : w = w') :
    Data.of d s res k h m r w = Data.of d' s' res' k' h' m' r' w' := by
  subst e0 e1 e2 e3 e4 e5 e6 e7; rfl

/-- Equal arguments are equal data. -/
theorem data_eq (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (c : Dev KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) : ReferenceIdeal.Hand.data m' c = KernelIdeal.Hand.data m c := by
  obtain ⟨e0, e1, e2, e3, e4, e5, e6, e7⟩ := h
  unfold ReferenceIdeal.Hand.data KernelIdeal.Hand.data
  exact Data.of_congr e0 e1 e2 e3 e4 e5 e6 e7

theorem agree : Cert.algebraic_KernelIdeal_ReferenceIdeal (hKernelIdeal := Cert.KernelIdeal.Gen.facts) (hReferenceIdeal := Cert.ReferenceIdeal.Gen.facts) := by
  intro m g m' g' _ h
  refine ⟨fun c => outRows (KernelIdeal.Hand.data m c).dh, fun c => outRows (KernelIdeal.Hand.data m c).code, fun c => outRow (KernelIdeal.Hand.data m c).scale,
    fun c => outSum (KernelIdeal.Hand.data m c).pr, fun c => outSum (KernelIdeal.Hand.data m c).dy, fun c => outSum (KernelIdeal.Hand.data m c).da,
    KernelIdeal.Hand.run_values m g, (θ_run _ _ _).mono (fun r hr c => ?_) (ReferenceIdeal.Hand.run_values m' g')⟩
  have hc := hr c
  rw [data_eq m m' c (h c)] at hc
  exact hc

end Cert.LnBwd

end
-- ==== Proof.lean ====
/- The claims put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Quiet
public import proofs.«01_k».proof.Proof.Bits.Quiet
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.quiescent m ρ, fun m ρ _ => Cert.KernelIdeal.Hand.quiescent m ρ, fun m ρ _ => Cert.ReferenceIdeal.Gen.frame m ρ, trivial,
  Cert.LnBwd.agree⟩

end Cert.Proof

end
